-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_KernelIdeal_ids_sorted_in_range [hPre_ids_sorted_in_range : Cert.Pre_ids_sorted_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_ids_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted_in_range [hPre_ids_sorted_in_range : Cert.Pre_ids_sorted_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_ids_sorted_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2 = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_ids_sorted_in_range [hKernelIdeal : Cert.KernelIdeal.Facts] [hPre_ids_sorted_in_range : Cert.Pre_ids_sorted_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_ids_sorted_in_range [hReferenceIdeal : Cert.ReferenceIdeal.Facts] [hPre_ids_sorted_in_range : Cert.Pre_ids_sorted_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_ids_sorted_in_range [hKernelIdeal : Cert.KernelIdeal.Facts] [hReferenceIdeal : Cert.ReferenceIdeal.Facts] [hPre_ids_sorted_in_range : Cert.Pre_ids_sorted_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_sorted_in_range : Cert.Pre_ids_sorted_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_sorted_in_range (hKernelIdeal := hKernelIdeal) (hPre_ids_sorted_in_range := hPre_ids_sorted_in_range)
    ∧ quiescent_ReferenceIdeal (hReferenceIdeal := hReferenceIdeal)
    ∧ quiescent_ReferenceIdeal_pre_ids_sorted_in_range (hReferenceIdeal := hReferenceIdeal) (hPre_ids_sorted_in_range := hPre_ids_sorted_in_range)
    ∧ preserves_Kernel_KernelIdeal
    ∧ algebraic_KernelIdeal_ReferenceIdeal_pre_ids_sorted_in_range (hKernelIdeal := hKernelIdeal) (hReferenceIdeal := hReferenceIdeal) (hPre_ids_sorted_in_range := hPre_ids_sorted_in_range)
-- ==== Pre_ids_in_range.lean ====
abbrev S1600000x32 : Shape := ⟨2, ![1600000, 32]⟩
abbrev S1600000x1 : Shape := ⟨2, ![1600000, 1]⟩
abbrev S32x32 : Shape := ⟨2, ![32, 32]⟩
abbrev S32 : Shape := ⟨1, ![32]⟩
abbrev S2x32 : Shape := ⟨2, ![2, 32]⟩
abbrev S2 : Shape := ⟨1, ![2]⟩
abbrev S4096x2 : Shape := ⟨2, ![4096, 2]⟩
abbrev S_ : Shape := ⟨0, ![]⟩

class Facts : Prop where
  bcast_S_S1600000x1 : S_.BroadcastsInDim S1600000x1 (![] : Fin 0 → Fin S1600000x1.rank)

variable [Facts]

def fn {F : FTy → Type} [FloatOps F] (main_arg0 : FVec F S1600000x32 .f32) (main_arg1 : IVec S1600000x1 32) (main_arg2 : FVec F S32x32 .f32) (main_arg3 : FVec F S32 .f32) (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S2x32 .f32) (main_arg13 : FVec F S2 .f32) (main_arg14 : FVec F S4096x2 .f32) : IVec S1600000x1 1 :=
  let main_c : IVec S_ 32 := constantI S_ 32 0#32
  let main_v0 : IVec S1600000x1 32 := broadcastInDim S1600000x1 ![] bcast_S_S1600000x1 main_c
  let main_v1 : IVec S1600000x1 1 := cmpi .sge main_arg1 main_v0
  let main_c_0 : IVec S_ 32 := constantI S_ 32 4096#32
  let main_v2 : IVec S1600000x1 32 := broadcastInDim S1600000x1 ![] bcast_S_S1600000x1 main_c_0
  let main_v3 : IVec S1600000x1 1 := cmpi .slt main_arg1 main_v2
  let main_v4 : IVec S1600000x1 1 := andi main_v1 main_v3
  main_v4
-- ==== Pre_ids_sorted_in_range.lean ====
abbrev S1600000x32 : Shape := ⟨2, ![1600000, 32]⟩
abbrev S1600000x1 : Shape := ⟨2, ![1600000, 1]⟩
abbrev S32x32 : Shape := ⟨2, ![32, 32]⟩
abbrev S32 : Shape := ⟨1, ![32]⟩
abbrev S2x32 : Shape := ⟨2, ![2, 32]⟩
abbrev S2 : Shape := ⟨1, ![2]⟩
abbrev S4096x2 : Shape := ⟨2, ![4096, 2]⟩
abbrev S_ : Shape := ⟨0, ![]⟩
abbrev S1599999x1 : Shape := ⟨2, ![1599999, 1]⟩

class Facts : Prop where
  bcast_S_S1600000x1 : S_.BroadcastsInDim S1600000x1 (![] : Fin 0 → Fin S1600000x1.rank)
  slices_S1600000x1_S1599999x1_1_0 : S1600000x1.Slices ![1, 0] S1599999x1
  slices_S1600000x1_S1599999x1_0_0 : S1600000x1.Slices ![0, 0] S1599999x1

variable [Facts]

def fn {F : FTy → Type} [FloatOps F] (main_arg0 : FVec F S1600000x32 .f32) (main_arg1 : IVec S1600000x1 32) (main_arg2 : FVec F S32x32 .f32) (main_arg3 : FVec F S32 .f32) (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S2x32 .f32) (main_arg13 : FVec F S2 .f32) (main_arg14 : FVec F S4096x2 .f32) : IVec S1600000x1 1 × IVec S1599999x1 1 :=
  let main_c : IVec S_ 32 := constantI S_ 32 0#32
  let main_v0 : IVec S1600000x1 32 := broadcastInDim S1600000x1 ![] bcast_S_S1600000x1 main_c
  let main_v1 : IVec S1600000x1 1 := cmpi .sge main_arg1 main_v0
  let main_c_0 : IVec S_ 32 := constantI S_ 32 4096#32
  let main_v2 : IVec S1600000x1 32 := broadcastInDim S1600000x1 ![] bcast_S_S1600000x1 main_c_0
  let main_v3 : IVec S1600000x1 1 := cmpi .slt main_arg1 main_v2
  let main_v4 : IVec S1600000x1 1 := andi main_v1 main_v3
  let main_v5 : IVec S1599999x1 32 := (extractStridedSlice S1599999x1 ![1, 0] · slices_S1600000x1_S1599999x1_1_0) main_arg1
  let main_v6 : IVec S1599999x1 32 := (extractStridedSlice S1599999x1 ![0, 0] · slices_S1600000x1_S1599999x1_0_0) main_arg1
  let main_v7 : IVec S1599999x1 1 := cmpi .sge main_v5 main_v6
  (main_v4, main_v7)
-- ==== Kernel.lean ====
abbrev S1600000x32 : Shape := ⟨2, ![1600000, 32]⟩
abbrev S1600000x1 : Shape := ⟨2, ![1600000, 1]⟩
abbrev S32x32 : Shape := ⟨2, ![32, 32]⟩
abbrev S32 : Shape := ⟨1, ![32]⟩
abbrev S2x32 : Shape := ⟨2, ![2, 32]⟩
abbrev S2 : Shape := ⟨1, ![2]⟩
abbrev S4096x2 : Shape := ⟨2, ![4096, 2]⟩
abbrev S1600000 : Shape := ⟨1, ![1600000]⟩
abbrev S200x1x8000 : Shape := ⟨3, ![200, 1, 8000]⟩
abbrev S200x8000 : Shape := ⟨2, ![200, 8000]⟩
abbrev S_ : Shape := ⟨0, ![]⟩
abbrev S32x64 : Shape := ⟨2, ![32, 64]⟩
abbrev S64 : Shape := ⟨1, ![64]⟩
abbrev S1x64 : Shape := ⟨2, ![1, 64]⟩
abbrev S200x1 : Shape := ⟨2, ![200, 1]⟩
abbrev S200 : Shape := ⟨1, ![200]⟩
abbrev S1x32 : Shape := ⟨2, ![1, 32]⟩
abbrev S32x2 : Shape := ⟨2, ![32, 2]⟩
abbrev S1x2 : Shape := ⟨2, ![1, 2]⟩
abbrev S4096x1 : Shape := ⟨2, ![4096, 1]⟩
abbrev S8000x32 : Shape := ⟨2, ![8000, 32]⟩
abbrev S1x1x8000 : Shape := ⟨3, ![1, 1, 8000]⟩
abbrev S4224x64 : Shape := ⟨2, ![4224, 64]⟩
abbrev S1x8000 : Shape := ⟨2, ![1, 8000]⟩
abbrev S1 : Shape := ⟨1, ![1]⟩
abbrev S8000x64 : Shape := ⟨2, ![8000, 64]⟩
abbrev S128x8000 : Shape := ⟨2, ![128, 8000]⟩
abbrev S128x64 : Shape := ⟨2, ![128, 64]⟩
abbrev S64x8000 : Shape := ⟨2, ![64, 8000]⟩
abbrev S64x64 : Shape := ⟨2, ![64, 64]⟩
abbrev S4096x64 : Shape := ⟨2, ![4096, 64]⟩
abbrev S4096x32 : Shape := ⟨2, ![4096, 32]⟩
abbrev S4096 : Shape := ⟨1, ![4096]⟩
abbrev S50000 : Shape := ⟨1, ![50000]⟩
abbrev S16 : Shape := ⟨1, ![16]⟩

abbrev nBuf : Table → Nat
  | .hbm => 46
  | .local .tc .vmem => 19
  | .local .tc .smem => 2
  | .local .scVector .vmem => 3
  | _ => 0

abbrev bufTy : (tb : Table) → Fin (nBuf tb) → BufTy
  | .hbm, ⟨0, _⟩ => ⟨S1600000x32, .f32⟩
  | .hbm, ⟨1, _⟩ => ⟨S1600000x1, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S2x32, .f32⟩
  | .hbm, ⟨13, _⟩ => ⟨S2, .f32⟩
  | .hbm, ⟨14, _⟩ => ⟨S4096x2, .f32⟩
  | .hbm, ⟨15, _⟩ => ⟨S1600000, .i32⟩
  | .hbm, ⟨16, _⟩ => ⟨S200x1x8000, .i32⟩
  | .hbm, ⟨17, _⟩ => ⟨S200x8000, .i32⟩
  | .hbm, ⟨18, _⟩ => ⟨S32x32, .f32⟩
  | .hbm, ⟨19, _⟩ => ⟨S_, .f32⟩
  | .hbm, ⟨20, _⟩ => ⟨S32x32, .f32⟩
  | .hbm, ⟨21, _⟩ => ⟨S32x64, .f32⟩
  | .hbm, ⟨22, _⟩ => ⟨S_, .f32⟩
  | .hbm, ⟨23, _⟩ => ⟨S32, .f32⟩
  | .hbm, ⟨24, _⟩ => ⟨S64, .f32⟩
  | .hbm, ⟨25, _⟩ => ⟨S1x64, .f32⟩
  | .hbm, ⟨26, _⟩ => ⟨S200x1, .i32⟩
  | .hbm, ⟨27, _⟩ => ⟨S200, .i32⟩
  | .hbm, ⟨28, _⟩ => ⟨S200x1, .i32⟩
  | .hbm, ⟨29, _⟩ => ⟨S200, .i32⟩
  | .hbm, ⟨30, _⟩ => ⟨S32x32, .f32⟩
  | .hbm, ⟨31, _⟩ => ⟨S32x32, .bf16⟩
  | .hbm, ⟨32, _⟩ => ⟨S1x32, .f32⟩
  | .hbm, ⟨33, _⟩ => ⟨S32x64, .bf16⟩
  | .hbm, ⟨34, _⟩ => ⟨S32x32, .f32⟩
  | .hbm, ⟨35, _⟩ => ⟨S1x32, .f32⟩
  | .hbm, ⟨36, _⟩ => ⟨S32x32, .f32⟩
  | .hbm, ⟨37, _⟩ => ⟨S1x32, .f32⟩
  | .hbm, ⟨38, _⟩ => ⟨S32x32, .f32⟩
  | .hbm, ⟨39, _⟩ => ⟨S1x32, .f32⟩
  | .hbm, ⟨40, _⟩ => ⟨S32x2, .f32⟩
  | .hbm, ⟨41, _⟩ => ⟨S1x2, .f32⟩
  | .hbm, ⟨42, _⟩ => ⟨S4096x1, .f32⟩
  | .hbm, ⟨43, _⟩ => ⟨S4096, .f32⟩
  | .hbm, ⟨44, _⟩ => ⟨S1600000, .f32⟩
  | .hbm, ⟨45, _⟩ => ⟨S1600000x1, .f32⟩
  | .local .tc .vmem, ⟨0, _⟩ => ⟨S8000x32, .f32⟩
  | .local .tc .vmem, ⟨1, _⟩ => ⟨S8000x32, .f32⟩
  | .local .tc .vmem, ⟨2, _⟩ => ⟨S1x1x8000, .i32⟩
  | .local .tc .vmem, ⟨3, _⟩ => ⟨S1x1x8000, .i32⟩
  | .local .tc .vmem, ⟨4, _⟩ => ⟨S32x32, .bf16⟩
  | .local .tc .vmem, ⟨5, _⟩ => ⟨S1x32, .f32⟩
  | .local .tc .vmem, ⟨6, _⟩ => ⟨S32x64, .bf16⟩
  | .local .tc .vmem, ⟨7, _⟩ => ⟨S1x64, .f32⟩
  | .local .tc .vmem, ⟨8, _⟩ => ⟨S32x32, .f32⟩
  | .local .tc .vmem, ⟨9, _⟩ => ⟨S1x32, .f32⟩
  | .local .tc .vmem, ⟨10, _⟩ => ⟨S32x32, .f32⟩
  | .local .tc .vmem, ⟨11, _⟩ => ⟨S1x32, .f32⟩
  | .local .tc .vmem, ⟨12, _⟩ => ⟨S32x32, .f32⟩
  | .local .tc .vmem, ⟨13, _⟩ => ⟨S1x32, .f32⟩
  | .local .tc .vmem, ⟨14, _⟩ => ⟨S32x2, .f32⟩
  | .local .tc .vmem, ⟨15, _⟩ => ⟨S1x2, .f32⟩
  | .local .tc .vmem, ⟨16, _⟩ => ⟨S4096x2, .f32⟩
  | .local .tc .vmem, ⟨17, _⟩ => ⟨S4096x1, .f32⟩
  | .local .tc .vmem, ⟨18, _⟩ => ⟨S4224x64, .f32⟩
  | .local .tc .smem, ⟨0, _⟩ => ⟨S200, .i32⟩
  | .local .tc .smem, ⟨1, _⟩ => ⟨S200, .i32⟩
  | .local .scVector .vmem, ⟨0, _⟩ => ⟨S4096, .f32⟩
  | .local .scVector .vmem, ⟨1, _⟩ => ⟨S50000, .i32⟩
  | .local .scVector .vmem, ⟨2, _⟩ => ⟨S50000, .f32⟩
  | _, _ => ⟨S1600000x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v26_scv : Ref sig .scVector := ⟨.hbm, 43, rfl⟩
abbrev main_v0_scv : Ref sig .scVector := ⟨.hbm, 15, rfl⟩
abbrev main_v27_scv : Ref sig .scVector := ⟨.hbm, 44, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_stg0_0 : Ref sig .tc := ⟨.smem, 0, rfl⟩
abbrev cc0_stg1_0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![200], ![false]⟩

def k0_off1 (i : grid0.Coords) : Fin 1 → Nat :=
  let arg0 : BitVec 32 := BitVec.ofNat 32 (i 0).val
  let v5 : Index := Scalar.indexCast arg0
  ![v5.toNat]
def k0_mult1 (v6 : BitVec 32) : BitVec 32 :=
  let c0_i32_3 : BitVec 32 := 0#32
  let v10 : BitVec 1 := Scalar.cmpi .sgt v6 c0_i32_3
  let v11 : BitVec 32 := Scalar.extui v10
  let c0_i32_4 : BitVec 32 := 0#32
  let v12 : BitVec 1 := Scalar.cmpi .slt v6 c0_i32_4
  let v13 : BitVec 32 := Scalar.extui v12
  let v14 : BitVec 32 := Scalar.subi v11 v13
  let c64_i32 : BitVec 32 := 64#32
  let c0_i32_5 : BitVec 32 := 0#32
  let v15 : BitVec 1 := Scalar.cmpi .sgt c64_i32 c0_i32_5
  let v16 : BitVec 32 := Scalar.extui v15
  let c0_i32_6 : BitVec 32 := 0#32
  let v17 : BitVec 1 := Scalar.cmpi .slt c64_i32 c0_i32_6
  let v18 : BitVec 32 := Scalar.extui v17
  let v19 : BitVec 32 := Scalar.subi v16 v18
  let v20 : BitVec 1 := Scalar.cmpi .ne v14 v19
  let v21 : BitVec 32 := Scalar.remsi v6 c64_i32
  let c0_i32_7 : BitVec 32 := 0#32
  let v22 : BitVec 1 := Scalar.cmpi .ne v21 c0_i32_7
  let v23 : BitVec 1 := Scalar.andi v20 v22
  let v9 : BitVec 32 := Scalar.divsi v6 c64_i32
  let c1_i32 : BitVec 32 := 1#32
  let v24 : BitVec 32 := Scalar.subi v9 c1_i32
  let v25 : BitVec 32 := Scalar.select v23 v24 v9
  let c64_i32_8 : BitVec 32 := 64#32
  let v26 : BitVec 32 := Scalar.muli v25 c64_i32_8
  v26

def k0_chk1 (v6 : BitVec 32) : Prop :=
  (64 ∣ (k0_mult1 v6).toNat)
theorem k0_mult1_dvd : ∀ (v6 : BitVec 32) (k0_hw1 : k0_chk1 v6), 64 ∣ (k0_mult1 v6).toNat := fun v6 k0_hw1 => k0_hw1

def k0_off2 (v6 : BitVec 32) : Fin 2 → Nat :=
  let c0_i32_3 : BitVec 32 := 0#32
  let v10 : BitVec 1 := Scalar.cmpi .sgt v6 c0_i32_3
  let v11 : BitVec 32 := Scalar.extui v10
  let c0_i32_4 : BitVec 32 := 0#32
  let v12 : BitVec 1 := Scalar.cmpi .slt v6 c0_i32_4
  let v13 : BitVec 32 := Scalar.extui v12
  let v14 : BitVec 32 := Scalar.subi v11 v13
  let c64_i32 : BitVec 32 := 64#32
  let c0_i32_5 : BitVec 32 := 0#32
  let v15 : BitVec 1 := Scalar.cmpi .sgt c64_i32 c0_i32_5
  let v16 : BitVec 32 := Scalar.extui v15
  let c0_i32_6 : BitVec 32 := 0#32
  let v17 : BitVec 1 := Scalar.cmpi .slt c64_i32 c0_i32_6
  let v18 : BitVec 32 := Scalar.extui v17
  let v19 : BitVec 32 := Scalar.subi v16 v18
  let v20 : BitVec 1 := Scalar.cmpi .ne v14 v19
  let v21 : BitVec 32 := Scalar.remsi v6 c64_i32
  let c0_i32_7 : BitVec 32 := 0#32
  let v22 : BitVec 1 := Scalar.cmpi .ne v21 c0_i32_7
  let v23 : BitVec 1 := Scalar.andi v20 v22
  let v9 : BitVec 32 := Scalar.divsi v6 c64_i32
  let c1_i32 : BitVec 32 := 1#32
  let v24 : BitVec 32 := Scalar.subi v9 c1_i32
  let v25 : BitVec 32 := Scalar.select v23 v24 v9
  let c64_i32_8 : BitVec 32 := 64#32
  let v26 : BitVec 32 := Scalar.muli v25 c64_i32_8
  let v27 : BitVec 32 := v26
  let v69 : Index := Scalar.indexCast v27
  let c0_26 : Index := 0#32
  ![v69.toNat, 0]
def k0_cond2 (v6 : BitVec 32) (v8 : BitVec 32) : BitVec 1 :=
  let c0_i32_3 : BitVec 32 := 0#32
  let v10 : BitVec 1 := Scalar.cmpi .sgt v6 c0_i32_3
  let v11 : BitVec 32 := Scalar.extui v10
  let c0_i32_4 : BitVec 32 := 0#32
  let v12 : BitVec 1 := Scalar.cmpi .slt v6 c0_i32_4
  let v13 : BitVec 32 := Scalar.extui v12
  let v14 : BitVec 32 := Scalar.subi v11 v13
  let c64_i32 : BitVec 32 := 64#32
  let c0_i32_5 : BitVec 32 := 0#32
  let v15 : BitVec 1 := Scalar.cmpi .sgt c64_i32 c0_i32_5
  let v16 : BitVec 32 := Scalar.extui v15
  let c0_i32_6 : BitVec 32 := 0#32
  let v17 : BitVec 1 := Scalar.cmpi .slt c64_i32 c0_i32_6
  let v18 : BitVec 32 := Scalar.extui v17
  let v19 : BitVec 32 := Scalar.subi v16 v18
  let v20 : BitVec 1 := Scalar.cmpi .ne v14 v19
  let v21 : BitVec 32 := Scalar.remsi v6 c64_i32
  let c0_i32_7 : BitVec 32 := 0#32
  let v22 : BitVec 1 := Scalar.cmpi .ne v21 c0_i32_7
  let v23 : BitVec 1 := Scalar.andi v20 v22
  let v9 : BitVec 32 := Scalar.divsi v6 c64_i32
  let c1_i32 : BitVec 32 := 1#32
  let v24 : BitVec 32 := Scalar.subi v9 c1_i32
  let v25 : BitVec 32 := Scalar.select v23 v24 v9
  let c64_i32_8 : BitVec 32 := 64#32
  let v26 : BitVec 32 := Scalar.muli v25 c64_i32_8
  let v27 : BitVec 32 := v26
  let c128_i32 : BitVec 32 := 128#32
  let v28 : BitVec 32 := Scalar.addi v27 c128_i32
  let v29 : BitVec 1 := Scalar.cmpi .slt v8 v28
  let v30 : BitVec 32 := Scalar.extui v29
  let c0_i32_9 : BitVec 32 := 0#32
  let v31 : BitVec 1 := Scalar.cmpi .ne v30 c0_i32_9
  v31

@[reducible] def k0_t1_loop (v6 : BitVec 32) (v8 : BitVec 32) : Scf.Loop 32 :=
  let c0_i32_3 : BitVec 32 := 0#32
  let v10 : BitVec 1 := Scalar.cmpi .sgt v6 c0_i32_3
  let v11 : BitVec 32 := Scalar.extui v10
  let c0_i32_4 : BitVec 32 := 0#32
  let v12 : BitVec 1 := Scalar.cmpi .slt v6 c0_i32_4
  let v13 : BitVec 32 := Scalar.extui v12
  let v14 : BitVec 32 := Scalar.subi v11 v13
  let c64_i32 : BitVec 32 := 64#32
  let c0_i32_5 : BitVec 32 := 0#32
  let v15 : BitVec 1 := Scalar.cmpi .sgt c64_i32 c0_i32_5
  let v16 : BitVec 32 := Scalar.extui v15
  let c0_i32_6 : BitVec 32 := 0#32
  let v17 : BitVec 1 := Scalar.cmpi .slt c64_i32 c0_i32_6
  let v18 : BitVec 32 := Scalar.extui v17
  let v19 : BitVec 32 := Scalar.subi v16 v18
  let v20 : BitVec 1 := Scalar.cmpi .ne v14 v19
  let v21 : BitVec 32 := Scalar.remsi v6 c64_i32
  let c0_i32_7 : BitVec 32 := 0#32
  let v22 : BitVec 1 := Scalar.cmpi .ne v21 c0_i32_7
  let v23 : BitVec 1 := Scalar.andi v20 v22
  let v9 : BitVec 32 := Scalar.divsi v6 c64_i32
  let c1_i32 : BitVec 32 := 1#32
  let v24 : BitVec 32 := Scalar.subi v9 c1_i32
  let v25 : BitVec 32 := Scalar.select v23 v24 v9
  let c0_i32_26 : BitVec 32 := 0#32
  let v62 : BitVec 1 := Scalar.cmpi .sgt v8 c0_i32_26
  let v63 : BitVec 32 := Scalar.extui v62
  let c0_i32_27 : BitVec 32 := 0#32
  let v64 : BitVec 1 := Scalar.cmpi .slt v8 c0_i32_27
  let v65 : BitVec 32 := Scalar.extui v64
  let v66 : BitVec 32 := Scalar.subi v63 v65
  let c64_i32_25 : BitVec 32 := 64#32
  let c0_i32_28 : BitVec 32 := 0#32
  let v67 : BitVec 1 := Scalar.cmpi .sgt c64_i32_25 c0_i32_28
  let v68 : BitVec 32 := Scalar.extui v67
  let c0_i32_29 : BitVec 32 := 0#32
  let v69 : BitVec 1 := Scalar.cmpi .slt c64_i32_25 c0_i32_29
  let v70 : BitVec 32 := Scalar.extui v69
  let v71 : BitVec 32 := Scalar.subi v68 v70
  let v72 : BitVec 1 := Scalar.cmpi .ne v66 v71
  let v73 : BitVec 32 := Scalar.remsi v8 c64_i32_25
  let c0_i32_30 : BitVec 32 := 0#32
  let v74 : BitVec 1 := Scalar.cmpi .ne v73 c0_i32_30
  let v75 : BitVec 1 := Scalar.andi v72 v74
  let v61 : BitVec 32 := Scalar.divsi v8 c64_i32_25
  let c1_i32_31 : BitVec 32 := 1#32
  let v76 : BitVec 32 := Scalar.subi v61 c1_i32_31
  let v77 : BitVec 32 := Scalar.select v75 v76 v61
  let c1_i32_32 : BitVec 32 := 1#32
  let v78 : BitVec 32 := Scalar.addi v77 c1_i32_32
  let v79 : BitVec 32 := Scalar.subi v78 v25
  let c1_i32_34 : BitVec 32 := 1#32
  let v81 : BitVec 32 := Scalar.divsi v79 c1_i32_34
  let v82 : BitVec 32 := Scalar.muli v81 c1_i32_34
  let v83 : BitVec 32 := Scalar.addi v25 v82
  let c1_i32_35 : BitVec 32 := 1#32
  ⟨v25, v83, c1_i32_35⟩
def k0_cond3 (v6 : BitVec 32) (v8 : BitVec 32) : BitVec 1 :=
  let c0_i32_3 : BitVec 32 := 0#32
  let v10 : BitVec 1 := Scalar.cmpi .sgt v6 c0_i32_3
  let v11 : BitVec 32 := Scalar.extui v10
  let c0_i32_4 : BitVec 32 := 0#32
  let v12 : BitVec 1 := Scalar.cmpi .slt v6 c0_i32_4
  let v13 : BitVec 32 := Scalar.extui v12
  let v14 : BitVec 32 := Scalar.subi v11 v13
  let c64_i32 : BitVec 32 := 64#32
  let c0_i32_5 : BitVec 32 := 0#32
  let v15 : BitVec 1 := Scalar.cmpi .sgt c64_i32 c0_i32_5
  let v16 : BitVec 32 := Scalar.extui v15
  let c0_i32_6 : BitVec 32 := 0#32
  let v17 : BitVec 1 := Scalar.cmpi .slt c64_i32 c0_i32_6
  let v18 : BitVec 32 := Scalar.extui v17
  let v19 : BitVec 32 := Scalar.subi v16 v18
  let v20 : BitVec 1 := Scalar.cmpi .ne v14 v19
  let v21 : BitVec 32 := Scalar.remsi v6 c64_i32
  let c0_i32_7 : BitVec 32 := 0#32
  let v22 : BitVec 1 := Scalar.cmpi .ne v21 c0_i32_7
  let v23 : BitVec 1 := Scalar.andi v20 v22
  let v9 : BitVec 32 := Scalar.divsi v6 c64_i32
  let c1_i32 : BitVec 32 := 1#32
  let v24 : BitVec 32 := Scalar.subi v9 c1_i32
  let v25 : BitVec 32 := Scalar.select v23 v24 v9
  let c64_i32_8 : BitVec 32 := 64#32
  let v26 : BitVec 32 := Scalar.muli v25 c64_i32_8
  let v27 : BitVec 32 := v26
  let c128_i32 : BitVec 32 := 128#32
  let v28 : BitVec 32 := Scalar.addi v27 c128_i32
  let v29 : BitVec 1 := Scalar.cmpi .slt v8 v28
  let v_true : BitVec 1 := 1#1
  let v32 : BitVec 1 := Scalar.xori v29 v_true
  let v33 : BitVec 32 := Scalar.extui v32
  let c0_i32_10 : BitVec 32 := 0#32
  let v34 : BitVec 1 := Scalar.cmpi .ne v33 c0_i32_10
  v34

def k0_mult2 (v6 : BitVec 32) (v8 : BitVec 32) (k0_t1 : Fin (k0_t1_loop v6 v8).trips) : BitVec 32 :=
  let c0_i32_3 : BitVec 32 := 0#32
  let v10 : BitVec 1 := Scalar.cmpi .sgt v6 c0_i32_3
  let v11 : BitVec 32 := Scalar.extui v10
  let c0_i32_4 : BitVec 32 := 0#32
  let v12 : BitVec 1 := Scalar.cmpi .slt v6 c0_i32_4
  let v13 : BitVec 32 := Scalar.extui v12
  let v14 : BitVec 32 := Scalar.subi v11 v13
  let c64_i32 : BitVec 32 := 64#32
  let c0_i32_5 : BitVec 32 := 0#32
  let v15 : BitVec 1 := Scalar.cmpi .sgt c64_i32 c0_i32_5
  let v16 : BitVec 32 := Scalar.extui v15
  let c0_i32_6 : BitVec 32 := 0#32
  let v17 : BitVec 1 := Scalar.cmpi .slt c64_i32 c0_i32_6
  let v18 : BitVec 32 := Scalar.extui v17
  let v19 : BitVec 32 := Scalar.subi v16 v18
  let v20 : BitVec 1 := Scalar.cmpi .ne v14 v19
  let v21 : BitVec 32 := Scalar.remsi v6 c64_i32
  let c0_i32_7 : BitVec 32 := 0#32
  let v22 : BitVec 1 := Scalar.cmpi .ne v21 c0_i32_7
  let v23 : BitVec 1 := Scalar.andi v20 v22
  let v9 : BitVec 32 := Scalar.divsi v6 c64_i32
  let c1_i32 : BitVec 32 := 1#32
  let v24 : BitVec 32 := Scalar.subi v9 c1_i32
  let v25 : BitVec 32 := Scalar.select v23 v24 v9
  let c1_i32_35 : BitVec 32 := 1#32
  let arg20 : BitVec 32 := Scf.iv v25 c1_i32_35 k0_t1
  let c64_i32_37 : BitVec 32 := 64#32
  let v84 : BitVec 32 := Scalar.muli arg20 c64_i32_37
  v84
def k0_off3 (v6 : BitVec 32) (v8 : BitVec 32) (k0_t1 : Fin (k0_t1_loop v6 v8).trips) : Fin 2 → Nat :=
  let c0_i32_3 : BitVec 32 := 0#32
  let v10 : BitVec 1 := Scalar.cmpi .sgt v6 c0_i32_3
  let v11 : BitVec 32 := Scalar.extui v10
  let c0_i32_4 : BitVec 32 := 0#32
  let v12 : BitVec 1 := Scalar.cmpi .slt v6 c0_i32_4
  let v13 : BitVec 32 := Scalar.extui v12
  let v14 : BitVec 32 := Scalar.subi v11 v13
  let c64_i32 : BitVec 32 := 64#32
  let c0_i32_5 : BitVec 32 := 0#32
  let v15 : BitVec 1 := Scalar.cmpi .sgt c64_i32 c0_i32_5
  let v16 : BitVec 32 := Scalar.extui v15
  let c0_i32_6 : BitVec 32 := 0#32
  let v17 : BitVec 1 := Scalar.cmpi .slt c64_i32 c0_i32_6
  let v18 : BitVec 32 := Scalar.extui v17
  let v19 : BitVec 32 := Scalar.subi v16 v18
  let v20 : BitVec 1 := Scalar.cmpi .ne v14 v19
  let v21 : BitVec 32 := Scalar.remsi v6 c64_i32
  let c0_i32_7 : BitVec 32 := 0#32
  let v22 : BitVec 1 := Scalar.cmpi .ne v21 c0_i32_7
  let v23 : BitVec 1 := Scalar.andi v20 v22
  let v9 : BitVec 32 := Scalar.divsi v6 c64_i32
  let c1_i32 : BitVec 32 := 1#32
  let v24 : BitVec 32 := Scalar.subi v9 c1_i32
  let v25 : BitVec 32 := Scalar.select v23 v24 v9
  let c1_i32_35 : BitVec 32 := 1#32
  let arg20 : BitVec 32 := Scf.iv v25 c1_i32_35 k0_t1
  let c64_i32_37 : BitVec 32 := 64#32
  let v84 : BitVec 32 := Scalar.muli arg20 c64_i32_37
  let v85 : BitVec 32 := v84
  let v94 : Index := Scalar.indexCast v85
  let c0_39 : Index := 0#32
  ![v94.toNat, 0]
@[reducible] def k0_t2_loop (v6 : BitVec 32) (v8 : BitVec 32) : Scf.Loop 32 :=
  let c0_i32_3 : BitVec 32 := 0#32
  let v10 : BitVec 1 := Scalar.cmpi .sgt v6 c0_i32_3
  let v11 : BitVec 32 := Scalar.extui v10
  let c0_i32_4 : BitVec 32 := 0#32
  let v12 : BitVec 1 := Scalar.cmpi .slt v6 c0_i32_4
  let v13 : BitVec 32 := Scalar.extui v12
  let v14 : BitVec 32 := Scalar.subi v11 v13
  let c64_i32 : BitVec 32 := 64#32
  let c0_i32_5 : BitVec 32 := 0#32
  let v15 : BitVec 1 := Scalar.cmpi .sgt c64_i32 c0_i32_5
  let v16 : BitVec 32 := Scalar.extui v15
  let c0_i32_6 : BitVec 32 := 0#32
  let v17 : BitVec 1 := Scalar.cmpi .slt c64_i32 c0_i32_6
  let v18 : BitVec 32 := Scalar.extui v17
  let v19 : BitVec 32 := Scalar.subi v16 v18
  let v20 : BitVec 1 := Scalar.cmpi .ne v14 v19
  let v21 : BitVec 32 := Scalar.remsi v6 c64_i32
  let c0_i32_7 : BitVec 32 := 0#32
  let v22 : BitVec 1 := Scalar.cmpi .ne v21 c0_i32_7
  let v23 : BitVec 1 := Scalar.andi v20 v22
  let v9 : BitVec 32 := Scalar.divsi v6 c64_i32
  let c1_i32 : BitVec 32 := 1#32
  let v24 : BitVec 32 := Scalar.subi v9 c1_i32
  let v25 : BitVec 32 := Scalar.select v23 v24 v9
  let c0_i32_26 : BitVec 32 := 0#32
  let v62 : BitVec 1 := Scalar.cmpi .sgt v8 c0_i32_26
  let v63 : BitVec 32 := Scalar.extui v62
  let c0_i32_27 : BitVec 32 := 0#32
  let v64 : BitVec 1 := Scalar.cmpi .slt v8 c0_i32_27
  let v65 : BitVec 32 := Scalar.extui v64
  let v66 : BitVec 32 := Scalar.subi v63 v65
  let c64_i32_25 : BitVec 32 := 64#32
  let c0_i32_28 : BitVec 32 := 0#32
  let v67 : BitVec 1 := Scalar.cmpi .sgt c64_i32_25 c0_i32_28
  let v68 : BitVec 32 := Scalar.extui v67
  let c0_i32_29 : BitVec 32 := 0#32
  let v69 : BitVec 1 := Scalar.cmpi .slt c64_i32_25 c0_i32_29
  let v70 : BitVec 32 := Scalar.extui v69
  let v71 : BitVec 32 := Scalar.subi v68 v70
  let v72 : BitVec 1 := Scalar.cmpi .ne v66 v71
  let v73 : BitVec 32 := Scalar.remsi v8 c64_i32_25
  let c0_i32_30 : BitVec 32 := 0#32
  let v74 : BitVec 1 := Scalar.cmpi .ne v73 c0_i32_30
  let v75 : BitVec 1 := Scalar.andi v72 v74
  let v61 : BitVec 32 := Scalar.divsi v8 c64_i32_25
  let c1_i32_31 : BitVec 32 := 1#32
  let v76 : BitVec 32 := Scalar.subi v61 c1_i32_31
  let v77 : BitVec 32 := Scalar.select v75 v76 v61
  let c1_i32_32 : BitVec 32 := 1#32
  let v78 : BitVec 32 := Scalar.addi v77 c1_i32_32
  let v79 : BitVec 32 := Scalar.subi v78 v25
  let c1_i32_34 : BitVec 32 := 1#32
  let v81 : BitVec 32 := Scalar.divsi v79 c1_i32_34
  let v82 : BitVec 32 := Scalar.muli v81 c1_i32_34
  let v83 : BitVec 32 := Scalar.addi v25 v82
  let v80 : BitVec 32 := Scalar.addi v25 v79
  let c1_i32_36 : BitVec 32 := 1#32
  ⟨v83, v80, c1_i32_36⟩
def k0_mult3 (v6 : BitVec 32) (v8 : BitVec 32) (k0_t2 : Fin (k0_t2_loop v6 v8).trips) : BitVec 32 :=
  let c0_i32_3 : BitVec 32 := 0#32
  let v10 : BitVec 1 := Scalar.cmpi .sgt v6 c0_i32_3
  let v11 : BitVec 32 := Scalar.extui v10
  let c0_i32_4 : BitVec 32 := 0#32
  let v12 : BitVec 1 := Scalar.cmpi .slt v6 c0_i32_4
  let v13 : BitVec 32 := Scalar.extui v12
  let v14 : BitVec 32 := Scalar.subi v11 v13
  let c64_i32 : BitVec 32 := 64#32
  let c0_i32_5 : BitVec 32 := 0#32
  let v15 : BitVec 1 := Scalar.cmpi .sgt c64_i32 c0_i32_5
  let v16 : BitVec 32 := Scalar.extui v15
  let c0_i32_6 : BitVec 32 := 0#32
  let v17 : BitVec 1 := Scalar.cmpi .slt c64_i32 c0_i32_6
  let v18 : BitVec 32 := Scalar.extui v17
  let v19 : BitVec 32 := Scalar.subi v16 v18
  let v20 : BitVec 1 := Scalar.cmpi .ne v14 v19
  let v21 : BitVec 32 := Scalar.remsi v6 c64_i32
  let c0_i32_7 : BitVec 32 := 0#32
  let v22 : BitVec 1 := Scalar.cmpi .ne v21 c0_i32_7
  let v23 : BitVec 1 := Scalar.andi v20 v22
  let v9 : BitVec 32 := Scalar.divsi v6 c64_i32
  let c1_i32 : BitVec 32 := 1#32
  let v24 : BitVec 32 := Scalar.subi v9 c1_i32
  let v25 : BitVec 32 := Scalar.select v23 v24 v9
  let c0_i32_26 : BitVec 32 := 0#32
  let v62 : BitVec 1 := Scalar.cmpi .sgt v8 c0_i32_26
  let v63 : BitVec 32 := Scalar.extui v62
  let c0_i32_27 : BitVec 32 := 0#32
  let v64 : BitVec 1 := Scalar.cmpi .slt v8 c0_i32_27
  let v65 : BitVec 32 := Scalar.extui v64
  let v66 : BitVec 32 := Scalar.subi v63 v65
  let c64_i32_25 : BitVec 32 := 64#32
  let c0_i32_28 : BitVec 32 := 0#32
  let v67 : BitVec 1 := Scalar.cmpi .sgt c64_i32_25 c0_i32_28
  let v68 : BitVec 32 := Scalar.extui v67
  let c0_i32_29 : BitVec 32 := 0#32
  let v69 : BitVec 1 := Scalar.cmpi .slt c64_i32_25 c0_i32_29
  let v70 : BitVec 32 := Scalar.extui v69
  let v71 : BitVec 32 := Scalar.subi v68 v70
  let v72 : BitVec 1 := Scalar.cmpi .ne v66 v71
  let v73 : BitVec 32 := Scalar.remsi v8 c64_i32_25
  let c0_i32_30 : BitVec 32 := 0#32
  let v74 : BitVec 1 := Scalar.cmpi .ne v73 c0_i32_30
  let v75 : BitVec 1 := Scalar.andi v72 v74
  let v61 : BitVec 32 := Scalar.divsi v8 c64_i32_25
  let c1_i32_31 : BitVec 32 := 1#32
  let v76 : BitVec 32 := Scalar.subi v61 c1_i32_31
  let v77 : BitVec 32 := Scalar.select v75 v76 v61
  let c1_i32_32 : BitVec 32 := 1#32
  let v78 : BitVec 32 := Scalar.addi v77 c1_i32_32
  let v79 : BitVec 32 := Scalar.subi v78 v25
  let c1_i32_34 : BitVec 32 := 1#32
  let v81 : BitVec 32 := Scalar.divsi v79 c1_i32_34
  let v82 : BitVec 32 := Scalar.muli v81 c1_i32_34
  let v83 : BitVec 32 := Scalar.addi v25 v82
  let c1_i32_36 : BitVec 32 := 1#32
  let arg20 : BitVec 32 := Scf.iv v83 c1_i32_36 k0_t2
  let c64_i32_37 : BitVec 32 := 64#32
  let v84 : BitVec 32 := Scalar.muli arg20 c64_i32_37
  v84
def k0_off4 (v6 : BitVec 32) (v8 : BitVec 32) (k0_t2 : Fin (k0_t2_loop v6 v8).trips) : Fin 2 → Nat :=
  let c0_i32_3 : BitVec 32 := 0#32
  let v10 : BitVec 1 := Scalar.cmpi .sgt v6 c0_i32_3
  let v11 : BitVec 32 := Scalar.extui v10
  let c0_i32_4 : BitVec 32 := 0#32
  let v12 : BitVec 1 := Scalar.cmpi .slt v6 c0_i32_4
  let v13 : BitVec 32 := Scalar.extui v12
  let v14 : BitVec 32 := Scalar.subi v11 v13
  let c64_i32 : BitVec 32 := 64#32
  let c0_i32_5 : BitVec 32 := 0#32
  let v15 : BitVec 1 := Scalar.cmpi .sgt c64_i32 c0_i32_5
  let v16 : BitVec 32 := Scalar.extui v15
  let c0_i32_6 : BitVec 32 := 0#32
  let v17 : BitVec 1 := Scalar.cmpi .slt c64_i32 c0_i32_6
  let v18 : BitVec 32 := Scalar.extui v17
  let v19 : BitVec 32 := Scalar.subi v16 v18
  let v20 : BitVec 1 := Scalar.cmpi .ne v14 v19
  let v21 : BitVec 32 := Scalar.remsi v6 c64_i32
  let c0_i32_7 : BitVec 32 := 0#32
  let v22 : BitVec 1 := Scalar.cmpi .ne v21 c0_i32_7
  let v23 : BitVec 1 := Scalar.andi v20 v22
  let v9 : BitVec 32 := Scalar.divsi v6 c64_i32
  let c1_i32 : BitVec 32 := 1#32
  let v24 : BitVec 32 := Scalar.subi v9 c1_i32
  let v25 : BitVec 32 := Scalar.select v23 v24 v9
  let c0_i32_26 : BitVec 32 := 0#32
  let v62 : BitVec 1 := Scalar.cmpi .sgt v8 c0_i32_26
  let v63 : BitVec 32 := Scalar.extui v62
  let c0_i32_27 : BitVec 32 := 0#32
  let v64 : BitVec 1 := Scalar.cmpi .slt v8 c0_i32_27
  let v65 : BitVec 32 := Scalar.extui v64
  let v66 : BitVec 32 := Scalar.subi v63 v65
  let c64_i32_25 : BitVec 32 := 64#32
  let c0_i32_28 : BitVec 32 := 0#32
  let v67 : BitVec 1 := Scalar.cmpi .sgt c64_i32_25 c0_i32_28
  let v68 : BitVec 32 := Scalar.extui v67
  let c0_i32_29 : BitVec 32 := 0#32
  let v69 : BitVec 1 := Scalar.cmpi .slt c64_i32_25 c0_i32_29
  let v70 : BitVec 32 := Scalar.extui v69
  let v71 : BitVec 32 := Scalar.subi v68 v70
  let v72 : BitVec 1 := Scalar.cmpi .ne v66 v71
  let v73 : BitVec 32 := Scalar.remsi v8 c64_i32_25
  let c0_i32_30 : BitVec 32 := 0#32
  let v74 : BitVec 1 := Scalar.cmpi .ne v73 c0_i32_30
  let v75 : BitVec 1 := Scalar.andi v72 v74
  let v61 : BitVec 32 := Scalar.divsi v8 c64_i32_25
  let c1_i32_31 : BitVec 32 := 1#32
  let v76 : BitVec 32 := Scalar.subi v61 c1_i32_31
  let v77 : BitVec 32 := Scalar.select v75 v76 v61
  let c1_i32_32 : BitVec 32 := 1#32
  let v78 : BitVec 32 := Scalar.addi v77 c1_i32_32
  let v79 : BitVec 32 := Scalar.subi v78 v25
  let c1_i32_34 : BitVec 32 := 1#32
  let v81 : BitVec 32 := Scalar.divsi v79 c1_i32_34
  let v82 : BitVec 32 := Scalar.muli v81 c1_i32_34
  let v83 : BitVec 32 := Scalar.addi v25 v82
  let c1_i32_36 : BitVec 32 := 1#32
  let arg20 : BitVec 32 := Scf.iv v83 c1_i32_36 k0_t2
  let c64_i32_37 : BitVec 32 := 64#32
  let v84 : BitVec 32 := Scalar.muli arg20 c64_i32_37
  let v85 : BitVec 32 := v84
  let v94 : Index := Scalar.indexCast v85
  let c0_39 : Index := 0#32
  ![v94.toNat, 0]

def k0_chk2 (v6 : BitVec 32) (v8 : BitVec 32) : Prop :=
  (∀ (k0_h2 : k0_cond2 v6 v8 = 1#1), ∀ a, (k0_off2 v6) a + S128x64.size a ≤ S4224x64.size a) ∧
  (∀ (k0_h3 : k0_cond3 v6 v8 = 1#1), (k0_t1_loop v6 v8).OK) ∧
  (∀ k0_t1 : Fin (k0_t1_loop v6 v8).trips, ∀ (k0_h3 : k0_cond3 v6 v8 = 1#1), 64 ∣ (k0_mult2 v6 v8 k0_t1).toNat) ∧
  (∀ k0_t1 : Fin (k0_t1_loop v6 v8).trips, ∀ (k0_h3 : k0_cond3 v6 v8 = 1#1), ∀ a, (k0_off3 v6 v8 k0_t1) a + S64x64.size a ≤ S4224x64.size a) ∧
  (∀ (k0_h3 : k0_cond3 v6 v8 = 1#1), (k0_t2_loop v6 v8).OK) ∧
  (∀ k0_t2 : Fin (k0_t2_loop v6 v8).trips, ∀ (k0_h3 : k0_cond3 v6 v8 = 1#1), 64 ∣ (k0_mult3 v6 v8 k0_t2).toNat) ∧
  (∀ k0_t2 : Fin (k0_t2_loop v6 v8).trips, ∀ (k0_h3 : k0_cond3 v6 v8 = 1#1), ∀ a, (k0_off4 v6 v8 k0_t2) a + S64x64.size a ≤ S4224x64.size a)
theorem k0_off2_inb : ∀ (v6 : BitVec 32) (v8 : BitVec 32) (k0_hw2 : k0_chk2 v6 v8), ∀ (k0_h2 : k0_cond2 v6 v8 = 1#1), ∀ a, (k0_off2 v6) a + S128x64.size a ≤ S4224x64.size a := fun v6 v8 k0_hw2 k0_h2 => k0_hw2.1 k0_h2
theorem k0_t1_ok : ∀ (v6 : BitVec 32) (v8 : BitVec 32) (k0_hw2 : k0_chk2 v6 v8), ∀ (k0_h3 : k0_cond3 v6 v8 = 1#1), (k0_t1_loop v6 v8).OK := fun v6 v8 k0_hw2 k0_h3 => k0_hw2.2.1 k0_h3
theorem k0_mult2_dvd : ∀ (v6 : BitVec 32) (v8 : BitVec 32) (k0_hw2 : k0_chk2 v6 v8) (k0_t1 : Fin (k0_t1_loop v6 v8).trips), ∀ (k0_h3 : k0_cond3 v6 v8 = 1#1), 64 ∣ (k0_mult2 v6 v8 k0_t1).toNat := fun v6 v8 k0_hw2 k0_t1 k0_h3 => k0_hw2.2.2.1 k0_t1 k0_h3
theorem k0_off3_inb : ∀ (v6 : BitVec 32) (v8 : BitVec 32) (k0_hw2 : k0_chk2 v6 v8) (k0_t1 : Fin (k0_t1_loop v6 v8).trips), ∀ (k0_h3 : k0_cond3 v6 v8 = 1#1), ∀ a, (k0_off3 v6 v8 k0_t1) a + S64x64.size a ≤ S4224x64.size a := fun v6 v8 k0_hw2 k0_t1 k0_h3 => k0_hw2.2.2.2.1 k0_t1 k0_h3
theorem k0_t2_ok : ∀ (v6 : BitVec 32) (v8 : BitVec 32) (k0_hw2 : k0_chk2 v6 v8), ∀ (k0_h3 : k0_cond3 v6 v8 = 1#1), (k0_t2_loop v6 v8).OK := fun v6 v8 k0_hw2 k0_h3 => k0_hw2.2.2.2.2.1 k0_h3
theorem k0_mult3_dvd : ∀ (v6 : BitVec 32) (v8 : BitVec 32) (k0_hw2 : k0_chk2 v6 v8) (k0_t2 : Fin (k0_t2_loop v6 v8).trips), ∀ (k0_h3 : k0_cond3 v6 v8 = 1#1), 64 ∣ (k0_mult3 v6 v8 k0_t2).toNat := fun v6 v8 k0_hw2 k0_t2 k0_h3 => k0_hw2.2.2.2.2.2.1 k0_t2 k0_h3
theorem k0_off4_inb : ∀ (v6 : BitVec 32) (v8 : BitVec 32) (k0_hw2 : k0_chk2 v6 v8) (k0_t2 : Fin (k0_t2_loop v6 v8).trips), ∀ (k0_h3 : k0_cond3 v6 v8 = 1#1), ∀ a, (k0_off4 v6 v8 k0_t2) a + S64x64.size a ≤ S4224x64.size a := fun v6 v8 k0_hw2 k0_t2 k0_h3 => k0_hw2.2.2.2.2.2.2 k0_t2 k0_h3

def k0_cond4 (i : grid0.Coords) : BitVec 1 :=
  let arg0 : BitVec 32 := BitVec.ofNat 32 (i 0).val
  let c199_i32 : BitVec 32 := 199#32
  let v35 : BitVec 1 := Scalar.cmpi .eq arg0 c199_i32
  let v36 : BitVec 32 := Scalar.extui v35
  let c0_i32_11 : BitVec 32 := 0#32
  let v37 : BitVec 1 := Scalar.cmpi .ne v36 c0_i32_11
  v37

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S200 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S200 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4096x2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4096x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  ![v2.toNat]
@[reducible] def k1_t1_loop : Scf.Loop 32 :=
  let c0_i32_0 : BitVec 32 := 0#32
  let c3125_i32 : BitVec 32 := 3125#32
  let v3 : BitVec 32 := Scalar.addi c0_i32_0 c3125_i32
  let c1_i32 : BitVec 32 := 1#32
  ⟨c0_i32_0, v3, c1_i32⟩
def k1_off2 (k1_t1 : Fin k1_t1_loop.trips) : Fin 1 → Nat :=
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v5 : Index := Scalar.indexCast v4
  ![v5.toNat]

def k1_chk1 (v6 : IVec S16 32) : Prop :=
  (∀ a x, ((![v6] : Fin 1 → IVec S16 32) a x).toNat < S4096.size a)
theorem k1_idx1_inb : ∀ (v6 : IVec S16 32) (k1_hw1 : k1_chk1 v6), ∀ a x, ((![v6] : Fin 1 → IVec S16 32) a x).toNat < S4096.size a := fun v6 k1_hw1 => k1_hw1
def k1_off3 (k1_t1 : Fin k1_t1_loop.trips) : Fin 1 → Nat :=
  let c0_i32_0 : BitVec 32 := 0#32
  let c1_i32 : BitVec 32 := 1#32
  let arg8 : BitVec 32 := Scf.iv c0_i32_0 c1_i32 k1_t1
  let c16_i32_2 : BitVec 32 := 16#32
  let v8 : BitVec 32 := Scalar.muli arg8 c16_i32_2
  let v9 : Index := Scalar.indexCast v8
  ![v9.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1600000x32 : Shape := ⟨2, ![1600000, 32]⟩
abbrev S1600000x1 : Shape := ⟨2, ![1600000, 1]⟩
abbrev S32x32 : Shape := ⟨2, ![32, 32]⟩
abbrev S32 : Shape := ⟨1, ![32]⟩
abbrev S2x32 : Shape := ⟨2, ![2, 32]⟩
abbrev S2 : Shape := ⟨1, ![2]⟩
abbrev S4096x2 : Shape := ⟨2, ![4096, 2]⟩
abbrev S1x32 : Shape := ⟨2, ![1, 32]⟩
abbrev S_ : Shape := ⟨0, ![]⟩
abbrev S1600000 : Shape := ⟨1, ![1600000]⟩
abbrev S4096x32 : Shape := ⟨2, ![4096, 32]⟩
abbrev S4096x1 : Shape := ⟨2, ![4096, 1]⟩
abbrev S32x2 : Shape := ⟨2, ![32, 2]⟩
abbrev S1x2 : Shape := ⟨2, ![1, 2]⟩
abbrev S4096 : Shape := ⟨1, ![4096]⟩

abbrev nBuf : Space → Nat
  | .hbm => 128
  | .vmem => 0
  | .smem => 0
  | _ => 0

abbrev bufTy : (tb : Table) → Fin (tcTables nBuf tb) → BufTy
  | .hbm, ⟨0, _⟩ => ⟨S1600000x32, .f32⟩
  | .hbm, ⟨1, _⟩ => ⟨S1600000x1, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S2x32, .f32⟩
  | .hbm, ⟨13, _⟩ => ⟨S2, .f32⟩
  | .hbm, ⟨14, _⟩ => ⟨S4096x2, .f32⟩
  | .hbm, ⟨15, _⟩ => ⟨S32x32, .f32⟩
  | .hbm, ⟨16, _⟩ => ⟨S1600000x32, .f32⟩
  | .hbm, ⟨17, _⟩ => ⟨S1x32, .f32⟩
  | .hbm, ⟨18, _⟩ => ⟨S1600000x32, .f32⟩
  | .hbm, ⟨19, _⟩ => ⟨S1600000x32, .f32⟩
  | .hbm, ⟨20, _⟩ => ⟨S_, .f32⟩
  | .hbm, ⟨21, _⟩ => ⟨S1600000x32, .f32⟩
  | .hbm, ⟨22, _⟩ => ⟨S1600000x32, .f32⟩
  | .hbm, ⟨23, _⟩ => ⟨S32x32, .f32⟩
  | .hbm, ⟨24, _⟩ => ⟨S1600000x32, .f32⟩
  | .hbm, ⟨25, _⟩ => ⟨S1x32, .f32⟩
  | .hbm, ⟨26, _⟩ => ⟨S1600000x32, .f32⟩
  | .hbm, ⟨27, _⟩ => ⟨S1600000x32, .f32⟩
  | .hbm, ⟨28, _⟩ => ⟨S_, .f32⟩
  | .hbm, ⟨29, _⟩ => ⟨S1600000x32, .f32⟩
  | .hbm, ⟨30, _⟩ => ⟨S1600000x32, .f32⟩
  | .hbm, ⟨31, _⟩ => ⟨S1600000, .i32⟩
  | .hbm, ⟨32, _⟩ => ⟨S_, .f32⟩
  | .hbm, ⟨33, _⟩ => ⟨S4096x32, .f32⟩
  | .hbm, ⟨34, _⟩ => ⟨S1600000x1, .i32⟩
  | .hbm, ⟨35, _⟩ => ⟨S4096x32, .f32⟩
  | .hbm, ⟨36, _⟩ => ⟨S_, .f32⟩
  | .hbm, ⟨37, _⟩ => ⟨S1600000x1, .f32⟩
  | .hbm, ⟨38, _⟩ => ⟨S_, .f32⟩
  | .hbm, ⟨39, _⟩ => ⟨S4096x1, .f32⟩
  | .hbm, ⟨40, _⟩ => ⟨S1600000x1, .i32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x32, .f32⟩
  | .hbm, ⟨46, _⟩ => ⟨S4096x32, .f32⟩
  | .hbm, ⟨47, _⟩ => ⟨S32x32, .f32⟩
  | .hbm, ⟨48, _⟩ => ⟨S4096x32, .f32⟩
  | .hbm, ⟨49, _⟩ => ⟨S1x32, .f32⟩
  | .hbm, ⟨50, _⟩ => ⟨S4096x32, .f32⟩
  | .hbm, ⟨51, _⟩ => ⟨S4096x32, .f32⟩
  | .hbm, ⟨52, _⟩ => ⟨S_, .f32⟩
  | .hbm, ⟨53, _⟩ => ⟨S4096x32, .f32⟩
  | .hbm, ⟨54, _⟩ => ⟨S4096x32, .f32⟩
  | .hbm, ⟨55, _⟩ => ⟨S32x32, .f32⟩
  | .hbm, ⟨56, _⟩ => ⟨S4096x32, .f32⟩
  | .hbm, ⟨57, _⟩ => ⟨S1x32, .f32⟩
  | .hbm, ⟨58, _⟩ => ⟨S4096x32, .f32⟩
  | .hbm, ⟨59, _⟩ => ⟨S4096x32, .f32⟩
  | .hbm, ⟨60, _⟩ => ⟨S_, .f32⟩
  | .hbm, ⟨61, _⟩ => ⟨S4096x32, .f32⟩
  | .hbm, ⟨62, _⟩ => ⟨S4096x32, .f32⟩
  | .hbm, ⟨63, _⟩ => ⟨S32x32, .f32⟩
  | .hbm, ⟨64, _⟩ => ⟨S4096x32, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S_, .f32⟩
  | .hbm, ⟨69, _⟩ => ⟨S4096x32, .f32⟩
  | .hbm, ⟨70, _⟩ => ⟨S4096x32, .f32⟩
  | .hbm, ⟨71, _⟩ => ⟨S32x2, .f32⟩
  | .hbm, ⟨72, _⟩ => ⟨S4096x2, .f32⟩
  | .hbm, ⟨73, _⟩ => ⟨S1x2, .f32⟩
  | .hbm, ⟨74, _⟩ => ⟨S4096x2, .f32⟩
  | .hbm, ⟨75, _⟩ => ⟨S4096x2, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S4096x2, .f32⟩
  | .hbm, ⟨80, _⟩ => ⟨S4096x2, .f32⟩
  | .hbm, ⟨81, _⟩ => ⟨S_, .f32⟩
  | .hbm, ⟨82, _⟩ => ⟨S4096x2, .f32⟩
  | .hbm, ⟨83, _⟩ => ⟨S4096x2, .f32⟩
  | .hbm, ⟨84, _⟩ => ⟨S4096x2, .f32⟩
  | .hbm, ⟨85, _⟩ => ⟨S4096x2, .f32⟩
  | .hbm, ⟨86, _⟩ => ⟨S4096x2, .f32⟩
  | .hbm, ⟨87, _⟩ => ⟨S4096x2, .f32⟩
  | .hbm, ⟨88, _⟩ => ⟨S4096x2, .f32⟩
  | .hbm, ⟨89, _⟩ => ⟨S_, .f32⟩
  | .hbm, ⟨90, _⟩ => ⟨S4096, .f32⟩
  | .hbm, ⟨91, _⟩ => ⟨S_, .f32⟩
  | .hbm, ⟨92, _⟩ => ⟨S4096, .f32⟩
  | .hbm, ⟨93, _⟩ => ⟨S4096, .f32⟩
  | .hbm, ⟨94, _⟩ => ⟨S4096x1, .f32⟩
  | .hbm, ⟨95, _⟩ => ⟨S4096x2, .f32⟩
  | .hbm, ⟨96, _⟩ => ⟨S4096x2, .f32⟩
  | .hbm, ⟨97, _⟩ => ⟨S4096x2, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S4096x2, .f32⟩
  | .hbm, ⟨102, _⟩ => ⟨S4096x2, .f32⟩
  | .hbm, ⟨103, _⟩ => ⟨S4096x2, .i32⟩
  | .hbm, ⟨104, _⟩ => ⟨S_, .f32⟩
  | .hbm, ⟨105, _⟩ => ⟨S_, .i32⟩
  | .hbm, ⟨106, _⟩ => ⟨S4096, .f32⟩
  | .hbm, ⟨107, _⟩ => ⟨S4096, .i32⟩
  | .hbm, ⟨108, _⟩ => ⟨S4096x1, .i32⟩
  | .hbm, ⟨109, _⟩ => ⟨S1x2, .i32⟩
  | .hbm, ⟨110, _⟩ => ⟨S4096x2, .i32⟩
  | .hbm, ⟨111, _⟩ => ⟨S4096x2, .i32⟩
  | .hbm, ⟨112, _⟩ => ⟨S4096x2, .i1⟩
  | .hbm, ⟨113, _⟩ => ⟨S4096x2, .f32⟩
  | .hbm, ⟨114, _⟩ => ⟨S4096x2, .f32⟩
  | .hbm, ⟨115, _⟩ => ⟨S4096x2, .f32⟩
  | .hbm, ⟨116, _⟩ => ⟨S4096x1, .f32⟩
  | .hbm, ⟨117, _⟩ => ⟨S4096, .f32⟩
  | .hbm, ⟨118, _⟩ => ⟨S_, .i32⟩
  | .hbm, ⟨119, _⟩ => ⟨S1600000, .i32⟩
  | .hbm, ⟨120, _⟩ => ⟨S1600000, .i1⟩
  | .hbm, ⟨121, _⟩ => ⟨S_, .i32⟩
  | .hbm, ⟨122, _⟩ => ⟨S1600000, .i32⟩
  | .hbm, ⟨123, _⟩ => ⟨S1600000, .i32⟩
  | .hbm, ⟨124, _⟩ => ⟨S1600000, .i32⟩
  | .hbm, ⟨125, _⟩ => ⟨S1600000x1, .i32⟩
  | .hbm, ⟨126, _⟩ => ⟨S1600000, .f32⟩
  | .hbm, ⟨127, _⟩ => ⟨S1600000x1, .f32⟩
  | _, _ => ⟨S1600000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call2_cst : Ref sig .tc := ⟨.hbm, 52, rfl⟩
abbrev main_call2_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call3_cst : Ref sig .tc := ⟨.hbm, 60, rfl⟩
abbrev main_call3_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call4_cst : Ref sig .tc := ⟨.hbm, 68, rfl⟩
abbrev main_call4_v0 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_3 : Ref sig .tc := ⟨.hbm, 76, rfl⟩
abbrev main_cst_4 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_5 : Ref sig .tc := ⟨.hbm, 89, rfl⟩
abbrev main_v53 : Ref sig .tc := ⟨.hbm, 90, rfl⟩
abbrev main_cst_6 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_7 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_call6_v0 : Ref sig .tc := ⟨.hbm, 103, rfl⟩
abbrev main_call6_cst : Ref sig .tc := ⟨.hbm, 104, rfl⟩
abbrev main_call6_c : Ref sig .tc := ⟨.hbm, 105, rfl⟩
abbrev main_call6_v1_0 : Ref sig .tc := ⟨.hbm, 106, rfl⟩
abbrev main_v64 : Ref sig .tc := ⟨.hbm, 107, rfl⟩
abbrev main_call7_v0 : Ref sig .tc := ⟨.hbm, 108, rfl⟩
abbrev main_call7_v1 : Ref sig .tc := ⟨.hbm, 109, rfl⟩
abbrev main_call7_v2 : Ref sig .tc := ⟨.hbm, 110, rfl⟩
abbrev main_call7_v3 : Ref sig .tc := ⟨.hbm, 111, rfl⟩
abbrev main_call7_v4 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_c : Ref sig .tc := ⟨.hbm, 118, rfl⟩
abbrev main_v70 : Ref sig .tc := ⟨.hbm, 119, rfl⟩
abbrev main_v71 : Ref sig .tc := ⟨.hbm, 120, rfl⟩
abbrev main_c_8 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩

abbrev nD : Nat := 1
abbrev τ : Topo := Topo.v7x

variable {F : FTy → Type} [FloatOps F]
-- ==== Proof.Pre.lean ====
/-
  What the first precondition says of the ids: each is a word below 4096.
-/
module

public import proofs.«01_k».proof.Defs
public import proofs.«01_k».proof.Proof.Gen.Pre_ids_in_range

@[expose] public section

noncomputable section

namespace Cert.Proof.Pre

open Idealize.ShloMosaic Idealize.SL.Sem

theorem andi_ofBool (p q : Bool) : IntOp.andi (BitVec.ofBool p) (BitVec.ofBool q) = BitVec.ofBool (p && q) := by
  cases p <;> cases q <;> decide
theorem ofBool_one (p : Bool) : (BitVec.ofBool p = 1#1) ↔ p = true := by cases p <;> decide

/-- `0 ≤ v` and `v < 4096` of the signed word. -/
theorem lt_of_words (v : BitVec 32) (e : IntOp.andi (IntOp.cmpi .sge v 0#32) (IntOp.cmpi .slt v 4096#32) = 1#1) : v.toNat < 4096 := by
  simp only [IntOp.cmpi, andi_ofBool, ofBool_one, Bool.and_eq_true, BitVec.sle_eq_decide, BitVec.slt_eq_decide,
    decide_eq_true_eq, BitVec.toInt_eq_toNat_cond, BitVec.toNat_ofNat, Nat.reducePow, Nat.reduceMod] at e
  omega

/-- `u ≤ v` of words below 4096. -/
theorem le_of_words (u v : BitVec 32) (hu : u.toNat < 4096) (hv : v.toNat < 4096) (e : IntOp.cmpi .sge v u = 1#1) : u.toNat ≤ v.toNat := by
  simp only [IntOp.cmpi, ofBool_one, BitVec.sle_eq_decide, decide_eq_true_eq, BitVec.toInt_eq_toNat_cond, Nat.reducePow] at e
  omega

theorem range_of_pre {F : FTy → Type} [FloatOps F] (a0 a1 a2 a3 a4 a5 a6 a7 a8 a9 a10 a11 a12 a13 a14)
    (h : Cert.Pre_ids_in_range.fn (F := F) a0 a1 a2 a3 a4 a5 a6 a7 a8 a9 a10 a11 a12 a13 a14 = fun _ => 1#1) (i : Cert.Pre_ids_in_range.S1600000x1.Idx) :
    (a1 i).toNat < 4096 := by
  have e := congrFun h i
  simp only [Cert.Pre_ids_in_range.fn, andi, cmpi, broadcastInDim, constantI] at e
  exact lt_of_words _ e

end Cert.Proof.Pre

end
-- ==== Proof.K.Frame.lean ====
/-
  The run from ids in the table: the arguments end unchanged, the result at the gathered table, every semaphore at zero.
-/
module

public import proofs.«01_k».proof.Proof.K.Read

@[expose] public section

noncomputable section

namespace Cert.Proof.K

open Cert.Kernel Cert.Kernel.Gen

open Idealize.ShloMosaic Idealize.ShloMosaic.TcCoe Idealize.ShloMosaic.StableHlo
open Idealize.SL Idealize.SL.Sem

variable {F : FTy → Type} [FloatOps F]

/-- The arguments of @main. -/
def argRefs : List (Ref sig .tc) :=
  [main_arg0, main_arg1, main_arg2, main_arg3, main_arg4, main_arg5, main_arg6, main_arg7, main_arg8, main_arg9, main_arg10, main_arg11, main_arg12, main_arg13, main_arg14]

theorem argRefs_uc : ∀ b ∈ argRefs, Proc.devRef (τ := τ) .tc b ∈ Pipeline.ucRefs τ sig := by decide +kernel
theorem argRefs_ne : ∀ b ∈ argRefs, ∀ w ∈ main_v25 :: main_v26 :: main_v27 :: main_v28 :: written, b ≠ w := by decide
theorem out_uc : Proc.devRef (τ := τ) .tc main_v28 ∈ Pipeline.ucRefs τ sig := by decide +kernel

/-- The end of the run. -/
def EndsAt (m : (ℓ : Loc nD τ sig) → Buf (Elt F) ℓ) (r : PUnit × MemSt nD τ sig (Elt F)) : Prop :=
  (∀ (c : Dev nD), ∀ b ∈ argRefs, r.2.mem ((c.tc : Thread nD τ).loc b) = m ((c.tc : Thread nD τ).loc b))
    ∧ (∀ c : Dev nD, r.2.mem ((c.tc : Thread nD τ).loc main_v28) = W4 m c (Proc.devRef .tc main_v28)) ∧ r.2.sem = fun _ => 0

theorem run_ends [∀ e, Nonempty (Elt F e)] (m : (ℓ : Loc nD τ sig) → Buf (Elt F) ℓ) (ρ : Dev nD → PrngReg) (h : ∀ d i, (idsArg m d i).toNat < 4096) :
    θ_run (Cert.Kernel.defs (F := F)) (Cert.Kernel.threads (F := F)) ⟨m, fun _ => 0, ρ⟩ (EndsAt m) :=
  (θ_run _ _ _).mono (fun r hr => ⟨fun c b hb => (hr.1 c _ (argRefs_uc b hb)).trans (W4_arg m c b (argRefs_ne b hb)), fun c => hr.1 c _ out_uc, hr.2⟩)
    (run_main m ρ (fun d => (words_of m (·.toNat < 4096) d (h d)).1) (fun d => (words_of m (·.toNat < 4096) d (h d)).2.1) fun d => (words_of m (·.toNat < 4096) d (h d)).2.2)

end Cert.Proof.K

end
-- ==== Proof.KI.Common.lean ====
/-
  The program as the launch theorem sees it: its label signature, its SparseCore configuration, its body table; the
  resource algebra (the handshakes' rounds, the TensorCore pipeline's rounds, the transfers' counters); the buffers the
  SparseCore call moves, and the thirty-two pieces the call deals to the vector subcores.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Pipeline.RegionArrays
public import Idealize.ShloMosaic.Lib.Tactic
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev KC : SparseCore.Cfg τ sig (ΛP (F := F)) 1 := sc (F := F)
abbrev DD [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (KC (F := F)).nCore 0 = 2 := rfl
theorem nSub_zero : (KC (F := F)).nSub 0 = 16 := rfl

theorem scFacts : (KC (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)
abbrev MM (F : FTy → Type) : Type := MT nD τ sig (HIx 1) (Elt F) ℕ UU ℕ

/-- The handshakes' rounds, the left factor, and the TensorCore pipeline's, the left factor of the right one. -/
abbrev EH : Emb UH (MM F) := embL
abbrev EP : Emb UP (MM F) := (Emb.inl : Emb UP (UP × Counters)).trans (embR : Emb (UP × Counters) (MM F))

/-! ## The buffers of the SparseCore call -/

abbrev tabLoc (d : Dev nD) : Loc nD τ sig := (SparseCore.T d).loc main_v26
abbrev idsLoc (d : Dev nD) : Loc nD τ sig := (SparseCore.T d).loc main_v0
abbrev outLoc (d : Dev nD) : Loc nD τ sig := (SparseCore.T d).loc main_v27

/-- The entry of the table a word names (the word taken modulo the table's length, so that every word names one). -/
def entry (w : BitVec 32) : S4096.Idx := fun a => ⟨w.toNat % 4096, by
  obtain rfl : a = 0 := Subsingleton.elim _ _
  exact Nat.mod_lt _ (by decide)⟩

/-- The gather: at every position the table's entry that the position's word names. -/
def gathered {S : Shape} (tab : S4096.Idx → Elt F .f32) (ids : S.Idx → BitVec 32) : S.Idx → Elt F .f32 := fun j => tab (entry (ids j))

/-- The coordinates of subcore `s` of SparseCore `c` in the kernel's grid. -/
def coordsV (c : Fin 2) (s : Fin 16) : grid1.Coords :=
  fun | 0 => c | 1 => s | ⟨_ + 2, h⟩ => absurd h (Nat.not_lt.2 (Nat.le_add_left _ _))

/-- Task `p`'s piece of the ids and of the result: 50000 consecutive positions. -/
def pieceL (L : grid1.Coords) : Finset S1600000.Idx :=
  (Rect.unit (s := S1600000) (k1_off1 L) S50000.size (k1_off1_inb L)).set
abbrev piece (p : Fin 2 × Fin 16) : Finset S1600000.Idx := pieceL (coordsV p.1 p.2)

theorem mem_piece (p : Fin 2 × Fin 16) (j : S1600000.Idx) :
    j ∈ piece p ↔ 100000 * p.2.val + 50000 * p.1.val ≤ (j 0).val ∧ (j 0).val < 100000 * p.2.val + 50000 * p.1.val + 50000 := by
  unfold piece pieceL
  rw [Rect.mem_set_unit]
  have h0 : k1_off1 (coordsV p.1 p.2) 0 = 100000 * p.2.val + 50000 * p.1.val := by rw [k1_off1_eq]; rfl
  constructor
  · intro h
    have := h 0
    rw [h0] at this
    exact this
  · intro h a
    obtain rfl : a = 0 := Subsingleton.elim _ _
    rw [h0]
    exact h

theorem pieces_disjoint : ∀ p ∈ (Finset.univ : Finset (Fin 2 × Fin 16)), ∀ q ∈ (Finset.univ : Finset (Fin 2 × Fin 16)), p ≠ q → Disjoint (piece p) (piece q) := by
  intro p _ q _ hpq
  refine Finset.disjoint_left.mpr fun j hj hj' => hpq ?_
  rw [mem_piece] at hj hj'
  have h1 := p.1.isLt
  have h2 := q.1.isLt
  have e2 : p.2.val = q.2.val := by omega
  have e1 : p.1.val = q.1.val := by omega
  exact Prod.ext (Fin.ext e1) (Fin.ext e2)

theorem pieces_cover : (Finset.univ : Finset (Fin 2 × Fin 16)).biUnion piece = Finset.univ := by
  refine Finset.eq_univ_iff_forall.mpr fun j => Finset.mem_biUnion.mpr ?_
  have hj : (j 0).val < 1600000 := (j 0).isLt
  refine ⟨(⟨(j 0).val / 50000 % 2, by omega⟩, ⟨(j 0).val / 100000, by omega⟩), Finset.mem_univ _, ?_⟩
  rw [mem_piece]
  show 100000 * ((j 0).val / 100000) + 50000 * ((j 0).val / 50000 % 2) ≤ _ ∧ _ < 100000 * ((j 0).val / 100000) + 50000 * ((j 0).val / 50000 % 2) + 50000
  omega

end Cert.Proof.KI

end
-- ==== Proof.KI.Own.lean ====
/-
  Loads and stores over a memref held by what it reads (`owns`): a whole load continues at the contents, a load through
  a rectangle at the contents the rectangle names, a store leaves the contents overwritten on its rectangle.
-/
module

public import proofs.«01_k».proof.Proof.KI.Common
public import Idealize.ShloMosaic.Lib.Writes

@[expose] public section

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The weakest precondition of a piece of the TensorCore kernel's body on device `c`. -/
abbrev wpB (c : Dev nD) {α : Type} (p : Prog (TpuEff nD τ sig (Elt F) Λ₀ .tc) α) (Q : α → sProp 𝕄) : sProp 𝕄 :=
  wp frame (wpE defs₀ 𝒱₀ (c : Thread nD τ) none) Set.univ p Q

/-- What device `c` holds of a memref of its TensorCore: all of it, reading `X`. -/
abbrev own (c : Dev nD) {sp : Space} {s : Shape} {e : EltTy} (m : Memref sig .tc sp s e) (X : s.Idx → Elt F e) : sProp 𝕄 :=
  owns (c : Thread nD τ) m fullShare X

variable (c : Dev nD) {sp : CoreSpace} {s : Shape} {e : EltTy} {α : Type}

/-- A load through a rectangle continues at the contents the rectangle names. -/
theorem ldr (m : Memref sig .tc (Space.core sp) s e) (X : s.Idx → Elt F e) (r : Rect s) {hl : m.view.LoadsAt r.toLoadRect}
    {k : (r.shape.Idx → Elt F e) → Prog (TpuEff nD τ sig (Elt F) Λ₀ .tc) α} {Q : α → sProp 𝕄} :
    own c m X ⊢ iprop((own c m X -∗ wpB c (k fun x => X (r.emb x)) Q) -∗ wpB c (.op (.load m r.toLoadRect hl) k) Q) := by
  unfold own owns
  iintro ⟨%f, %hf, H⟩ Hk
  iapply (wp_load_rect 𝒱₀ (c : Thread nD τ) none Set.univ (m := m) (r := r) (hl := hl) (View.set_slice_subset m.view r)) $$ H
  iintro H
  have h : (m.access r).read (Elt F) f = fun x => X (r.emb x) := by
    funext x; subst hf; rfl
  rw [h]
  iapply Hk
  iexists f
  isplitr
  · ipureintro; exact hf
  · iexact H

/-- A load of the whole memref continues at its contents. -/
theorem ld (m : Memref sig .tc (Space.core sp) s e) (X : s.Idx → Elt F e) {off : Fin s.rank → ℕ} (h0 : off = fun _ => 0) {inb : ∀ a, off a + s.size a ≤ s.size a}
    {hl : m.view.LoadsAt (Rect.unit off s.size inb).toLoadRect}
    {k : (s.Idx → Elt F e) → Prog (TpuEff nD τ sig (Elt F) Λ₀ .tc) α} {Q : α → sProp 𝕄} :
    own c m X ⊢ iprop((own c m X -∗ wpB c (k X) Q) -∗ wpB c (.op (.load m (Rect.unit off s.size inb).toLoadRect hl) k) Q) := by
  subst h0
  have h := ldr c m X (Rect.unit (fun _ => 0) s.size inb) (hl := hl) (k := k) (Q := Q)
  have hx : (fun x => X ((Rect.unit (fun _ => 0) s.size inb).emb x)) = X := by
    funext x
    exact congrArg X ((Rect.unit (fun _ => 0) s.size inb).emb_eq_of_coords x x (fun a => by
      show (x a).val = 0 + 1 * (x a).val; omega))
  rw [hx] at h
  exact h

/-- A store through a rectangle leaves the contents that are the payload on the rectangle and the old ones off it. -/
theorem st (m : Memref sig .tc (Space.core sp) s e) (X X' : s.Idx → Elt F e) (r : Rect s) (w : r.shape.Idx → Elt F e)
    (hhit : ∀ x, X' (r.emb x) = w x) (hmiss : ∀ j, j ∉ r.set → X' j = X j)
    {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    own c m X ⊢ iprop((own c m X' -∗ wpB c (k ⟨⟩) Q) -∗ wpB c (.op (.store m r w Finset.univ hx hm) k) Q) := by
  unfold own owns
  iintro ⟨%f, %hf, H⟩ Hk
  iapply (wp_store 𝒱₀ (c : Thread nD τ) none Set.univ (m := m) (r := r) (Mk := Finset.univ)
    (((m.access r).setOn_subset_set _).trans (View.set_slice_subset m.view r))) $$ H
  iintro H
  iapply Hk
  iexists _
  isplitr [H]
  · ipureintro
    show m.view.read (Elt F) (m.view.writes (Elt F) f [⟨r, w⟩]) = X'
    funext j
    by_cases hj : j ∈ r.set
    · obtain ⟨x, rfl⟩ := r.exists_idx_of_mem hj
      exact (View.read_writes_cons_emb _ _ r w [] x).trans (hhit x).symm
    · rw [View.read_writes_cons_miss _ _ _ _ _ hj, hmiss j hj, ← hf]; rfl
  · iexact H

/-- A store of the whole memref leaves the payload. -/
theorem stw (m : Memref sig .tc (Space.core sp) s e) (X w : s.Idx → Elt F e) {off : Fin s.rank → ℕ} (h0 : off = fun _ => 0) {inb : ∀ a, off a + s.size a ≤ s.size a}
    {hx : (m.access (Rect.unit off s.size inb)).Stores Finset.univ} {hm : (Finset.univ : Finset (Rect.unit off s.size inb).shape.Idx) = Finset.univ ∨ ∀ a, (Rect.unit off s.size inb).stride a = 1}
    {k : PUnit → Prog (TpuEff nD τ sig (Elt F) Λ₀ .tc) α} {Q : α → sProp 𝕄} :
    own c m X ⊢ iprop((own c m w -∗ wpB c (k ⟨⟩) Q) -∗ wpB c (.op (.store m (Rect.unit off s.size inb) w Finset.univ hx hm) k) Q) := by
  subst h0
  have hhit : ∀ x, w ((Rect.unit (fun _ => 0) s.size inb).emb x) = w x := fun x =>
    congrArg w ((Rect.unit (fun _ => 0) s.size inb).emb_eq_of_coords x x (fun a => by show (x a).val = 0 + 1 * (x a).val; omega))
  have hmiss : ∀ j, j ∉ (Rect.unit (fun _ => 0) s.size inb).set → w j = X j := fun j hj => absurd (by
    rw [Rect.mem_set_unit]
    exact fun a => ⟨Nat.zero_le _, lt_of_lt_of_eq (j a).isLt (Nat.zero_add _).symm⟩) hj
  have h := st c m X w (Rect.unit (fun _ => 0) s.size inb) w hhit hmiss (hx := hx) (hm := hm) (k := k) (Q := Q)
  exact h

/-- A program that has returned. -/
theorem ret_run {v : α} {Q : α → sProp 𝕄} : Q v ⊢ wpB c (Prog.ret v) Q := by
  unfold wpB
  rw [wp_ret]
  iintro H
  imodintro
  iexact H

/-- A program in two parts. -/
theorem bind_run {β : Type} {p : Prog (TpuEff nD τ sig (Elt F) Λ₀ .tc) α} {k : α → Prog (TpuEff nD τ sig (Elt F) Λ₀ .tc) β} {Q : β → sProp 𝕄} :
    wpB c p (fun a => wpB c (k a) Q) ⊢ wpB c (p >>= k) Q := by
  unfold wpB
  rw [wp_bind]

/-- A load of one word of scalar memory returns the word. -/
theorem ldw (m : Memref sig .tc .smem s e) (X : s.Idx → Elt F e) (r : Rect s) {h1 : r.shape.numel = 1} {hp : e.packing = 1}
    {Q : Elt F e → sProp 𝕄} :
    own c m X ⊢ iprop((own c m X -∗ Q (X (r.emb (Shape.Idx.first (h1.symm ▸ Nat.one_pos))))) -∗ wpB c (smemLoad m r h1 hp) Q) := by
  iintro H Hk
  iapply (ldr c m X r) $$ H
  iintro H
  iapply ret_run
  iapply Hk
  iexact H

end Cert.Proof.KI

end
-- ==== Proof.KI.Words.lean ====
/-
  The TensorCore kernel's integer chains at words below 4096: the floor division by 64, which of the two paths a block
  takes, the windows the slow path's loop goes through; and that the two checks pass.
-/
module

public import proofs.«01_k».proof.Proof.KI.Common

@[expose] public section

noncomputable section

namespace Cert.Proof.KI

open Cert.KernelIdeal Cert.KernelIdeal.Gen
open Idealize.ShloMosaic

/-- The kernel's floor division of a word by 64. -/
def fdiv (v : BitVec 32) : BitVec 32 :=
  Scalar.select (Scalar.andi (Scalar.cmpi .ne (Scalar.subi (Scalar.extui (Scalar.cmpi .sgt v 0#32)) (Scalar.extui (Scalar.cmpi .slt v 0#32)) : BitVec 32)
      (Scalar.subi (Scalar.extui (Scalar.cmpi .sgt 64#32 0#32)) (Scalar.extui (Scalar.cmpi .slt 64#32 0#32))))
    (Scalar.cmpi .ne (Scalar.remsi v 64#32) 0#32)) (Scalar.subi (Scalar.divsi v 64#32) 1#32) (Scalar.divsi v 64#32)

theorem fdiv_fin : ∀ n : Fin 4096, fdiv (BitVec.ofNat 32 n.val) = BitVec.ofNat 32 (n.val / 64) := by
  decide +kernel

theorem fdiv_eq (v : BitVec 32) (hv : v.toNat < 4096) : fdiv v = BitVec.ofNat 32 (v.toNat / 64) := by
  have := fdiv_fin ⟨v.toNat, hv⟩
  rw [show BitVec.ofNat 32 v.toNat = v from BitVec.eq_of_toNat_eq (by rw [BitVec.toNat_ofNat]; exact Nat.mod_eq_of_lt v.isLt)] at this
  exact this

theorem slt_iff (v b : BitVec 32) (hv : v.toNat < 4096) (hb : b.toNat < 8192) : Scalar.cmpi .slt v b = 1#1 ↔ v.toNat < b.toNat := by
  have e : Scalar.cmpi .slt v b = BitVec.ofBool (v.slt b) := rfl
  rw [e]
  have hs : v.slt b = decide (v.toNat < b.toNat) := by
    rw [BitVec.slt_eq_decide, BitVec.toInt_eq_toNat_cond, BitVec.toInt_eq_toNat_cond]
    simp only [decide_eq_decide]
    split <;> split <;> omega
  rw [hs]
  by_cases h : v.toNat < b.toNat <;> simp [h]

theorem k0_mult1_eq (v6 : BitVec 32) : k0_mult1 v6 = Scalar.muli (fdiv v6) 64#32 := rfl

theorem mul64 (n : ℕ) (hn : n < 128) : (Scalar.muli (BitVec.ofNat 32 n) 64#32 : BitVec 32) = BitVec.ofNat 32 (n * 64) := by
  show BitVec.ofNat 32 n * 64#32 = _
  rw [← BitVec.ofNat_mul]

theorem toNat_small (n : ℕ) (hn : n < 4294967296) : (BitVec.ofNat 32 n).toNat = n := by
  rw [BitVec.toNat_ofNat]; exact Nat.mod_eq_of_lt hn

theorem mult1_toNat (v6 : BitVec 32) (h6 : v6.toNat < 4096) : (k0_mult1 v6).toNat = v6.toNat / 64 * 64 := by
  rw [k0_mult1_eq, fdiv_eq v6 h6, mul64 _ (by omega), toNat_small _ (by omega)]

theorem chk1 (v6 : BitVec 32) (h6 : v6.toNat < 4096) : k0_chk1 v6 := by
  show 64 ∣ (k0_mult1 v6).toNat
  rw [mult1_toNat v6 h6]; exact ⟨_, Nat.mul_comm _ _⟩

theorem off2_eq (v6 : BitVec 32) (h6 : v6.toNat < 4096) : k0_off2 v6 = ![v6.toNat / 64 * 64, 0] := by
  have e : k0_off2 v6 = ![(Scalar.muli (fdiv v6) 64#32 : BitVec 32).toNat, 0] := rfl
  rw [e, ← k0_mult1_eq, mult1_toNat v6 h6]

/-- The end of the first window of 128 rows. -/
theorem winEnd (v6 : BitVec 32) (h6 : v6.toNat < 4096) :
    (Scalar.addi (Scalar.muli (fdiv v6) 64#32) 128#32 : BitVec 32).toNat = v6.toNat / 64 * 64 + 128 := by
  show (k0_mult1 v6 + 128#32).toNat = _
  rw [BitVec.toNat_add, mult1_toNat v6 h6]
  show (v6.toNat / 64 * 64 + 128) % 4294967296 = _
  omega

theorem ne_extui (b : BitVec 1) : (Scalar.cmpi .ne (Scalar.extui b : BitVec 32) 0#32) = b := by
  revert b; decide

theorem cond2_iff (v6 v8 : BitVec 32) (h6 : v6.toNat < 4096) (h8 : v8.toNat < 4096) :
    k0_cond2 v6 v8 = 1#1 ↔ v8.toNat < v6.toNat / 64 * 64 + 128 := by
  have e : k0_cond2 v6 v8 = Scalar.cmpi .ne (Scalar.extui (Scalar.cmpi .slt v8 (Scalar.addi (Scalar.muli (fdiv v6) 64#32) 128#32)) : BitVec 32) 0#32 := rfl
  rw [e, ne_extui, slt_iff _ _ h8 (by rw [winEnd v6 h6]; omega), winEnd v6 h6]

theorem cond3_iff (v6 v8 : BitVec 32) : k0_cond3 v6 v8 = 1#1 ↔ ¬ k0_cond2 v6 v8 = 1#1 := by
  have e2 : k0_cond2 v6 v8 = Scalar.cmpi .ne (Scalar.extui (Scalar.cmpi .slt v8 (Scalar.addi (Scalar.muli (fdiv v6) 64#32) 128#32)) : BitVec 32) 0#32 := rfl
  have e3 : k0_cond3 v6 v8 = Scalar.cmpi .ne (Scalar.extui (Scalar.xori (Scalar.cmpi .slt v8 (Scalar.addi (Scalar.muli (fdiv v6) 64#32) 128#32)) 1#1) : BitVec 32) 0#32 := rfl
  rw [e2, e3, ne_extui, ne_extui]
  generalize Scalar.cmpi .slt v8 (Scalar.addi (Scalar.muli (fdiv v6) 64#32) 128#32) = b
  revert b; decide

/-- The end of the slow path's first loop. -/
def loopEnd (a b : BitVec 32) : BitVec 32 :=
  Scalar.addi a (Scalar.muli (Scalar.divsi (Scalar.subi (Scalar.addi b 1#32) a) 1#32) 1#32)

theorem loopEnd_fin : ∀ a b : Fin 64, a ≤ b → loopEnd (BitVec.ofNat 32 a.val) (BitVec.ofNat 32 b.val) = BitVec.ofNat 32 (b.val + 1) := by
  decide +kernel

theorem t1_loop_eq (v6 v8 : BitVec 32) : k0_t1_loop v6 v8 = ⟨fdiv v6, loopEnd (fdiv v6) (fdiv v8), 1#32⟩ := rfl
theorem t2_loop_eq (v6 v8 : BitVec 32) : k0_t2_loop v6 v8 = ⟨loopEnd (fdiv v6) (fdiv v8), Scalar.addi (fdiv v6) (Scalar.subi (Scalar.addi (fdiv v8) 1#32) (fdiv v6)), 1#32⟩ := rfl

section Slow

variable (v6 v8 : BitVec 32) (h6 : v6.toNat < 4096) (h8 : v8.toNat < 4096) (h3 : k0_cond3 v6 v8 = 1#1)
include h6 h8 h3

theorem slow_le : v6.toNat / 64 * 64 + 128 ≤ v8.toNat := by
  rw [cond3_iff, cond2_iff v6 v8 h6 h8] at h3; omega

theorem t1_loop_at : k0_t1_loop v6 v8 = ⟨BitVec.ofNat 32 (v6.toNat / 64), BitVec.ofNat 32 (v8.toNat / 64 + 1), 1#32⟩ := by
  have := slow_le v6 v8 h6 h8 h3
  have e := loopEnd_fin ⟨v6.toNat / 64, by omega⟩ ⟨v8.toNat / 64, by omega⟩ (by show v6.toNat / 64 ≤ v8.toNat / 64; omega)
  rw [t1_loop_eq, fdiv_eq v6 h6, fdiv_eq v8 h8, e]

theorem t2_loop_at : k0_t2_loop v6 v8 = ⟨BitVec.ofNat 32 (v8.toNat / 64 + 1), BitVec.ofNat 32 (v8.toNat / 64 + 1), 1#32⟩ := by
  have := slow_le v6 v8 h6 h8 h3
  have e := loopEnd_fin ⟨v6.toNat / 64, by omega⟩ ⟨v8.toNat / 64, by omega⟩ (by show v6.toNat / 64 ≤ v8.toNat / 64; omega)
  rw [t2_loop_eq, fdiv_eq v6 h6, fdiv_eq v8 h8, e]
  congr 1
  show BitVec.ofNat 32 (v6.toNat / 64) + (BitVec.ofNat 32 (v8.toNat / 64) + 1#32 - BitVec.ofNat 32 (v6.toNat / 64)) = _
  rw [BitVec.add_comm, BitVec.sub_add_cancel, ← BitVec.ofNat_add]

theorem toInt_small (n : ℕ) (hn : n < 4096) : (BitVec.ofNat 32 n).toInt = n := by
  rw [BitVec.toInt_eq_toNat_cond, toNat_small n (by omega), if_pos (by omega)]

omit h6 h8 h3 in
theorem trips_at (a b : ℕ) (ha : a ≤ b) (hb : b < 4096) : Scf.trips (BitVec.ofNat 32 a) (BitVec.ofNat 32 b) 1#32 = b - a := by
  unfold Scf.trips
  have e1 : (1#32 : BitVec 32).toInt = 1 := by decide
  have ea : (BitVec.ofNat 32 a).toInt = a := by
    rw [BitVec.toInt_eq_toNat_cond, toNat_small a (by omega), if_pos (by omega)]
  have eb : (BitVec.ofNat 32 b).toInt = b := by
    rw [BitVec.toInt_eq_toNat_cond, toNat_small b (by omega), if_pos (by omega)]
  rw [e1, ea, eb]
  omega

theorem t1_trips : (k0_t1_loop v6 v8).trips = v8.toNat / 64 + 1 - v6.toNat / 64 := by
  have := slow_le v6 v8 h6 h8 h3
  show Scf.trips (k0_t1_loop v6 v8).lb (k0_t1_loop v6 v8).ub (k0_t1_loop v6 v8).st = _
  rw [t1_loop_at v6 v8 h6 h8 h3]
  exact trips_at _ _ (by omega) (by omega)

theorem t2_trips : (k0_t2_loop v6 v8).trips = 0 := by
  show Scf.trips (k0_t2_loop v6 v8).lb (k0_t2_loop v6 v8).ub (k0_t2_loop v6 v8).st = _
  rw [t2_loop_at v6 v8 h6 h8 h3]
  exact (trips_at _ _ le_rfl (by omega)).trans (Nat.sub_self _)

theorem t1_OK : (k0_t1_loop v6 v8).OK := by
  have := slow_le v6 v8 h6 h8 h3
  show Scf.OK (k0_t1_loop v6 v8).lb (k0_t1_loop v6 v8).ub (k0_t1_loop v6 v8).st
  rw [t1_loop_at v6 v8 h6 h8 h3]
  refine ⟨show 0 < (1#32 : BitVec 32).toInt by decide, ?_⟩
  show (BitVec.ofNat 32 (v6.toNat / 64)).toInt + (Scf.trips (BitVec.ofNat 32 (v6.toNat / 64)) (BitVec.ofNat 32 (v8.toNat / 64 + 1)) 1#32 : ℕ) * (1#32 : BitVec 32).toInt < _
  rw [trips_at _ _ (by omega) (by omega), toInt_small v6 v8 h6 h8 h3 _ (by omega), show (1#32 : BitVec 32).toInt = 1 by decide]
  norm_num
  omega

theorem t2_OK : (k0_t2_loop v6 v8).OK := by
  show Scf.OK (k0_t2_loop v6 v8).lb (k0_t2_loop v6 v8).ub (k0_t2_loop v6 v8).st
  rw [t2_loop_at v6 v8 h6 h8 h3]
  refine ⟨show 0 < (1#32 : BitVec 32).toInt by decide, ?_⟩
  show (BitVec.ofNat 32 (v8.toNat / 64 + 1)).toInt + (Scf.trips (BitVec.ofNat 32 (v8.toNat / 64 + 1)) (BitVec.ofNat 32 (v8.toNat / 64 + 1)) 1#32 : ℕ) * (1#32 : BitVec 32).toInt < _
  rw [trips_at _ _ le_rfl (by omega), toInt_small v6 v8 h6 h8 h3 _ (by omega), show (1#32 : BitVec 32).toInt = 1 by decide]
  norm_num
  omega

omit h8 h3 in
theorem iv_at (k : ℕ) (hk : k < 128) : (Scf.iv (fdiv v6) 1#32 k) = BitVec.ofNat 32 (v6.toNat / 64 + k) := by
  rw [fdiv_eq v6 h6]
  unfold Scf.iv
  rw [BitVec.mul_one, ← BitVec.ofNat_add]

theorem win_toNat (k : Fin (k0_t1_loop v6 v8).trips) : (Scalar.muli (Scf.iv (fdiv v6) 1#32 k.val) 64#32 : BitVec 32).toNat = (v6.toNat / 64 + k.val) * 64 := by
  have h := slow_le v6 v8 h6 h8 h3
  have ht := t1_trips v6 v8 h6 h8 h3
  have hk := k.isLt
  rw [iv_at v6 h6 k.val (by omega), mul64 _ (by omega), toNat_small _ (by omega)]

theorem off3_eq (k : Fin (k0_t1_loop v6 v8).trips) : k0_off3 v6 v8 k = ![(v6.toNat / 64 + k.val) * 64, 0] := by
  have e : k0_off3 v6 v8 k = ![(Scalar.muli (Scf.iv (fdiv v6) 1#32 k.val) 64#32 : BitVec 32).toNat, 0] := rfl
  rw [e, win_toNat v6 v8 h6 h8 h3 k]

end Slow

theorem chk2 (v6 v8 : BitVec 32) (h6 : v6.toNat < 4096) (h8 : v8.toNat < 4096) : k0_chk2 v6 v8 := by
  refine ⟨fun _ a => ?_, fun h3 => t1_OK v6 v8 h6 h8 h3, fun k h3 => ?_, fun k h3 a => ?_, fun h3 => t2_OK v6 v8 h6 h8 h3, fun k h3 => ?_, fun k h3 a => ?_⟩
  · rw [off2_eq v6 h6]
    fin_cases a
    · show v6.toNat / 64 * 64 + 128 ≤ 4224; omega
    · show 0 + 64 ≤ 64; omega
  · have e : k0_mult2 v6 v8 k = Scalar.muli (Scf.iv (fdiv v6) 1#32 k.val) 64#32 := rfl
    rw [e, win_toNat v6 v8 h6 h8 h3 k]; exact ⟨_, Nat.mul_comm _ _⟩
  · have h := slow_le v6 v8 h6 h8 h3
    have ht := t1_trips v6 v8 h6 h8 h3
    have hk := k.isLt
    rw [off3_eq v6 v8 h6 h8 h3 k]
    fin_cases a
    · show (v6.toNat / 64 + k.val) * 64 + 64 ≤ 4224; omega
    · show 0 + 64 ≤ 64; omega
  · exact absurd (lt_of_lt_of_eq k.isLt (t2_trips v6 v8 h6 h8 h3)) (Nat.not_lt_zero _)
  · exact absurd (lt_of_lt_of_eq k.isLt (t2_trips v6 v8 h6 h8 h3)) (Nat.not_lt_zero _)

theorem cond4_iff (i : grid0.Coords) : k0_cond4 i = 1#1 ↔ (i 0).val = 199 := by
  have h : ∀ n : Fin 200, (Scalar.cmpi .ne (Scalar.extui (Scalar.cmpi .eq (BitVec.ofNat 32 n.val) 199#32) : BitVec 32) 0#32) = 1#1 ↔ n.val = 199 := by decide +kernel
  exact h (i 0)

theorem cond1_iff (i : grid0.Coords) : Scalar.cmpi .ne (Scalar.extui (Scalar.cmpi .eq (BitVec.ofNat 32 (i 0).val) 0#32) : BitVec 32) 0#32 = 1#1 ↔ (i 0).val = 0 := by
  have h : ∀ n : Fin 200, (Scalar.cmpi .ne (Scalar.extui (Scalar.cmpi .eq (BitVec.ofNat 32 n.val) 0#32) : BitVec 32) 0#32) = 1#1 ↔ n.val = 0 := by decide +kernel
  exact h (i 0)

end Cert.Proof.KI

end
-- ==== Proof.KI.Acc.lean ====
/-
  What one grid point of the TensorCore kernel does to the accumulator, as a function of the blocks it reads: zeroed at the
  first point, then one window of 128 rows overwritten when the block's ids lie in it, or else one window of 64 rows after
  the other from the first id's to the last id's; and the table the last point leaves.
-/
module

public import proofs.«01_k».proof.Proof.KI.Words

@[expose] public section

noncomputable section

namespace Cert.Proof.KI

open Cert.KernelIdeal Cert.KernelIdeal.Gen
open Idealize.ShloMosaic

variable {F : FTy → Type} [FloatOps F]

/-- An index of a matrix by its row and column. -/
def ix {m n : ℕ} (i : Fin m) (j : Fin n) : (⟨2, ![m, n]⟩ : Shape).Idx :=
  fun | 0 => i | 1 => j | ⟨_ + 2, h⟩ => absurd h (Nat.not_lt.2 (Nat.le_add_left _ _))

theorem ix_eq {m n : ℕ} (x : (⟨2, ![m, n]⟩ : Shape).Idx) (i : Fin m) (j : Fin n) (hi : (x 0).val = i.val) (hj : (x 1).val = j.val) : x = ix i j := by
  funext a
  match a with
  | 0 => exact Fin.ext hi
  | 1 => exact Fin.ext hj
  | ⟨_ + 2, h⟩ => exact absurd h (Nat.not_lt.2 (Nat.le_add_left _ _))

abbrev AccT (F : FTy → Type) : Type := S4224x64.Idx → Elt F .f32

/-- The `n` rows of the accumulator from row `o`. -/
def win (n o : ℕ) (A : AccT F) : (⟨2, ![n, 64]⟩ : Shape).Idx → Elt F .f32 :=
  fun j => A (ix ⟨(o + (j 0).val) % 4224, Nat.mod_lt _ (by decide)⟩ (j 1))

/-- The accumulator with its `n` rows from row `o` overwritten. -/
def put (n o : ℕ) (w : (⟨2, ![n, 64]⟩ : Shape).Idx → Elt F .f32) (A : AccT F) : AccT F :=
  fun j => if h : o ≤ (j 0).val ∧ (j 0).val < o + n then w (ix ⟨(j 0).val - o, by omega⟩ (j 1)) else A j

section Rect
variable {n o : ℕ} {off : Fin S4224x64.rank → ℕ} (ho : off = ![o, 0]) (inb : ∀ a, off a + (⟨2, ![n, 64]⟩ : Shape).size a ≤ S4224x64.size a)
include ho inb

theorem inb_le : o + n ≤ 4224 := by subst ho; exact inb 0

theorem emb0 (x : (⟨2, ![n, 64]⟩ : Shape).Idx) : ((Rect.unit (s := S4224x64) off (⟨2, ![n, 64]⟩ : Shape).size inb).emb x 0).val = o + (x 0).val := by
  subst ho
  show o + 1 * (x 0).val = _
  omega
theorem emb1 (x : (⟨2, ![n, 64]⟩ : Shape).Idx) : ((Rect.unit (s := S4224x64) off (⟨2, ![n, 64]⟩ : Shape).size inb).emb x 1).val = (x 1).val := by
  subst ho
  show 0 + 1 * (x 1).val = _
  omega

/-- What a load through the rectangle of those rows reads. -/
theorem win_rect (A : AccT F) : (fun x => A ((Rect.unit (s := S4224x64) off (⟨2, ![n, 64]⟩ : Shape).size inb).emb x)) = win n o A := by
  funext x
  refine congrArg A (ix_eq _ _ _ ?_ ?_)
  · rw [emb0 ho inb x]
    have h1 := inb_le ho inb
    have h2 : (x 0).val < n := (x 0).isLt
    exact (Nat.mod_eq_of_lt (by omega)).symm
  · exact emb1 ho inb x

/-- What a store through it leaves: on the rectangle, -/
theorem put_hit (w : (⟨2, ![n, 64]⟩ : Shape).Idx → Elt F .f32) (A : AccT F) (x : (⟨2, ![n, 64]⟩ : Shape).Idx) :
    put n o w A ((Rect.unit (s := S4224x64) off (⟨2, ![n, 64]⟩ : Shape).size inb).emb x) = w x := by
  have h0 := emb0 ho inb x
  have h1 := emb1 ho inb x
  have h2 : (x 0).val < n := (x 0).isLt
  unfold put
  rw [dif_pos ⟨by omega, by omega⟩]
  refine congrArg w (ix_eq _ _ _ ?_ ?_).symm
  · show (x 0).val = _ - o; omega
  · exact h1.symm

/-- and off it. -/
theorem put_miss (w : (⟨2, ![n, 64]⟩ : Shape).Idx → Elt F .f32) (A : AccT F) (j : S4224x64.Idx)
    (hj : j ∉ (Rect.unit (s := S4224x64) off (⟨2, ![n, 64]⟩ : Shape).size inb).set) : put n o w A j = A j := by
  unfold put
  rw [dif_neg]
  rintro ⟨h1, h2⟩
  apply hj
  rw [Rect.mem_set_unit]
  intro a
  subst ho
  match a with
  | 0 => exact ⟨h1, h2⟩
  | 1 => exact ⟨Nat.zero_le _, lt_of_lt_of_eq (j 1).isLt (Nat.zero_add 64).symm⟩
  | ⟨_ + 2, h⟩ => exact absurd h (Nat.not_lt.2 (Nat.le_add_left _ _))

end Rect

/-- The windows of 64 rows, one after the other: the accumulator after `k` of them. -/
def slowAcc (v3 : Vec F S1x1x8000 .i32) (v6 v8 : BitVec 32) (v59 : FVec F S8000x64 .bf16) (v60 : IVec S64x8000 32) (A : AccT F) : ℕ → AccT F
  | 0 => A
  | k + 1 =>
    if h : k < (k0_t1_loop v6 v8).trips then
      put 64 ((v6.toNat / 64 + k) * 64)
        (k0_pay7 v3 v6 v8 v59 v60 ⟨k, h⟩ (win 64 ((v6.toNat / 64 + k) * 64) (slowAcc v3 v6 v8 v59 v60 A k))) (slowAcc v3 v6 v8 v59 v60 A k)
    else slowAcc v3 v6 v8 v59 v60 A k

/-- The row numbers of a window of 64 rows. -/
abbrev rows64 : IVec S64x8000 32 := iota .tc S64x8000 32 [0] iota_S64x8000_d0_w32

/-- One block of points added to the accumulator: `v3` the block's ids, `v6` and `v8` its first and last, `v38` its features. -/
def accNext (v3 : Vec F S1x1x8000 .i32) (v6 v8 : BitVec 32) (v38 : Vec F S8000x32 .f32) (v40 : Vec F S32x32 .bf16) (v43 : Vec F S1x32 .f32)
    (v50 : Vec F S32x64 .bf16) (v53 : Vec F S1x64 .f32) (A : AccT F) : AccT F :=
  if k0_cond2 v6 v8 = 1#1 then
    put 128 (v6.toNat / 64 * 64) (k0_pay6 v3 v6 v38 v40 v43 v50 v53 (win 128 (v6.toNat / 64 * 64) A)) A
  else slowAcc v3 v6 v8 (k0_pay2 v38 v40 v43 v50 v53) rows64 A (k0_t1_loop v6 v8).trips

/-- The accumulator the point starts from: zeroed at the first one. -/
def accStart (i : grid0.Coords) (A : AccT F) : AccT F := if (i 0).val = 0 then k0_pay4 else A

/-- The word of point `i` in a table of the points' words. -/
def wordAt (i : grid0.Coords) (X : S200.Idx → BitVec 32) : BitVec 32 := X (fun a => ⟨(i 0).val, by
  obtain rfl : a = 0 := Subsingleton.elim (α := Fin 1) _ _
  exact (i 0).isLt⟩)

/-- The table the last point leaves. -/
def tableOf (A : AccT F) (v44 : Vec F S32x32 .f32) (v47 : Vec F S1x32 .f32) (v53 : Vec F S32x32 .f32) (v56 : Vec F S1x32 .f32) (v62 : Vec F S32x32 .f32)
    (v65 : Vec F S1x32 .f32) (v71 : Vec F S32x2 .f32) (v74 : Vec F S1x2 .f32) (v78 : Vec F S4096x2 .f32) : FVec F S4096x1 .f32 :=
  k0_pay1 (k0_pay3 (win 4096 0 A) v44 v47 v53 v56 v62 v65 v71) v74 v78

end Cert.Proof.KI

end
-- ==== Proof.KI.Body.lean ====
/-
  One grid point of the TensorCore kernel's body: holding the blocks it reads, its result block and the accumulator, it
  leaves the blocks as they were, the accumulator with the point's block added, and at the last point the table in the
  result block.
-/
module

public import proofs.«01_k».proof.Proof.KI.Own
public import proofs.«01_k».proof.Proof.KI.Acc

@[expose] public section

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem zero2 : (![0, 0] : Fin 2 → ℕ) = fun _ => 0 := by decide
theorem zero3 : (![0, 0, 0] : Fin 3 → ℕ) = fun _ => 0 := by decide

section Body

variable (c : Dev nD) (i : grid0.Coords)
  (arg1 : Memref sig .tc .smem S200 .i32) (harg1 : arg1.IsWhole)
  (arg2 : Memref sig .tc .smem S200 .i32) (harg2 : arg2.IsWhole)
  (arg3 : Memref sig .tc .vmem S8000x32 .f32) (harg3 : arg3.IsWhole)
  (arg4 : Memref sig .tc .vmem S1x1x8000 .i32) (harg4 : arg4.IsWhole)
  (arg5 : Memref sig .tc .vmem S32x32 .bf16) (harg5 : arg5.IsWhole)
  (arg6 : Memref sig .tc .vmem S1x32 .f32) (harg6 : arg6.IsWhole)
  (arg7 : Memref sig .tc .vmem S32x64 .bf16) (harg7 : arg7.IsWhole)
  (arg8 : Memref sig .tc .vmem S1x64 .f32) (harg8 : arg8.IsWhole)
  (arg9 : Memref sig .tc .vmem S32x32 .f32) (harg9 : arg9.IsWhole)
  (arg10 : Memref sig .tc .vmem S1x32 .f32) (harg10 : arg10.IsWhole)
  (arg11 : Memref sig .tc .vmem S32x32 .f32) (harg11 : arg11.IsWhole)
  (arg12 : Memref sig .tc .vmem S1x32 .f32) (harg12 : arg12.IsWhole)
  (arg13 : Memref sig .tc .vmem S32x32 .f32) (harg13 : arg13.IsWhole)
  (arg14 : Memref sig .tc .vmem S1x32 .f32) (harg14 : arg14.IsWhole)
  (arg15 : Memref sig .tc .vmem S32x2 .f32) (harg15 : arg15.IsWhole)
  (arg16 : Memref sig .tc .vmem S1x2 .f32) (harg16 : arg16.IsWhole)
  (arg17 : Memref sig .tc .vmem S4096x2 .f32) (harg17 : arg17.IsWhole)
  (arg18 : Memref sig .tc .vmem S4096x1 .f32) (harg18 : arg18.IsWhole)
  (arg19 : Memref sig .tc .vmem S4224x64 .f32) (harg19 : arg19.IsWhole)
  (x1 : S200.Idx → Elt F .i32)
  (x2 : S200.Idx → Elt F .i32)
  (x3 : S8000x32.Idx → Elt F .f32)
  (x4 : S1x1x8000.Idx → Elt F .i32)
  (x5 : S32x32.Idx → Elt F .bf16)
  (x6 : S1x32.Idx → Elt F .f32)
  (x7 : S32x64.Idx → Elt F .bf16)
  (x8 : S1x64.Idx → Elt F .f32)
  (x9 : S32x32.Idx → Elt F .f32)
  (x10 : S1x32.Idx → Elt F .f32)
  (x11 : S32x32.Idx → Elt F .f32)
  (x12 : S1x32.Idx → Elt F .f32)
  (x13 : S32x32.Idx → Elt F .f32)
  (x14 : S1x32.Idx → Elt F .f32)
  (x15 : S32x2.Idx → Elt F .f32)
  (x16 : S1x2.Idx → Elt F .f32)
  (x17 : S4096x2.Idx → Elt F .f32)

/-- The blocks the point function reads. -/
abbrev ins5 : sProp 𝕄 := iprop(own c arg3 x3 ∗ own c arg5 x5 ∗ own c arg6 x6 ∗ own c arg7 x7 ∗ own c arg8 x8)

/-- The slow path's point features. -/
theorem part1_run (v8 : BitVec 32) {Q : (Σ' (v59 : FVec F S8000x64 .bf16) (v60 : IVec S64x8000 32) (v61 : BitVec 32) (v75 : BitVec 1), BitVec 32) → sProp 𝕄} :
    iprop(ins5 c arg3 arg5 arg6 arg7 arg8 x3 x5 x6 x7 x8
      ∗ (∀ v61 v75 v76, ins5 c arg3 arg5 arg6 arg7 arg8 x3 x5 x6 x7 x8 -∗ Q ⟨k0_pay2 x3 x5 x6 x7 x8, rows64, v61, v75, v76⟩))
      ⊢ wpB c (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8) Q := by
  rw [k0_part1_eq_skeleton]
  unfold k0_part1_skel
  simp only [Prog.lift, Prog.bind_op, Prog.bind_ret, Prog.pure_eq_ret]
  iintro ⟨⟨H3, H5, H6, H7, H8⟩, HQ⟩
  iapply (ld c arg3 x3 zero2) $$ H3; iintro H3
  iapply (ld c arg5 x5 zero2) $$ H5; iintro H5
  iapply (ld c arg6 x6 zero2) $$ H6; iintro H6
  iapply (ld c arg7 x7 zero2) $$ H7; iintro H7
  iapply (ld c arg8 x8 zero2) $$ H8; iintro H8
  iapply ret_run
  iapply HQ
  isplitl [H3]; · iexact H3
  isplitl [H5]; · iexact H5
  isplitl [H6]; · iexact H6
  isplitl [H7]; · iexact H7
  iexact H8

/-- One window of the slow path. -/
theorem trip_run (v3 : Vec F S1x1x8000 .i32) (v6 v8 : BitVec 32) (h6 : v6.toNat < 4096) (h8 : v8.toNat < 4096) (hw2 : k0_chk2 v6 v8) (h3 : k0_cond3 v6 v8 = 1#1) (v59 : FVec F S8000x64 .bf16)
    (v60 : IVec S64x8000 32) (A : AccT F) (k : Fin (k0_t1_loop v6 v8).trips) :
    own c arg19 (slowAcc v3 v6 v8 v59 v60 A k.val)
      ⊢ wpB c (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3 v6 v8 hw2 h3 v59 v60 k ())
          fun _ => own c arg19 (slowAcc v3 v6 v8 v59 v60 A (k.val + 1)) := by
  have ho := off3_eq v6 v8 h6 h8 h3 k
  unfold k0_t1_body
  simp only [Prog.lift, Prog.bind_op, Prog.bind_ret, Prog.pure_eq_ret]
  have hs : slowAcc v3 v6 v8 v59 v60 A (k.val + 1) = put 64 ((v6.toNat / 64 + k.val) * 64)
        (k0_pay7 v3 v6 v8 v59 v60 k (win 64 ((v6.toNat / 64 + k.val) * 64) (slowAcc v3 v6 v8 v59 v60 A k.val))) (slowAcc v3 v6 v8 v59 v60 A k.val) := by
    rw [slowAcc, dif_pos k.isLt]
  rw [hs]
  generalize slowAcc v3 v6 v8 v59 v60 A k.val = B
  iintro H
  iapply (ldr c arg19 B _) $$ H; iintro H
  iapply (ldr c arg19 B _) $$ H; iintro H
  rw [win_rect ho]
  iapply (st c arg19 B _ _ _ (put_hit ho _ _ B) (put_miss ho _ _ B)) $$ H; iintro H
  iapply ret_run
  iexact H

/-- The slow path. -/
theorem slow_run (v3 : Vec F S1x1x8000 .i32) (v6 v8 : BitVec 32) (h6 : v6.toNat < 4096) (h8 : v8.toNat < 4096) (hw2 : k0_chk2 v6 v8) (h3 : k0_cond3 v6 v8 = 1#1) (v59 : FVec F S8000x64 .bf16)
    (v60 : IVec S64x8000 32) (v61 : BitVec 32) (v75 : BitVec 1) (v76 : BitVec 32) (A : AccT F) {β : Type} {kk : Prog (TpuEff nD τ sig (Elt F) Λ₀ .tc) β} {Q : β → sProp 𝕄} :
    iprop(own c arg19 A ∗ (own c arg19 (slowAcc v3 v6 v8 v59 v60 A (k0_t1_loop v6 v8).trips) -∗ wpB c kk Q))
      ⊢ wpB c (do
          Scf.Loop.for (k0_t1_loop v6 v8) (k0_t1_ok v6 v8 hw2 h3) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3 v6 v8 hw2 h3 v59 v60)
          Scf.Loop.for (k0_t2_loop v6 v8) (k0_t2_ok v6 v8 hw2 h3) ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3 v6 v8 hw2 h3 v59 v60 v61 v75 v76)
          kk) Q := by
  iintro ⟨H, HQ⟩
  iapply (Scf.wp_for_bind _ _ Set.univ _ _ _ _ _ _ (fun k _ => own c arg19 (slowAcc v3 v6 v8 v59 v60 A k)) (fun k _ => trip_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3 v6 v8 h6 h8 hw2 h3 v59 v60 A k)) $$ [H]
  · iexact H
  iintro %_ H
  iapply (Scf.wp_for_bind _ _ Set.univ _ _ _ _ _ _ (fun _ _ => own c arg19 (slowAcc v3 v6 v8 v59 v60 A (k0_t1_loop v6 v8).trips))
    (fun k _ => absurd (lt_of_lt_of_eq k.isLt (t2_trips v6 v8 h6 h8 h3)) (Nat.not_lt_zero _))) $$ [H]
  · iexact H
  iintro %_ H
  iapply HQ
  iexact H

/-- What the first part of a point reads besides the accumulator. -/
abbrev insA : sProp 𝕄 := iprop(own c arg1 x1 ∗ own c arg2 x2 ∗ own c arg4 x4 ∗ ins5 c arg3 arg5 arg6 arg7 arg8 x3 x5 x6 x7 x8)

/-- The zeroing at the first point. -/
theorem start_run (A : AccT F) {β : Type} {k : Prog (TpuEff nD τ sig (Elt F) Λ₀ .tc) β} {Q : β → sProp 𝕄} :
    iprop(own c arg19 A ∗ (own c arg19 (accStart i A) -∗ wpB c k Q)) ⊢ wpB c (do
      if k0_h1 : Scalar.cmpi .ne (Scalar.extui (Scalar.cmpi .eq (BitVec.ofNat 32 (i 0).val) 0#32) : BitVec 32) 0#32 = 1#1 then do
        let v39 : Vec F S4224x64 .f32 ← Prog.lift (.load arg19 (Rect.unit (s := S4224x64) ![0, 0] S4224x64.size inb_S4224x64_S4224x64_0_0).toLoadRect (View.loadsAt_vmem h_S4224x64))
        Prog.lift (.store arg19 (Rect.unit (s := S4224x64) ![0, 0] S4224x64.size inb_S4224x64_S4224x64_0_0) (k0_pay4 (F := F)) Finset.univ (View.stores_vmem_bits_univ h_S4224x64 rfl) (.inl rfl))
        pure ⟨⟩
      else do
        pure ⟨⟩
      k) Q := by
  iintro ⟨H, HQ⟩
  unfold accStart
  by_cases hz : (i 0).val = 0
  · rw [if_pos hz]
    simp only [dif_pos ((cond1_iff i).mpr hz), Prog.lift, Prog.bind_op, Prog.bind_ret, Prog.pure_eq_ret]
    iapply (ld c arg19 A zero2) $$ H; iintro H
    iapply (stw c arg19 A k0_pay4 zero2) $$ H; iintro H
    iapply HQ
    iexact H
  · rw [if_neg hz]
    simp only [dif_neg (fun h => hz ((cond1_iff i).mp h)), Prog.bind_ret, Prog.pure_eq_ret]
    iapply HQ
    iexact H

/-- The word a load at point `i` of a table of the points' words reads. -/
theorem word_eq (X : S200.Idx → Elt F .i32) (h1 : (Rect.unit (s := S200) (k0_off1 i) S1.size (k0_off1_inb i)).shape.numel = 1) :
    X ((Rect.unit (s := S200) (k0_off1 i) S1.size (k0_off1_inb i)).emb (Shape.Idx.first (h1.symm ▸ Nat.one_pos))) = wordAt i X := by
  refine congrArg X (Rect.emb_eq_of_coords _ _ _ (fun a => ?_))
  obtain rfl : a = 0 := Subsingleton.elim (α := Fin 1) _ _
  have h0 : ((Shape.Idx.first (h1.symm ▸ Nat.one_pos) : (Rect.unit (s := S200) (k0_off1 i) S1.size (k0_off1_inb i)).shape.Idx) 0).val = 0 :=
    Nat.lt_one_iff.mp ((Shape.Idx.first (h1.symm ▸ Nat.one_pos) : (Rect.unit (s := S200) (k0_off1 i) S1.size (k0_off1_inb i)).shape.Idx) 0).isLt
  show (i 0).val = k0_off1 i 0 + 1 * _
  rw [h0, k0_off1_eq]
  rfl

/-- The first part of a point: the accumulator with the point's block added. -/
theorem part3_run (h6 : (wordAt i x1).toNat < 4096) (h8 : (wordAt i x2).toNat < 4096) (A : AccT F) {Q : BitVec 1 → sProp 𝕄} :
    iprop(insA c arg1 arg2 arg3 arg4 arg5 arg6 arg7 arg8 x1 x2 x3 x4 x5 x6 x7 x8 ∗ own c arg19 A
      ∗ (∀ v, insA c arg1 arg2 arg3 arg4 arg5 arg6 arg7 arg8 x1 x2 x3 x4 x5 x6 x7 x8
        -∗ own c arg19 (accNext x4 (wordAt i x1) (wordAt i x2) x3 x5 x6 x7 x8 (accStart i A)) -∗ Q v))
      ⊢ wpB c (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [k0_part3_eq_skeleton]
  unfold k0_part3_skel
  iintro ⟨⟨H1, H2, H4, H5⟩, HA, HQ⟩
  iapply (start_run c i arg19 A)
  isplitl [HA]; · iexact HA
  iintro HA
  generalize accStart i A = B
  simp only [Prog.lift, Prog.bind_op, Prog.bind_ret, Prog.pure_eq_ret]
  iapply (ld c arg4 x4 zero3) $$ H4; iintro H4
  iapply bind_run
  iapply (ldw c arg1 x1 _) $$ H1; iintro H1
  rw [word_eq i x1 numel1_S1]
  generalize wordAt i x1 = v6 at h6 ⊢
  iapply (wp_assume 𝒱₀ (c : Thread nD τ) none Set.univ (chk1 v6 h6))
  iapply bind_run
  iapply (ldw c arg2 x2 _) $$ H2; iintro H2
  rw [word_eq i x2 numel1_S1]
  generalize wordAt i x2 = v8 at h8 ⊢
  iapply (wp_assume 𝒱₀ (c : Thread nD τ) none Set.univ (chk2 v6 v8 h6 h8))
  unfold accNext
  by_cases h2 : k0_cond2 v6 v8 = 1#1
  · have h3 : ¬ k0_cond3 v6 v8 = 1#1 := fun h => (cond3_iff v6 v8).mp h h2
    rw [if_pos h2]
    simp only [dif_pos h2, dif_neg h3]
    icases H5 with ⟨H3, H5, H6, H7, H8⟩
    iapply (ld c arg3 x3 zero2) $$ H3; iintro H3
    iapply (ld c arg5 x5 zero2) $$ H5; iintro H5
    iapply (ld c arg6 x6 zero2) $$ H6; iintro H6
    iapply (ld c arg7 x7 zero2) $$ H7; iintro H7
    iapply (ld c arg8 x8 zero2) $$ H8; iintro H8
    iapply (ldr c arg19 B _) $$ HA; iintro HA
    iapply (ldr c arg19 B _) $$ HA; iintro HA
    rw [win_rect (off2_eq v6 h6)]
    iapply (st c arg19 B _ _ _ (put_hit (off2_eq v6 h6) _ _ B) (put_miss (off2_eq v6 h6) _ _ B)) $$ HA; iintro HA
    iapply ret_run
    iapply HQ $$ [H1 H2 H4 H3 H5 H6 H7 H8] [HA]
    · isplitl [H1]; · iexact H1
      isplitl [H2]; · iexact H2
      isplitl [H4]; · iexact H4
      isplitl [H3]; · iexact H3
      isplitl [H5]; · iexact H5
      isplitl [H6]; · iexact H6
      isplitl [H7]; · iexact H7
      iexact H8
    · iexact HA
  · have h3 : k0_cond3 v6 v8 = 1#1 := (cond3_iff v6 v8).mpr h2
    rw [if_neg h2]
    simp only [dif_neg h2, dif_pos h3]
    iapply bind_run
    iapply (part1_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x5 x6 x7 x8 v8)
    isplitl [H5]; · iexact H5
    iintro %v61 %v75 %v76 H5
    iapply (slow_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x4 v6 v8 h6 h8 (chk2 v6 v8 h6 h8) h3 (k0_pay2 x3 x5 x6 x7 x8) rows64 v61 v75 v76 B)
    isplitl [HA]; · iexact HA
    iintro HA
    iapply ret_run
    iapply HQ $$ [H1 H2 H4 H5] [HA]
    · isplitl [H1]; · iexact H1
      isplitl [H2]; · iexact H2
      isplitl [H4]; · iexact H4
      iexact H5
    · iexact HA

/-- What the last point reads besides the accumulator, up to the last two blocks. -/
abbrev insB : sProp 𝕄 := iprop(own c arg9 x9 ∗ own c arg10 x10 ∗ own c arg11 x11 ∗ own c arg12 x12 ∗ own c arg13 x13 ∗ own c arg14 x14 ∗ own c arg15 x15)

/-- The last point's logits. -/
theorem part2_run (A : AccT F) {Q : FVec F S4096x2 .f32 → sProp 𝕄} :
    iprop(insB c arg9 arg10 arg11 arg12 arg13 arg14 arg15 x9 x10 x11 x12 x13 x14 x15 ∗ own c arg19 A
      ∗ (insB c arg9 arg10 arg11 arg12 arg13 arg14 arg15 x9 x10 x11 x12 x13 x14 x15 -∗ own c arg19 A -∗ Q (k0_pay3 (win 4096 0 A) x9 x10 x11 x12 x13 x14 x15)))
      ⊢ wpB c (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [k0_part2_eq_skeleton]
  unfold k0_part2_skel
  simp only [Prog.lift, Prog.bind_op, Prog.bind_ret, Prog.pure_eq_ret]
  iintro ⟨⟨H9, H10, H11, H12, H13, H14, H15⟩, HA, HQ⟩
  iapply (ldr c arg19 A _) $$ HA; iintro HA
  rw [win_rect (n := 4096) (o := 0) rfl inb_S4224x64_S4096x64_0_0 A]
  iapply (ld c arg9 x9 zero2) $$ H9; iintro H9
  iapply (ld c arg10 x10 zero2) $$ H10; iintro H10
  iapply (ld c arg11 x11 zero2) $$ H11; iintro H11
  iapply (ld c arg12 x12 zero2) $$ H12; iintro H12
  iapply (ld c arg13 x13 zero2) $$ H13; iintro H13
  iapply (ld c arg14 x14 zero2) $$ H14; iintro H14
  iapply (ld c arg15 x15 zero2) $$ H15; iintro H15
  iapply ret_run
  iapply HQ $$ [H9 H10 H11 H12 H13 H14 H15] [HA]
  · isplitl [H9]; · iexact H9
    isplitl [H10]; · iexact H10
    isplitl [H11]; · iexact H11
    isplitl [H12]; · iexact H12
    isplitl [H13]; · iexact H13
    isplitl [H14]; · iexact H14
    iexact H15
  · iexact HA

/-- All the blocks a point reads. -/
abbrev insAll : sProp 𝕄 := iprop(insA c arg1 arg2 arg3 arg4 arg5 arg6 arg7 arg8 x1 x2 x3 x4 x5 x6 x7 x8
  ∗ insB c arg9 arg10 arg11 arg12 arg13 arg14 arg15 x9 x10 x11 x12 x13 x14 x15 ∗ own c arg16 x16 ∗ own c arg17 x17)

/-- The accumulator after point `i` from the accumulator before it. -/
def accAfter (A : AccT F) : AccT F := accNext x4 (wordAt i x1) (wordAt i x2) x3 x5 x6 x7 x8 (accStart i A)

/-- The result block after point `i`: the table at the last point, as it was before. -/
def outAfter (A : AccT F) (x18 : S4096x1.Idx → Elt F .f32) : S4096x1.Idx → Elt F .f32 :=
  if (i 0).val = 199 then tableOf (accAfter i x1 x2 x3 x4 x5 x6 x7 x8 A) x9 x10 x11 x12 x13 x14 x15 x16 x17 else x18

/-- One point of the body. -/
theorem point_run (h6 : (wordAt i x1).toNat < 4096) (h8 : (wordAt i x2).toNat < 4096) (A : AccT F) (x18 : S4096x1.Idx → Elt F .f32) {Q : PUnit → sProp 𝕄} :
    iprop(insAll c arg1 arg2 arg3 arg4 arg5 arg6 arg7 arg8 arg9 arg10 arg11 arg12 arg13 arg14 arg15 arg16 arg17 x1 x2 x3 x4 x5 x6 x7 x8 x9 x10 x11 x12 x13 x14 x15 x16 x17 ∗ own c arg18 x18 ∗ own c arg19 A
      ∗ (insAll c arg1 arg2 arg3 arg4 arg5 arg6 arg7 arg8 arg9 arg10 arg11 arg12 arg13 arg14 arg15 arg16 arg17 x1 x2 x3 x4 x5 x6 x7 x8 x9 x10 x11 x12 x13 x14 x15 x16 x17 -∗ own c arg18 (outAfter i x1 x2 x3 x4 x5 x6 x7 x8 x9 x10 x11 x12 x13 x14 x15 x16 x17 A x18) -∗ own c arg19 (accAfter i x1 x2 x3 x4 x5 x6 x7 x8 A) -∗ Q ⟨⟩))
      ⊢ wpB c (cc0__seg_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [cc0__seg_kernel_eq_skeleton]
  unfold cc0__seg_kernel_skel
  iintro ⟨⟨HI, HB, H16, H17⟩, H18, HA, HQ⟩
  iapply bind_run
  iapply (part3_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 h6 h8 A)
  isplitl [HI]; · iexact HI
  isplitl [HA]; · iexact HA
  iintro %v HI HA
  unfold outAfter
  unfold accAfter
  generalize accNext x4 (wordAt i x1) (wordAt i x2) x3 x5 x6 x7 x8 (accStart i A) = B
  by_cases hl : (i 0).val = 199
  · rw [if_pos hl]
    simp only [dif_pos ((cond4_iff i).mpr hl)]
    iapply bind_run
    iapply (part2_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x9 x10 x11 x12 x13 x14 x15 B)
    isplitl [HB]; · iexact HB
    isplitl [HA]; · iexact HA
    iintro HB HA
    simp only [Prog.lift, Prog.bind_op, Prog.bind_ret, Prog.pure_eq_ret]
    iapply (ld c arg16 x16 zero2) $$ H16; iintro H16
    iapply (ld c arg17 x17 zero2) $$ H17; iintro H17
    iapply (ld c arg18 x18 zero2) $$ H18; iintro H18
    iapply (stw c arg18 x18 _ zero2) $$ H18; iintro H18
    iapply ret_run
    iapply HQ $$ [HI HB H16 H17] [H18] [HA]
    · isplitl [HI]; · iexact HI
      isplitl [HB]; · iexact HB
      isplitl [H16]; · iexact H16
      iexact H17
    · iexact H18
    · iexact HA
  · rw [if_neg hl]
    simp only [dif_neg (fun h => hl ((cond4_iff i).mp h)), Prog.bind_ret, Prog.pure_eq_ret]
    iapply ret_run
    iapply HQ $$ [HI HB H16 H17] [H18] [HA]
    · isplitl [HI]; · iexact HI
      isplitl [HB]; · iexact HB
      isplitl [H16]; · iexact H16
      iexact H17
    · iexact H18
    · iexact HA

end Body

end Cert.Proof.KI

end
-- ==== Proof.KI.Region.lean ====
/-
  The TensorCore call's proof data: each operand's block at each point, the accumulator after the points before, the table
  the last point leaves, and the body obligation, from the body's run at one point.
-/
module

public import proofs.«01_k».proof.Proof.KI.Body
public import Idealize.ShloMosaic.Lib.Pipeline.FrameBody

@[expose] public section

noncomputable section

namespace Cert.Proof.KI

open Cert.KernelIdeal Cert.KernelIdeal.Gen

open Idealize.ShloMosaic Idealize.ShloMosaic.TcCoe
open Idealize.ShloMosaic.SparseCore.Cfg (HIx Pay)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The contents of the buffers of a TensorCore, on every device. -/
abbrev Vals (F : FTy → Type) : Type := (c : Dev nD) → (b : Ref sig .tc) → Buf (Elt F) ((c : Thread nD τ).loc b)

variable (Vv : Vals F) (c : Dev nD)

/-- Window `w`'s block at point `t`, read off its array. -/
def iblk (w : Fin cfg0.W) (t : Fin cfg0.N) : ((cfg0.win w).xblock (cfg0.grid.coords t)).Idx → Elt F (cfg0.win w).elt :=
  ((cfg0.win w).blk t).view.read (Elt F) (Vv c (Pipeline.arrRef spec0 w))

/-- The accumulator after the first `n` points. -/
def accAt : ℕ → AccT F
  | 0 => k0_pay4
  | n + 1 => if h : n < cfg0.N then
      accAfter (grid0.coords ⟨n, h⟩) (iblk Vv c 0 ⟨n, h⟩) (iblk Vv c 1 ⟨n, h⟩) (iblk Vv c 2 ⟨n, h⟩) (iblk Vv c 3 ⟨n, h⟩) (iblk Vv c 4 ⟨n, h⟩) (iblk Vv c 5 ⟨n, h⟩) (iblk Vv c 6 ⟨n, h⟩) (iblk Vv c 7 ⟨n, h⟩) (accAt n)
    else accAt n

/-- The table the last point leaves, said at any point. -/
def tabAt (t : Fin cfg0.N) : S4096x1.Idx → Elt F .f32 :=
  tableOf (accAt Vv c (t.val + 1)) (iblk Vv c 8 t) (iblk Vv c 9 t) (iblk Vv c 10 t) (iblk Vv c 11 t) (iblk Vv c 12 t) (iblk Vv c 13 t) (iblk Vv c 14 t) (iblk Vv c 15 t) (iblk Vv c 16 t)

/-- Between points: the scratch at the accumulator of the points before (at anything before the first). -/
def accInv (n : ℕ) : sProp 𝕄 := iprop(∃ A, ⌜0 < n → A = accAt Vv c n⌝ ∗ own c (Memref.whole cc0_scratch0) A)

/-- The pairs the TensorCore's waits may have recorded: those at the lowest level. -/
def recAt : Set (SemLoc sig × HIx 1) := {p | (KC (F := F)).lev (SparseCore.T c, p.1) p.2 ≤ 0}

/-- The call's proof data. -/
def dat : Dat τ (Elt F) (HIx 1) ℕ UU ℕ cfg0 c where
  A w := Vv c (Pipeline.arrRef spec0 w)
  after w t := match w with | 0 => iblk Vv c 0 t | 1 => iblk Vv c 1 t | 2 => iblk Vv c 2 t | 3 => iblk Vv c 3 t | 4 => iblk Vv c 4 t | 5 => iblk Vv c 5 t | 6 => iblk Vv c 6 t | 7 => iblk Vv c 7 t | 8 => iblk Vv c 8 t | 9 => iblk Vv c 9 t | 10 => iblk Vv c 10 t | 11 => iblk Vv c 11 t | 12 => iblk Vv c 12 t | 13 => iblk Vv c 13 t | 14 => iblk Vv c 14 t | 15 => iblk Vv c 15 t | 16 => iblk Vv c 16 t | 17 => tabAt Vv c t | ⟨_ + 18, h⟩ => absurd h (Nat.not_lt.2 (Nat.le_add_left _ _))
  Φ t := accInv Vv c t.val
  q _ := fullShare
  owed _ := (KC (F := F)).Otc c 0
  recorded _ := recAt (F := F) c

theorem coords_val (t : Fin cfg0.N) : (grid0.coords t 0).val = t.val :=
  (show ∀ t : Fin grid0.N, (grid0.coords t 0).val = t.val by decide +kernel) t

/-- An input window's buffer holds its block before the body, at every point. -/
theorem before_in (w : Fin 18) (hw : w ≠ 17) (t : Fin cfg0.N) (d) : (dat Vv c).before w t d = (dat Vv c).fetched w t d := by
  match w, hw with
  | 0, _   | 1, _   | 2, _   | 3, _   | 4, _   | 5, _   | 6, _   | 7, _   | 8, _   | 9, _   | 10, _   | 11, _   | 12, _   | 13, _   | 14, _   | 15, _   | 16, _ => exact (dat Vv c).before_in_eq_fetched _ rfl (fun _ => rfl) (fun _ _ _ => rfl) (fun t => rfl) t d
  | 17, hw => exact absurd rfl hw
  | ⟨_ + 18, h⟩, _ => exact absurd h (Nat.not_lt.2 (Nat.le_add_left _ _))

theorem accAt_succ (t : Fin cfg0.N) (A : AccT F) (hA : 0 < t.val → A = accAt Vv c t.val) :
    accAfter (grid0.coords t) (iblk Vv c 0 t) (iblk Vv c 1 t) (iblk Vv c 2 t) (iblk Vv c 3 t) (iblk Vv c 4 t) (iblk Vv c 5 t) (iblk Vv c 6 t) (iblk Vv c 7 t) A = accAt Vv c (t.val + 1) := by
  rw [accAt, dif_pos t.isLt]
  by_cases h : 0 < t.val
  · rw [hA h]
  · have h0 : (grid0.coords t 0).val = 0 := by rw [coords_val]; omega
    unfold accAfter accStart
    rw [if_pos h0, if_pos h0]

variable (h1 : ∀ j, (Vv c main_v10 j : BitVec 32).toNat < 4096) (h2 : ∀ j, (Vv c main_v12 j : BitVec 32).toNat < 4096)

theorem accInv_intro (n : ℕ) (A : AccT F) (h : A = accAt Vv c n) : (own c (Memref.whole cc0_scratch0) A : sProp 𝕄) ⊢ accInv Vv c n := by
  unfold accInv
  iintro H
  iexists A
  isplitr; · ipureintro; exact fun _ => h
  iexact H

/-- What the body leaves in the result's buffer is what the proof data say it leaves there. -/
theorem out_left (t : Fin cfg0.N) (A : AccT F) (hA : 0 < t.val → A = accAt Vv c t.val) (d) :
    (own c (st0_17 t) (outAfter (grid0.coords t) (iblk Vv c 0 t) (iblk Vv c 1 t) (iblk Vv c 2 t) (iblk Vv c 3 t) (iblk Vv c 4 t) (iblk Vv c 5 t) (iblk Vv c 6 t) (iblk Vv c 7 t) (iblk Vv c 8 t) (iblk Vv c 9 t) (iblk Vv c 10 t) (iblk Vv c 11 t) (iblk Vv c 12 t) (iblk Vv c 13 t) (iblk Vv c 14 t) (iblk Vv c 15 t) (iblk Vv c 16 t) A ((dat Vv c).before 17 t d)) : sProp 𝕄)
      ⊢ (match cfg0.idle 17 (cfg0.grid.coords t) with
        | true => (match (cfg0.win 17).flush t with
          | false => iprop(∃ d, owns (c : Thread nD τ) ((cfg0.win 17).stage (cfg0.slots t 17)) fullShare ((dat Vv c).before 17 t d))
          | true => owns (c : Thread nD τ) ((cfg0.win 17).stage (cfg0.slots t 17)) fullShare ((dat Vv c).after 17 t))
        | false => owns (c : Thread nD τ) ((cfg0.win 17).stage (cfg0.slots t 17)) fullShare ((dat Vv c).after 17 t)) := by
  have hv := coords_val t
  have hidle : cfg0.idle 17 (cfg0.grid.coords t) = !(k0_cond4 (grid0.coords t) == 1#1) := rfl
  unfold outAfter
  by_cases h : t.val = 199
  · have hc : k0_cond4 (grid0.coords t) = 1#1 := (cond4_iff _).2 (hv.trans h)
    rw [hidle, hc, if_pos (hv.trans h), accAt_succ Vv c t A hA]
    exact Entails.refl _
  · have hc : ¬ k0_cond4 (grid0.coords t) = 1#1 := fun h' => h (hv.symm.trans ((cond4_iff _).1 h'))
    have hf : (cfg0.win 17).flush t = false := Bool.eq_false_iff.2 fun h' => by
      have hf := (flush0_17 t).1 h'
      have ht : t.val < 200 := lt_of_lt_of_eq t.isLt N_0
      omega
    rw [hidle, hf, show (k0_cond4 (grid0.coords t) == 1#1) = false from beq_eq_false_iff_ne.2 hc, if_neg (fun h' => h (hv.symm.trans h'))]
    show _ ⊢ iprop(∃ d, owns (c : Thread nD τ) ((cfg0.win 17).stage (cfg0.slots t 17)) fullShare ((dat Vv c).before 17 t d))
    iintro H
    iexists d
    iexact H

set_option maxHeartbeats 4000000 in
include h1 h2 in
/-- The body at every point. -/
theorem body_ob : BodyObligation (dat Vv c) (defs₀ (F := F)) 𝒱₀ none Set.univ := fun t => by
  rw [bigSep_W0, bigSep_W0]
  show iprop(accInv Vv c t.val ∗ _) ⊢ wpB c (bodyAt0 t) _
  unfold accInv
  iintro ⟨⟨%A, %hA, HA⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  have hacc := accAt_succ Vv c t A hA
  rw [before_in Vv c 0 (by decide) t d0]
  rw [before_in Vv c 1 (by decide) t d1]
  rw [before_in Vv c 2 (by decide) t d2]
  rw [before_in Vv c 3 (by decide) t d3]
  rw [before_in Vv c 4 (by decide) t d4]
  rw [before_in Vv c 5 (by decide) t d5]
  rw [before_in Vv c 6 (by decide) t d6]
  rw [before_in Vv c 7 (by decide) t d7]
  rw [before_in Vv c 8 (by decide) t d8]
  rw [before_in Vv c 9 (by decide) t d9]
  rw [before_in Vv c 10 (by decide) t d10]
  rw [before_in Vv c 11 (by decide) t d11]
  rw [before_in Vv c 12 (by decide) t d12]
  rw [before_in Vv c 13 (by decide) t d13]
  rw [before_in Vv c 14 (by decide) t d14]
  rw [before_in Vv c 15 (by decide) t d15]
  rw [before_in Vv c 16 (by decide) t d16]
  iapply (point_run c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (Memref.whole cc0_scratch0) _ (iblk Vv c 0 t) (iblk Vv c 1 t) (iblk Vv c 2 t) (iblk Vv c 3 t) (iblk Vv c 4 t) (iblk Vv c 5 t) (iblk Vv c 6 t) (iblk Vv c 7 t) (iblk Vv c 8 t) (iblk Vv c 9 t) (iblk Vv c 10 t) (iblk Vv c 11 t) (iblk Vv c 12 t) (iblk Vv c 13 t) (iblk Vv c 14 t) (iblk Vv c 15 t) (iblk Vv c 16 t) (h1 _) (h2 _) A ((dat Vv c).before 17 t d17))
  isplitl [H0 H1 H2 H3 H4 H5 H6 H7 H8 H9 H10 H11 H12 H13 H14 H15 H16]
  · isplitl [H0 H1 H2 H3 H4 H5 H6 H7]
    · isplitl [H0]; · iexact H0
      isplitl [H1]; · iexact H1
      isplitl [H3]; · iexact H3
      isplitl [H2]; · iexact H2
      isplitl [H4]; · iexact H4
      isplitl [H5]; · iexact H5
      isplitl [H6]; · iexact H6
      iexact H7
    isplitl [H8 H9 H10 H11 H12 H13 H14]
    · isplitl [H8]; · iexact H8
      isplitl [H9]; · iexact H9
      isplitl [H10]; · iexact H10
      isplitl [H11]; · iexact H11
      isplitl [H12]; · iexact H12
      isplitl [H13]; · iexact H13
      iexact H14
    isplitl [H15]; · iexact H15
    iexact H16
  isplitl [H17]; · iexact H17
  isplitl [HA]; · iexact HA
  iintro ⟨⟨H0, H1, H3, H2, H4, H5, H6, H7⟩, ⟨H8, H9, H10, H11, H12, H13, H14⟩, H15, H16⟩ H17 HA
  isplitl [HA]
  · iapply (show _ ⊢ (dat Vv c).Φ t.succ from accInv_intro Vv c (t.val + 1) _ hacc) $$ HA
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iapply (out_left Vv c t A hA d17) $$ H17

end Cert.Proof.KI

end
-- ==== Proof.KI.Seg.lean ====
/-
  The TensorCore call as a region of @main: entered with every operand's array, left with them unchanged and the table in the
  result's array.
-/
module

public import proofs.«01_k».proof.Proof.KI.Region
public import Idealize.ShloMosaic.Lib.Pipeline.ValueKit.Geometry

@[expose] public section

noncomputable section

namespace Cert.Proof.KI

open Cert.KernelIdeal Cert.KernelIdeal.Gen

open Idealize.ShloMosaic Idealize.ShloMosaic.TcCoe
open Idealize.ShloMosaic.SparseCore.Cfg (HIx Pay)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A device's buffers as the TensorCore's references name them. -/
abbrev valsOf (W : Dev nD → Valuation τ sig (Elt F)) : Vals F := fun c b => W c (Proc.devRef .tc b)

variable (W : Dev nD → Valuation τ sig (Elt F))

abbrev adm : (p : Fin 1) → (pcfgs (F := F) p).Adm := fun q => (cfgs q).toPCfg_adm

def dats : (p : Fin 1) → (c : Dev nD) → Dat τ (Elt F) (HIx 1) ℕ UU ℕ (Pipeline.pin (pcfgs (F := F)) adm p) c
  | 0, c => dat (valsOf W) c

theorem lastPt : 199 < cfg0.N := by rw [show cfg0.N = 200 from N_0]; decide

/-- The table the call leaves. -/
def tableAt (c : Dev nD) : S4096x1.Idx → Elt F .f32 := tabAt (valsOf W) c ⟨199, lastPt⟩

/-- The buffers after the call: the result's array at the table, the others as they were. -/
def afterCall (c : Dev nD) : Valuation τ sig (Elt F) := Function.update (W c) (Proc.devRef .tc main_v25) (tableAt W c)

theorem afterCall_of_ne (c : Dev nD) (b : Ref sig .tc) (h : b ≠ main_v25) : afterCall W c (Proc.devRef .tc b) = W c (Proc.devRef .tc b) :=
  Function.update_of_ne (StableHlo.devRef_ne_of_ne (τ := τ) h) _ _

theorem arr_after (c : Dev nD) (w : Fin 18) : (dat (valsOf W) c).arrAt w cfg0.N = afterCall W c (Proc.devRef .tc (Pipeline.arrRef spec0 w)) := by
  by_cases hw : w = 17
  · subst hw
    refine ((dat (valsOf W) c).arrAt_eq_of_after_last 17 ⟨199, lastPt⟩ (by decide +kernel) (tableAt W c) (fun j => rfl)).trans ?_
    exact (Function.update_self (Proc.devRef (τ := τ) .tc main_v25) (tableAt W c) (W c)).symm
  · have hin : (cfg0.win w).isOut = false := (show ∀ w : Fin 18, w ≠ 17 → (cfg0.win w).isOut = false by decide) w hw
    have hne : Pipeline.arrRef spec0 w ≠ main_v25 := (show ∀ w : Fin 18, w ≠ 17 → Pipeline.arrRef spec0 w ≠ main_v25 by decide) w hw
    exact ((dat (valsOf W) c).arrAt_in w hin _).trans (afterCall_of_ne W c _ hne).symm

/-- What the core owes at the lowest level alone has been waited for. -/
abbrev owes0 (c : Dev nD) : sProp 𝕄 := Pipeline.owesWithin c ((KC (F := F)).Otc c 0) (recAt (F := F) c)

theorem rest_inv (c : Dev nD) : (Pipeline.scopedRest spec0 c : sProp 𝕄) ⊢ accInv (valsOf W) c 0 := by
  rw [scopedRest0_eq]
  unfold accInv
  iintro ⟨%f, H⟩
  iexists f
  isplitr; · ipureintro; exact fun h => absurd h (Nat.lt_irrefl 0)
  iapply (Entails.of_eq (owns_whole_eq (c : Thread nD τ) cc0_scratch0 fullShare f).symm)
  iexists f
  isplitr; · ipureintro; rfl
  iexact H

theorem inv_rest (c : Dev nD) (n : ℕ) : accInv (valsOf W) c n ⊢ (Pipeline.scopedRest spec0 c : sProp 𝕄) := by
  rw [scopedRest0_eq]
  unfold accInv
  iintro ⟨%A, -, H⟩
  ihave H := (Entails.of_eq (owns_whole_eq (c : Thread nD τ) cc0_scratch0 fullShare A)) $$ H
  icases H with ⟨%f, -, H⟩
  iexists f
  iexact H

variable (h1 : ∀ c j, (W c (Proc.devRef .tc main_v10) j : BitVec 32).toNat < 4096) (h2 : ∀ c j, (W c (Proc.devRef .tc main_v12) j : BitVec 32).toNat < 4096)

/-- The call as a region. -/
def seg : Pipeline.RegionSeg (pcfgs (F := F)) adm (dats W) none (defs₀ (F := F)) 𝒱₀ (KC (F := F)).L (KC (F := F)).lev 0 where
  win := (launch0.toP (Val := Elt F)).win.to₀
  block_pos := (launch0.toP (Val := Elt F)).block_pos
  stage_whole := (launch0.toP (Val := Elt F)).stage_whole
  K := PEmpty
  osem k := k.elim
  ho := Pipeline.OwnSemFacts.none _
  hbody c := (body_ob (valsOf W) c (h1 c) (h2 c)).loose
  hwaits c := Pipeline.cellsWaits_of_cut (Pipeline.pin (pcfgs (F := F)) adm) (dats W) none 0 c 0 ((KC (F := F)).Otc c 0) (fun _ => rfl)
    (fun _ _ => Finset.mem_univ _) (fun _ _ => le_rfl)
    (fun g i hg => ⟨Finset.mem_univ _, lt_of_lt_of_le (Nat.succ_pos _) (SparseCore.Cfg.lev_of_Otc_pos hg)⟩)
  pre c := iprop(StableHlo.held (c.tc : Thread nD τ) (Pipeline.arrRefs spec0) (W c) ∗ owes0 (F := F) c)
  post c := iprop(StableHlo.held (c.tc : Thread nD τ) (Pipeline.arrRefs spec0) (afterCall W c) ∗ owes0 (F := F) c)
  X _ := iprop(emp)
  Y _ := iprop(emp)
  Z _ := iprop(emp)
  hentry c := by
    rw [Pipeline.ownSems0_none, Pipeline.prefHeld_of_none _ rfl]
    have he := Pipeline.arrays_held (pcfgs (F := F)) adm (dats W) 0 launch0.toP c (fun _ => ite_self _) ((dats W 0 c).arrAt · 0) (W c) (fun _ => rfl)
    iintro ⟨⟨Ha, HO⟩, -, -⟩
    imodintro
    isplitl [Ha]; · iapply (Entails.of_eq he.symm) $$ Ha
    isplitr; · iempintro
    isplitl [HO]
    · icases HO with ⟨%Wd, %hW, HO⟩
      iexists Wd
      isplitr; · ipureintro; exact fun _ hp => Or.inl (hW hp)
      iexact HO
    isplitr <;> iempintro
  hin c := by
    iintro ⟨-, -, H⟩
    iapply (show _ ⊢ (dats W 0 c).Φ 0 from rest_inv W c) $$ H
  hout c := by
    rw [Pipeline.ownSems0_none]
    iintro H
    isplitr; · iempintro
    isplitr; · iempintro
    iapply (show (dats W 0 c).Φ (Fin.last (Pipeline.pin (pcfgs (F := F)) adm 0).N) ⊢ _ from inv_rest W c cfg0.N) $$ H
  hexit c := by
    have he := Pipeline.arrays_held (pcfgs (F := F)) adm (dats W) 0 launch0.toP c (fun _ => ite_self _) ((dats W 0 c).arrAt · cfg0.N) (afterCall W c) (arr_after W c)
    iintro ⟨Ha, HO, -, -⟩
    imodintro
    isplitl [Ha]; · iapply (Entails.of_eq he) $$ Ha
    icases HO with ⟨%Wd, %hW, HO⟩
    iexists Wd
    isplitr
    · ipureintro
      intro p hp
      rcases hW hp with h | ⟨w, s, h⟩
      · exact h
      · rw [h]; exact Nat.le_refl 0
    iexact HO

end Cert.Proof.KI

end
-- ==== Proof.KI.Tile.lean ====
/-
  One vector subcore's task: the table and the task's ids copied in, 3125 trips that gather sixteen entries each, the
  result copied out. What it leaves: the task's piece of the result is the gather of the table at the ids.
-/
module

public import proofs.«01_k».proof.Proof.KI.Common
public import Idealize.ShloMosaic.Lib.ShareLeaves

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabV" => (Memref.whole Cert.KernelIdeal.main_v26_scv : Memref Cert.KernelIdeal.sig Kind.scVector Space.hbm Cert.KernelIdeal.S4096 EltTy.f32)
local notation "idsV" => (Memref.whole Cert.KernelIdeal.main_v0_scv : Memref Cert.KernelIdeal.sig Kind.scVector Space.hbm Cert.KernelIdeal.S1600000 EltTy.i32)
local notation "outV" => (Memref.whole Cert.KernelIdeal.main_v27_scv : Memref Cert.KernelIdeal.sig Kind.scVector Space.hbm Cert.KernelIdeal.S1600000 EltTy.f32)
local notation "tS" => (Memref.whole Cert.KernelIdeal.cc1_scratch0 : Memref Cert.KernelIdeal.sig Kind.scVector Space.vmem Cert.KernelIdeal.S4096 EltTy.f32)
local notation "iS" => (Memref.whole Cert.KernelIdeal.cc1_scratch1 : Memref Cert.KernelIdeal.sig Kind.scVector Space.vmem Cert.KernelIdeal.S50000 EltTy.i32)
local notation "oS" => (Memref.whole Cert.KernelIdeal.cc1_scratch2 : Memref Cert.KernelIdeal.sig Kind.scVector Space.vmem Cert.KernelIdeal.S50000 EltTy.f32)

/-- Task `p`'s share of the table. -/
abbrev tq (p : Fin 2 × Fin 16) : PosShare TreeShare := ShareLeaves.leaf 5 fullShare (⟨p.2.val * 2 + p.1.val, by have := p.1.isLt; have := p.2.isLt; omega⟩ : Fin (2 ^ 5))

variable (d : Dev nD) (L : grid1.Coords)

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

abbrev rect1 (L : grid1.Coords) : Rect S1600000 := Rect.unit (s := S1600000) (k1_off1 L) S50000.size (k1_off1_inb L)
abbrev idsK (L : grid1.Coords) : Memref sig .scVector .hbm S50000 .i32 := (idsV).slice (rect1 L) (fun _ => rfl)
abbrev outK (L : grid1.Coords) : Memref sig .scVector .hbm S50000 .f32 := (outV).slice (rect1 L) (fun _ => rfl)

theorem set_idsK : (idsK L).view.set = pieceL L := by
  show ((idsV).view.slice (rect1 L)).set = _
  rw [View.set_slice]; exact Finset.map_refl
theorem set_outK : (outK L).view.set = pieceL L := by
  show ((outV).view.slice (rect1 L)).set = _
  rw [View.set_slice]; exact Finset.map_refl

theorem pts_idsK (f : Buf (Elt F) (idsLoc d)) :
    ((idsK L).view.loc (VT d L) ↦[(idsK L).view.set]{fullShare} f : sProp 𝕄) = idsLoc d ↦[pieceL L]{fullShare} f := by
  rw [set_idsK]
theorem pts_outK (f : Buf (Elt F) (outLoc d)) :
    ((outK L).view.loc (VT d L) ↦[(outK L).view.set]{fullShare} f : sProp 𝕄) = outLoc d ↦[pieceL L]{fullShare} f := by
  rw [set_outK]
theorem pts_tabV (q : PosShare TreeShare) (f : Buf (Elt F) (tabLoc d)) :
    ((tabV).view.loc (VT d L) ↦[(tabV).view.set]{q} f : sProp 𝕄) = tabLoc d ↦{q} f := by
  simp only [Memref.view_whole, View.set_whole]
theorem pts_tS (f : Buf (Elt F) ((VT d L).loc cc1_scratch0)) :
    ((tS).view.loc (VT d L) ↦[(tS).view.set]{fullShare} f : sProp 𝕄) = (VT d L).loc cc1_scratch0 ↦{fullShare} f := by
  simp only [Memref.view_whole, View.set_whole]
theorem pts_iS (f : Buf (Elt F) ((VT d L).loc cc1_scratch1)) :
    ((iS).view.loc (VT d L) ↦[(iS).view.set]{fullShare} f : sProp 𝕄) = (VT d L).loc cc1_scratch1 ↦{fullShare} f := by
  simp only [Memref.view_whole, View.set_whole]
theorem pts_oS (f : Buf (Elt F) ((VT d L).loc cc1_scratch2)) :
    ((oS).view.loc (VT d L) ↦[(oS).view.set]{fullShare} f : sProp 𝕄) = (VT d L).loc cc1_scratch2 ↦{fullShare} f := by
  simp only [Memref.view_whole, View.set_whole]

variable [FloatOps F] (tab : Buf (Elt F) (tabLoc d)) (ids : Buf (Elt F) (idsLoc d))

/-- The task's ids, as its copy lands them. -/
abbrev lids : S50000.Idx → BitVec 32 := (idsK L).view.read (Elt F) ids

theorem pts_tS_univ (f : Buf (Elt F) ((VT d L).loc cc1_scratch0)) :
    ((tS).view.loc (VT d L) ↦{fullShare} f : sProp 𝕄) = ((tS).view.loc (VT d L) ↦[(tS).view.set]{fullShare} f) := by
  simp only [Memref.view_whole, View.set_whole]
theorem pts_iS_univ (f : Buf (Elt F) ((VT d L).loc cc1_scratch1)) :
    ((iS).view.loc (VT d L) ↦{fullShare} f : sProp 𝕄) = ((iS).view.loc (VT d L) ↦[(iS).view.set]{fullShare} f) := by
  simp only [Memref.view_whole, View.set_whole]
theorem pts_oS_univ (f : Buf (Elt F) ((VT d L).loc cc1_scratch2)) :
    ((oS).view.loc (VT d L) ↦{fullShare} f : sProp 𝕄) = ((oS).view.loc (VT d L) ↦[(oS).view.set]{fullShare} f) := by
  simp only [Memref.view_whole, View.set_whole]

/-- A whole scratch filled from a copy holds what was copied. -/
theorem landed_tab : (tS).view.writes (Elt F) (tS).view.junk [⟨Rect.whole cc1_scratch0.ty.shape, ReadAs.same.apply ((tabV).view.read (Elt F) tab)⟩] = tab := by
  rw [← View.writes_nil (tS).view (tS).view.junk, ← View.write_univ_eq_writes_whole]
  exact View.write_whole_univ _ _ _
theorem landed_ids : (iS).view.writes (Elt F) (iS).view.junk [⟨Rect.whole cc1_scratch1.ty.shape, ReadAs.same.apply ((idsK L).view.read (Elt F) ids)⟩] = lids d L ids := by
  rw [← View.writes_nil (iS).view (iS).view.junk, ← View.write_univ_eq_writes_whole]
  exact View.write_whole_univ _ _ _

/-- After `k` trips the first `16 k` positions of the result's scratch hold the gather. -/
def tripInv (k : Nat) (_ : PUnit) : sProp 𝕄 :=
  iprop(((tS).view.loc (VT d L) ↦{fullShare} tab)
    ∗ ((iS).view.loc (VT d L) ↦{fullShare} lids d L ids)
    ∗ (∃ f : Buf (Elt F) ((VT d L).loc cc1_scratch2), ⌜∀ j : S50000.Idx, (j 0).val < 16 * k → f j = gathered tab (lids d L ids) j⌝ ∗ (oS).view.loc (VT d L) ↦{fullShare} f))

theorem trips_k1 : 50000 = 16 * Scf.trips k1_t1_loop.lb k1_t1_loop.ub k1_t1_loop.st := by decide +kernel

/-- The piece of the result filled from the scratch holds the gather of the whole ids. -/
theorem landed_out (g0 : Buf (Elt F) (outLoc d)) (f : Buf (Elt F) ((VT d L).loc cc1_scratch2)) (hf : ∀ j : S50000.Idx, f j = gathered tab (lids d L ids) j) :
    ((outK L).view.loc (VT d L) ↦[(outK L).view.set]{fullShare}
      (outK L).view.writes (Elt F) g0 [⟨Rect.whole S50000, ReadAs.same.apply ((oS).view.read (Elt F) f)⟩] : sProp 𝕄)
      = ((outK L).view.loc (VT d L) ↦[(outK L).view.set]{fullShare} gathered tab ids) := by
  refine pointsTo_congr fun i hi => ?_
  obtain ⟨y, -, rfl⟩ := Finset.mem_map.mp hi
  have e : (outK L).view.writes (Elt F) g0 [⟨Rect.whole S50000, ReadAs.same.apply ((oS).view.read (Elt F) f)⟩]
      = (outK L).view.write (Elt F) g0 (ReadAs.same.apply ((oS).view.read (Elt F) f)) Finset.univ :=
    (View.write_univ_eq_writes_whole _ _ [] _).symm
  rw [e]
  refine (View.write_emb_of_mem _ _ (Finset.mem_univ _)).trans ?_
  exact hf y

/-- The ids a trip loads are the task's, sixteen at the trip's place. -/
theorem trip_ids (k : Fin k1_t1_loop.trips) (x : S16.Idx) (j : S50000.Idx) (hj : (j 0).val = 16 * k.val + (x 0).val) :
    (iS).view.readAt (Elt F) (Rect.unit (s := S50000) (k1_off2 k) S16.size (k1_off2_inb k)).toLoadRect (lids d L ids) x = lids d L ids j := by
  simp only [View.readAt_apply, Memref.view_whole, View.read_whole]
  congr 1
  funext a; apply Fin.ext
  obtain rfl : a = (0 : Fin 1) := Subsingleton.elim (α := Fin 1) _ _
  rw [LoadRect.idx_apply]
  refine Eq.trans ?_ hj.symm
  show k1_off2 k 0 + 1 * (x 0).val = _
  rw [k1_off2_eq]
  show 16 * k.val + 1 * (x 0).val = _
  omega

theorem gather_trip (hids : ∀ j, (ids j).toNat < 4096) (k : Fin k1_t1_loop.trips) :
    tripInv d L tab ids k.val ⟨⟩
      ⊢ wp frame (wpE (defs₀ (F := F)) 𝒱₀ (VT d L) none) Set.univ
          (k1_t1_body L tabV (Memref.isWhole_whole _) idsV (Memref.isWhole_whole _) outV (Memref.isWhole_whole _)
            tS (Memref.isWhole_whole _) iS (Memref.isWhole_whole _) oS (Memref.isWhole_whole _) cc1_scoped0 cc1_scoped1 cc1_scoped2 k ⟨⟩)
          fun _ => tripInv d L tab ids (k.val + 1) ⟨⟩ := by
  unfold tripInv
  delta k1_t1_body
  iintro ⟨Ht, Hi, %f, %hf, Ho⟩
  simp only [Prog.lift, Prog.bind_op, Prog.bind_ret, Prog.pure_eq_ret]
  have hk : k.val < 3125 := Nat.lt_of_lt_of_le k.isLt k1_t1_abs.2.1
  have hchk : k1_chk1 ((iS).view.readAt (Elt F) (Rect.unit (s := S50000) (k1_off2 k) S16.size (k1_off2_inb k)).toLoadRect (lids d L ids)) := by
    intro a x
    obtain rfl : a = 0 := Subsingleton.elim _ _
    have hx : (x 0).val < 16 := (x 0).isLt
    have e := trip_ids (F := F) d L ids k x (fun _ => ⟨16 * k.val + (x 0).val, by
      rename_i a; obtain rfl : a = 0 := Subsingleton.elim _ _; show _ < 50000; omega⟩) rfl
    exact (congrArg BitVec.toNat e).trans_lt (hids _)
  iapply (wp_load 𝒱₀ (VT d L) none Set.univ (m := (iS : Memref sig .scVector .vmem S50000 .i32)) (S := Finset.univ) (Finset.subset_univ _)) $$ Hi; iintro Hi
  rw [wp_assume_of _ _ _ _ hchk]
  iapply (SparseCore.wp_vectorLoadIdx 𝒱₀ (VT d L) none Set.univ (base := (tS : Memref sig .scVector .vmem S4096 .f32)) (S := Finset.univ) (q := fullShare) (Finset.subset_univ _)) $$ Ht; iintro Ht
  iapply (wp_load 𝒱₀ (VT d L) none Set.univ (m := (oS : Memref sig .scVector .vmem S50000 .f32)) (S := Finset.univ) (Finset.subset_univ _)) $$ Ho; iintro Ho
  ihave Ho := (Entails.of_eq (show ((oS).view.loc (VT d L) ↦{fullShare} f : sProp 𝕄)
    = (((oS : Memref sig .scVector .vmem S50000 .f32).access (Rect.unit (s := S50000) (k1_off3 k) S16.size (k1_off3_inb k))).loc (VT d L) ↦{fullShare} f) from rfl)) $$ Ho
  iapply (wp_store 𝒱₀ (VT d L) none Set.univ (m := (oS : Memref sig .scVector .vmem S50000 .f32)) (r := Rect.unit (s := S50000) (k1_off3 k) S16.size (k1_off3_inb k)) (Mk := Finset.univ) (S := Finset.univ) (Finset.subset_univ _)) $$ Ho; iintro Ho
  rw [wp_ret]; imodintro
  isplitl [Ht]; · iexact Ht
  isplitl [Hi]; · iexact Hi
  iexists _; isplitr; swap; · iexact Ho
  ipureintro
  intro j hj
  by_cases hlt : (j 0).val < 16 * k.val
  · refine (View.read_writes_cons_miss_of_axis (oS).view f ⟨Rect.unit (s := S50000) (k1_off3 k) S16.size (k1_off3_inb k), _⟩ [] j 0 (16 * k.val) 16
      (by show k1_off3 k 0 = _; rw [k1_off3_eq]; rfl) rfl rfl (.inl hlt)).trans (hf j hlt)
  · have hx : (j 0).val - 16 * k.val < 16 := by omega
    let x : S16.Idx := fun _ => ⟨(j 0).val - 16 * k.val, by rename_i a; obtain rfl : a = 0 := Subsingleton.elim _ _; exact hx⟩
    refine (View.read_writes_cons_hit_of_coords (oS).view f (Rect.unit (s := S50000) (k1_off3 k) S16.size (k1_off3_inb k)) _ [] x j (fun a => by
      obtain rfl : a = (0 : Fin 1) := Subsingleton.elim (α := Fin 1) _ _
      show (j 0).val = k1_off3 k 0 + 1 * ((j 0).val - 16 * k.val)
      rw [k1_off3_eq]
      show (j 0).val = 16 * k.val + 1 * ((j 0).val - 16 * k.val)
      omega)).trans ?_
    show tab _ = tab (entry (lids d L ids j))
    congr 1
    funext a; apply Fin.ext
    obtain rfl : a = (0 : Fin 1) := Subsingleton.elim (α := Fin 1) _ _
    have e := trip_ids (F := F) d L ids k x j (by show (j 0).val = 16 * k.val + ((j 0).val - 16 * k.val); omega)
    have e' : (lids d L ids j).toNat = (lids d L ids j).toNat % 4096 := (Nat.mod_eq_of_lt (hids _)).symm
    refine Eq.trans (?_ : _ = BitVec.toNat ((iS).view.readAt (Elt F) (Rect.unit (s := S50000) (k1_off2 k) S16.size (k1_off2_inb k)).toLoadRect (lids d L ids) x))
      ((congrArg BitVec.toNat e).trans e')
    show 0 + 1 * BitVec.toNat ((iS).view.readAt (Elt F) (Rect.unit (s := S50000) (k1_off2 k) S16.size (k1_off2_inb k)).toLoadRect (lids d L ids) x) = _
    omega

theorem tile_run (q : PosShare TreeShare) (hids : ∀ j, (ids j).toNat < 4096) (O : CellTallies nD τ sig (HIx 1)) (W : Waits sig (HIx 1))
    (t0 : Buf (Elt F) ((tS).view.loc (VT d L))) (i0 : Buf (Elt F) ((iS).view.loc (VT d L))) (o0 : Buf (Elt F) ((oS).view.loc (VT d L))) (g0 : Buf (Elt F) (outLoc d)) :
    (iprop(Transfers.MayWaits (VT d L) (none : HIx 1) O
        ∗ ((tabV).view.loc (VT d L) ↦[(tabV).view.set]{q} tab)
        ∗ ((idsK L).view.loc (VT d L) ↦[(idsK L).view.set]{fullShare} ids)
        ∗ ((outK L).view.loc (VT d L) ↦[(outK L).view.set]{fullShare} g0)
        ∗ ((tS).view.loc (VT d L) ↦[(tS).view.set]{fullShare} t0)
        ∗ ((iS).view.loc (VT d L) ↦[(iS).view.set]{fullShare} i0)
        ∗ ((oS).view.loc (VT d L) ↦[(oS).view.set]{fullShare} o0)
        ∗ semVal (VT d L, SemLoc.dma cc1_scoped0.sem) 0
        ∗ semVal (VT d L, SemLoc.dma cc1_scoped1.sem) 0
        ∗ semVal (VT d L, SemLoc.dma cc1_scoped2.sem) 0
        ∗ owes (VT d L) O W) : sProp 𝕄)
      ⊢ wp frame (wpE (defs₀ (F := F)) 𝒱₀ (VT d L) none) Set.univ
          (cc1_gk L tabV (Memref.isWhole_whole _) idsV (Memref.isWhole_whole _) outV (Memref.isWhole_whole _)
            tS (Memref.isWhole_whole _) iS (Memref.isWhole_whole _) oS (Memref.isWhole_whole _) cc1_scoped0 cc1_scoped1 cc1_scoped2)
          fun _ => iprop(((tabV).view.loc (VT d L) ↦[(tabV).view.set]{q} tab)
            ∗ ((idsK L).view.loc (VT d L) ↦[(idsK L).view.set]{fullShare} ids)
            ∗ ((outK L).view.loc (VT d L) ↦[(outK L).view.set]{fullShare} gathered tab ids)
            ∗ (∃ g, (tS).view.loc (VT d L) ↦[(tS).view.set]{fullShare} g)
            ∗ (∃ g, (iS).view.loc (VT d L) ↦[(iS).view.set]{fullShare} g)
            ∗ (∃ g, (oS).view.loc (VT d L) ↦[(oS).view.set]{fullShare} g)
            ∗ semVal (VT d L, SemLoc.dma cc1_scoped0.sem) 0
            ∗ semVal (VT d L, SemLoc.dma cc1_scoped1.sem) 0
            ∗ semVal (VT d L, SemLoc.dma cc1_scoped2.sem) 0
            ∗ ∃ W', owes (VT d L) O W') := by
  iintro ⟨#Hmw, HT, HI, HO, Ht, Hi, Ho, Hs0, Hs1, Hs2, Hw⟩
  rw [cc1_gk_eq_skeleton]; delta cc1_gk_skel
  sl_exec
  have eT : (tS).view.writes (Elt F) (tS).view.junk [⟨Rect.whole cc1_scratch0.ty.shape, tile_run.sl.dma0 d tab⟩] = tab :=
    landed_tab d tab
  have eI : (iS).view.writes (Elt F) (iS).view.junk [⟨Rect.whole cc1_scratch1.ty.shape, tile_run.sl.dma0_1 d L ids⟩] = lids d L ids :=
    landed_ids d L ids
  ihave Ht' := (Entails.of_eq ((congrArg _ eT).trans (pts_tS_univ d L _).symm)) $$ Ht
  ihave Hi' := (Entails.of_eq ((congrArg _ eI).trans (pts_iS_univ d L _).symm)) $$ Hi
  ihave Ho' := (Entails.of_eq (pts_oS_univ d L _).symm) $$ Ho
  sl_for (tripInv d L tab ids) $$ [Ht' Hi' Ho']
  case region =>
    intro k _
    exact gather_trip d L tab ids hids k
  · unfold tripInv
    isplitl [Ht']; · iexact Ht'
    isplitl [Hi']; · iexact Hi'
    iexists _; isplitr; swap; · iexact Ho'
    ipureintro; intro j hj; exact absurd hj (Nat.not_lt_zero _)
  iintro %_ HI'
  unfold tripInv
  icases HI' with ⟨Ht', Hi', %f, %hf, Ho'⟩
  ihave Ht := (Entails.of_eq (pts_tS_univ d L _)) $$ Ht'
  ihave Hi := (Entails.of_eq (pts_iS_univ d L _)) $$ Hi'
  ihave Ho := (Entails.of_eq (pts_oS_univ d L _)) $$ Ho'
  sl_exec
  have eO : ((outK L).view.loc (VT d L) ↦[(outK L).view.set]{fullShare}
      (outK L).view.writes (Elt F) g0 [⟨Rect.whole S50000, tile_run.sl.dma0_2 d L f⟩] : sProp 𝕄)
      = ((outK L).view.loc (VT d L) ↦[(outK L).view.set]{fullShare} gathered tab ids) :=
    landed_out d L tab ids g0 f fun j => hf j (lt_of_lt_of_le (j 0).isLt (le_of_eq trips_k1))
  ihave HO := (Entails.of_eq eO) $$ HO
  sl_step
  isplitl [HT]; · iexact HT
  isplitl [HI]; · iexact HI
  isplitl [HO]; · iexact HO
  isplitl [Ht]; · iexists _; iexact Ht
  isplitl [Hi]; · iexists _; iexact Hi
  isplitl [Ho]; · iexists _; iexact Ho
  isplitl [Hs0]; · iexact Hs0
  isplitl [Hs1]; · iexact Hs1
  isplitl [Hs2]; · iexact Hs2
  iexists _; iexact Hw

/-! ## The task's scoped buffers and cells -/

theorem ownSems0_V :
    (ownSems0 (VT d L) : sProp 𝕄)
      = iprop(semVal (VT d L, SemLoc.dma cc1_scoped0.sem) 0 ∗ semVal (VT d L, SemLoc.dma cc1_scoped1.sem) 0 ∗ semVal (VT d L, SemLoc.dma cc1_scoped2.sem) 0
          ∗ bigSep ((((ownCells (VT d L)).erase (VT d L, SemLoc.dma cc1_scoped0.sem)).erase (VT d L, SemLoc.dma cc1_scoped1.sem)).erase (VT d L, SemLoc.dma cc1_scoped2.sem))
              fun g => semVal g 0) := by
  unfold SparseCore.Cfg.ownSems0
  rw [SparseCore.bigSep_erase' ((mem_ownCells (g := (VT d L, SemLoc.dma cc1_scoped0.sem))).mpr ⟨rfl, by
      show (SemLoc.dma cc1_scoped0.sem : SemLoc sig).isScoped .scVector = true; decide⟩),
    SparseCore.bigSep_erase' (Finset.mem_erase.mpr ⟨fun e => absurd (congrArg Prod.snd e) (show ¬ (SemLoc.dma cc1_scoped1.sem : SemLoc sig) = SemLoc.dma cc1_scoped0.sem by decide), (mem_ownCells (g := (VT d L, SemLoc.dma cc1_scoped1.sem))).mpr ⟨rfl, by
      show (SemLoc.dma cc1_scoped1.sem : SemLoc sig).isScoped .scVector = true; decide⟩⟩),
    SparseCore.bigSep_erase' (Finset.mem_erase.mpr ⟨fun e => absurd (congrArg Prod.snd e) (show ¬ (SemLoc.dma cc1_scoped2.sem : SemLoc sig) = SemLoc.dma cc1_scoped1.sem by decide), Finset.mem_erase.mpr ⟨fun e => absurd (congrArg Prod.snd e) (show ¬ (SemLoc.dma cc1_scoped2.sem : SemLoc sig) = SemLoc.dma cc1_scoped0.sem by decide),
      (mem_ownCells (g := (VT d L, SemLoc.dma cc1_scoped2.sem))).mpr ⟨rfl, by show (SemLoc.dma cc1_scoped2.sem : SemLoc sig).isScoped .scVector = true; decide⟩⟩⟩)]

theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-- The task from what the launch deals it to what it hands back. -/
theorem tile_body (q : PosShare TreeShare) (hF : (KC (F := F)).Facts) (hids : ∀ j, (ids j).toNat < 4096) (O : CellTallies nD τ sig (HIx 1)) (W : Waits sig (HIx 1)) (hO : ∀ g, O g none = 0) :
    (iprop(levAts (KC (F := F)).L (KC (F := F)).lev ∗ emp
        ∗ ((tabLoc d ↦{q} tab) ∗ (idsLoc d ↦[pieceL L]{fullShare} ids) ∗ (∃ g0, outLoc d ↦[pieceL L]{fullShare} g0))
        ∗ scopedBufs (VT d L) ∗ scopedSems0 (VT d L) ∗ owes (VT d L) O W) : sProp 𝕄)
      ⊢ wp frame (wpE (defs₀ (F := F)) 𝒱₀ (VT d L) none) Set.univ
          (cc1_gk L tabV (Memref.isWhole_whole _) idsV (Memref.isWhole_whole _) outV (Memref.isWhole_whole _)
            tS (Memref.isWhole_whole _) iS (Memref.isWhole_whole _) oS (Memref.isWhole_whole _) cc1_scoped0 cc1_scoped1 cc1_scoped2)
          fun _ => iprop(((tabLoc d ↦{q} tab) ∗ (idsLoc d ↦[pieceL L]{fullShare} ids) ∗ (outLoc d ↦[pieceL L]{fullShare} gathered tab ids))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(KC (F := F)).scopedBufs_V hF d (cV L) (jV L), SparseCore.Cfg.scopedSems0_V (Val := Elt F) d (cV L) (jV L), ownSems0_V, ownBufs_V]
  iintro ⟨#Hlv, -, ⟨HT, HI, %g0, HO⟩, ⟨⟨%t0, Ht⟩, ⟨%i0, Hi⟩, ⟨%o0, Ho⟩, Hbufs⟩, ⟨Hs0, Hs1, Hs2, Hsems⟩, Hw⟩
  ihave Hmw := (show (levAts (KC (F := F)).L (KC (F := F)).lev : sProp 𝕄) ⊢ Transfers.MayWaits (VT d L) (none : HIx 1) O from
    (KC (F := F)).mayWaits_none (thr := VT d L) hO) $$ Hlv
  ihave HT := (Entails.of_eq (pts_tabV (F := F) d L q _).symm) $$ HT
  ihave HI := (Entails.of_eq (pts_idsK (F := F) d L _).symm) $$ HI
  ihave HO := (Entails.of_eq (pts_outK (F := F) d L _).symm) $$ HO
  ihave Ht := (Entails.of_eq (pts_tS (F := F) d L _).symm) $$ Ht
  ihave Hi := (Entails.of_eq (pts_iS (F := F) d L _).symm) $$ Hi
  ihave Ho := (Entails.of_eq (pts_oS (F := F) d L _).symm) $$ Ho
  iapply (wp_wand_r Idealize.ShloMosaic.frame (wpE (defs₀ (F := F)) 𝒱₀ (VT d L) none) Set.univ)
  isplitl [HT HI HO Ht Hi Ho Hs0 Hs1 Hs2 Hw]
  · iapply (tile_run d L tab ids q hids O W t0 i0 o0 g0)
    isplitr; · iexact Hmw
    isplitl [HT]; · iexact HT
    isplitl [HI]; · iexact HI
    isplitl [HO]; · iexact HO
    isplitl [Ht]; · iexact Ht
    isplitl [Hi]; · iexact Hi
    isplitl [Ho]; · iexact Ho
    isplitl [Hs0]; · iexact Hs0
    isplitl [Hs1]; · iexact Hs1
    isplitl [Hs2]; · iexact Hs2
    iexact Hw
  iintro %_ ⟨HT, HI, HO, ⟨%t, Ht⟩, ⟨%i, Hi⟩, ⟨%o, Ho⟩, Hs0, Hs1, Hs2, ⟨%W', Hw⟩⟩
  isplitl [HT HI HO]
  · isplitl [HT]; · iapply (Entails.of_eq (pts_tabV (F := F) d L q _)); iexact HT
    isplitl [HI]; · iapply (Entails.of_eq (pts_idsK (F := F) d L _)); iexact HI
    iapply (Entails.of_eq (pts_outK (F := F) d L _)); iexact HO
  isplitl [Ht Hi Ho Hbufs]
  · isplitl [Ht]; · iexists _; iapply (Entails.of_eq (pts_tS (F := F) d L _)); iexact Ht
    isplitl [Hi]; · iexists _; iapply (Entails.of_eq (pts_iS (F := F) d L _)); iexact Hi
    isplitl [Ho]; · iexists _; iapply (Entails.of_eq (pts_oS (F := F) d L _)); iexact Ho
    iexact Hbufs
  isplitl [Hs0 Hs1 Hs2 Hsems]
  · isplitl [Hs0]; · iexact Hs0
    isplitl [Hs1]; · iexact Hs1
    isplitl [Hs2]; · iexact Hs2
    iexact Hsems
  iexists W'; isplitr
  · ipureintro; intro p _
    rcases p.2 with _ | q
    · exact .inr (.inl rfl)
    · exact .inr (.inr (congrArg some (Subsingleton.elim q 0)))
  · iexact Hw

/-! ## What the call moves, and the obligation -/

/-- The call's payloads for a table `tab d` and ids `ids d`: each task is handed its share of the table, its piece of the
    ids and its piece of the result's buffer, and hands back the piece holding the gather; a SparseCore is handed what its
    tasks are. -/
def P (tab : ∀ d, Buf (Elt F) (tabLoc d)) (ids : ∀ d, Buf (Elt F) (idsLoc d)) : (KC (F := F)).Pay (nD := nD) (Val := Elt F) (Name := ℕ) (U := UU) where
  st := fun q d c => match q with
    | 0 => bigSep Finset.univ fun i : Fin 16 => iprop((tabLoc d ↦{tq (c, i)} tab d) ∗ (idsLoc d ↦[piece (c, i)]{fullShare} ids d)
        ∗ ∃ g0, outLoc d ↦[piece (c, i)]{fullShare} g0)
  dn := fun q d c => match q with
    | 0 => bigSep Finset.univ fun i : Fin 16 => iprop((tabLoc d ↦{tq (c, i)} tab d) ∗ (idsLoc d ↦[piece (c, i)]{fullShare} ids d)
        ∗ outLoc d ↦[piece (c, i)]{fullShare} gathered (tab d) (ids d))
  go := fun q d c i => match q with
    | 0 => iprop((tabLoc d ↦{tq (c, i)} tab d) ∗ (idsLoc d ↦[piece (c, i)]{fullShare} ids d)
        ∗ ∃ g0, outLoc d ↦[piece (c, i)]{fullShare} g0)
  td := fun q d c i => match q with
    | 0 => iprop((tabLoc d ↦{tq (c, i)} tab d) ∗ (idsLoc d ↦[piece (c, i)]{fullShare} ids d)
        ∗ outLoc d ↦[piece (c, i)]{fullShare} gathered (tab d) (ids d))
  x := fun _ _ => iprop(emp)

instance P_storable (tab : ∀ d, Buf (Elt F) (tabLoc d)) (ids : ∀ d, Buf (Elt F) (idsLoc d)) : (P (F := F) tab ids).IsStorable where
  st q d c := match q with
    | 0 => (inferInstance : BI.Storable (upEmb : UEmb _ 𝕄) (bigSep Finset.univ fun i : Fin 16 => iprop((tabLoc d ↦{tq (c, i)} tab d) ∗ (idsLoc d ↦[piece (c, i)]{fullShare} ids d)
        ∗ ∃ g0, outLoc d ↦[piece (c, i)]{fullShare} g0)))
  dn q d c := match q with
    | 0 => (inferInstance : BI.Storable (upEmb : UEmb _ 𝕄) (bigSep Finset.univ fun i : Fin 16 => iprop((tabLoc d ↦{tq (c, i)} tab d) ∗ (idsLoc d ↦[piece (c, i)]{fullShare} ids d)
        ∗ outLoc d ↦[piece (c, i)]{fullShare} gathered (tab d) (ids d))))
  go q d c i := match q with
    | 0 => (inferInstance : BI.Storable (upEmb : UEmb _ 𝕄) iprop((tabLoc d ↦{tq (c, i)} tab d) ∗ (idsLoc d ↦[piece (c, i)]{fullShare} ids d)
        ∗ ∃ g0, outLoc d ↦[piece (c, i)]{fullShare} g0))
  td q d c i := match q with
    | 0 => (inferInstance : BI.Storable (upEmb : UEmb _ 𝕄) iprop((tabLoc d ↦{tq (c, i)} tab d) ∗ (idsLoc d ↦[piece (c, i)]{fullShare} ids d)
        ∗ outLoc d ↦[piece (c, i)]{fullShare} gathered (tab d) (ids d)))

theorem defs₀_vector (c : Fin τ.nSC) (s : Fin τ.nSub) :
    defs₀ (F := F) (.scVector c s) 1 ()
      = SparseCore.onTile hcore1 hsub1 (fun c s => cc1_gk (coordsV c s)
          tabV (Memref.isWhole_whole _) idsV (Memref.isWhole_whole _) outV (Memref.isWhole_whole _)
          tS (Memref.isWhole_whole _) iS (Memref.isWhole_whole _) oS (Memref.isWhole_whole _) cc1_scoped0 cc1_scoped1 cc1_scoped2) ⟨⟩ c s := rfl

theorem tileObl (tab : ∀ d, Buf (Elt F) (tabLoc d)) (ids : ∀ d, Buf (Elt F) (idsLoc d)) (hids : ∀ d j, (ids d j).toNat < 4096) :
    (KC (F := F)).TileObl (DD (F := F)) 𝒱 (P tab ids) v₀ 0 := by
  intro d c i O W hO _ _
  simp only [show (P tab ids).ox = fun _ _ => 0 from rfl, add_zero]
  have hci : ((KC (F := F)).core 0 c).val < grid1.bound 0 ∧ ((KC (F := F)).sub 0 i).val < grid1.bound 1 := ⟨c.isLt, i.isLt⟩
  change _ ⊢ wp _ _ _ (Pipeline.liftProg (defs₀ (F := F) (.scVector ((KC (F := F)).core 0 c) ((KC (F := F)).sub 0 i)) 1 ())) _
  refine BI.Entails.trans ?_ (Pipeline.wp_liftProg (DD (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (tab d) (ids d) (tq (c, i)) scFacts (hids d) O W hO

theorem vecSplit (tab : ∀ d, Buf (Elt F) (tabLoc d)) (ids : ∀ d, Buf (Elt F) (idsLoc d)) : (KC (F := F)).VecSplit' (P tab ids) 0 := by
  intro d c
  show (bigSep Finset.univ fun i : Fin 16 => (P tab ids).go 0 d c i) ⊢ |={Set.univ}=> iprop((bigSep Finset.univ fun i : Fin 16 => (P tab ids).go 0 d c i)
    ∗ ((bigSep Finset.univ fun i : Fin 16 => (P tab ids).td 0 d c i) -∗ (bigSep Finset.univ fun i : Fin 16 => (P tab ids).td 0 d c i)))
  iintro H; imodintro
  isplitl [H]; · iexact H
  iintro H; iexact H

end Cert.Proof.KI

end
-- ==== Proof.KI.Deal.lean ====
/-
  The SparseCore call's operands dealt to the thirty-two tasks and collected from them: the table at thirty-two shares, the ids
  and the result in thirty-two pieces.
-/
module

public import proofs.«01_k».proof.Proof.KI.Tile

@[expose] public section

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The tasks in the order of the shares. -/
def taskEquiv : Fin 2 × Fin 16 ≃ Fin (2 ^ 5) := (Equiv.prodComm _ _).trans (finProdFinEquiv (m := 16) (n := 2))

theorem tq_eq (p : Fin 2 × Fin 16) : ShareLeaves.leaf 5 fullShare (taskEquiv p) = tq p := by
  unfold tq
  congr 1
  apply Fin.ext
  show p.1.val + 2 * p.2.val = p.2.val * 2 + p.1.val
  omega

theorem split_tab (d : Dev nD) (f : Buf (Elt F) (tabLoc d)) :
    (tabLoc d ↦{fullShare} f : sProp 𝕄) = bigSep Finset.univ fun c : Fin 2 => bigSep Finset.univ fun i : Fin 16 => tabLoc d ↦{tq (c, i)} f := by
  rw [ShareLeaves.pointsTo_leaves Finset.univ f 5 fullShare, bigSep_univ_equiv taskEquiv, bigSep_univ_prod]
  refine bigSep_congr fun c _ => bigSep_congr fun i _ => ?_
  rw [tq_eq]

theorem split_ids (d : Dev nD) (f : Buf (Elt F) (idsLoc d)) :
    (idsLoc d ↦{fullShare} f : sProp 𝕄) = bigSep Finset.univ fun c : Fin 2 => bigSep Finset.univ fun i : Fin 16 => idsLoc d ↦[piece (c, i)]{fullShare} f := by
  rw [← bigSep_univ_prod (fun p : Fin 2 × Fin 16 => (idsLoc d ↦[piece p]{fullShare} f : sProp 𝕄))]
  rw [← pointsTo_biUnion (ℓ := idsLoc d) Finset.univ piece pieces_disjoint, pieces_cover]

theorem split_out (d : Dev nD) (f : Buf (Elt F) (outLoc d)) :
    (outLoc d ↦{fullShare} f : sProp 𝕄) = bigSep Finset.univ fun c : Fin 2 => bigSep Finset.univ fun i : Fin 16 => outLoc d ↦[piece (c, i)]{fullShare} f := by
  rw [← bigSep_univ_prod (fun p : Fin 2 × Fin 16 => (outLoc d ↦[piece p]{fullShare} f : sProp 𝕄))]
  rw [← pointsTo_biUnion (ℓ := outLoc d) Finset.univ piece pieces_disjoint, pieces_cover]

theorem bigSep_sep3 {I : Type} (s : Finset I) (A B C : I → sProp 𝕄) :
    (bigSep s fun i => iprop(A i ∗ B i ∗ C i)) = iprop((bigSep s fun i => A i) ∗ (bigSep s fun i => B i) ∗ (bigSep s fun i => C i)) := by
  rw [bigSep_sep', bigSep_sep']

theorem some_out {I : Type} (A B : sProp 𝕄) (C : I → sProp 𝕄) (g : I) : iprop(A ∗ B ∗ C g) ⊢ iprop(A ∗ B ∗ ∃ g0, C g0) := by
  iintro ⟨HT, HI, HO⟩
  isplitl [HT]; · iexact HT
  isplitl [HI]; · iexact HI
  iexists g
  iexact HO

variable (tab : ∀ d, Buf (Elt F) (tabLoc d)) (ids : ∀ d, Buf (Elt F) (idsLoc d))

/-- What the call collects is the table, the ids and the gather. -/
theorem collect (d : Dev nD) : (bigSep Finset.univ fun c : Fin ((KC (F := F)).nCore 0) => (P tab ids).dn 0 d c)
    = (iprop((tabLoc d ↦{fullShare} tab d) ∗ (idsLoc d ↦{fullShare} ids d) ∗ (outLoc d ↦{fullShare} (gathered (tab d) (ids d) : Buf (Elt F) (outLoc d)))) : sProp 𝕄) := by
  rw [split_tab, split_ids, split_out, ← bigSep_sep3 (F := F)]
  refine (bigSep_congr fun c _ => ?_ : (bigSep (Finset.univ : Finset (Fin 2)) fun c => (P tab ids).dn 0 d c) = _)
  rw [← bigSep_sep3 (F := F)]
  rfl

/-- What the call deals comes from the table, the ids and the result's buffer. -/
theorem deal (d : Dev nD) (g : Buf (Elt F) (outLoc d)) : (iprop((tabLoc d ↦{fullShare} tab d) ∗ (idsLoc d ↦{fullShare} ids d) ∗ (outLoc d ↦{fullShare} g)) : sProp 𝕄)
    ⊢ bigSep Finset.univ fun c : Fin ((KC (F := F)).nCore 0) => (P tab ids).st 0 d c := by
  rw [split_tab, split_ids, split_out]
  rw [← bigSep_sep3 (F := F)]
  refine (bigSep_mono fun c _ => ?_ : _ ⊢ bigSep (Finset.univ : Finset (Fin 2)) fun c => (P tab ids).st 0 d c)
  rw [← bigSep_sep3 (F := F)]
  refine bigSep_mono (Ψ := fun i : Fin 16 => iprop((tabLoc d ↦{tq (c, i)} tab d) ∗ (idsLoc d ↦[piece (c, i)]{fullShare} ids d)
        ∗ ∃ g0, outLoc d ↦[piece (c, i)]{fullShare} g0)) fun i _ => ?_
  exact some_out _ _ _ g

end Cert.Proof.KI

end
-- ==== Proof.KI.Host.lean ====
/-
  @main as the host operations before the TensorCore call, the call, a reshape, the SparseCore call and a reshape.
-/
module

public import proofs.«01_k».proof.Proof.KI.Common

@[expose] public section

noncomputable section

namespace Cert.Proof.KI

open Cert.KernelIdeal Cert.KernelIdeal.Gen

open Idealize.ShloMosaic Idealize.ShloMosaic.TcCoe Idealize.ShloMosaic.StableHlo
open Idealize.SL Idealize.SL.BI Idealize.SL.Sem

variable {F : FTy → Type} [FloatOps F]

/-- The host operations before the TensorCore call. -/
abbrev hostOps : List (HloOp τ sig (Elt F)) :=
  [ reshape main_arg1 main_v0 (rfl : (.i32 : EltTy) = .i32) shapeCasts_S1600000x1_S1600000,
    reshape main_v0 main_v1 (rfl : (.i32 : EltTy) = .i32) shapeCasts_S1600000_S200x1x8000,
    reshape main_v0 main_v2 (rfl : (.i32 : EltTy) = .i32) shapeCasts_S1600000_S200x8000,
    unary main_arg4 main_v3 ((transpose S32x32 [1, 0] · transposes_S32x32_S32x32_1_0) : (⟨S32x32, .f32⟩ : BufTy).Contents (Elt F) → (⟨S32x32, .f32⟩ : BufTy).Contents (Elt F)),
    nullary main_cst (constant S_ .f32 0x00000000#32),
    unary main_cst main_v4 (broadcastInDim S32x32 ![] bcast_S_S32x32 : (⟨S_, .f32⟩ : BufTy).Contents (Elt F) → (⟨S32x32, .f32⟩ : BufTy).Contents (Elt F)),
    binary main_v3 main_v4 main_v5 ((fun a b => concatenate S32x64 1 [⟨S32x32, a⟩, ⟨S32x32, b⟩] concatenates_S32x32_S32x32_S32x64_d1) : (⟨S32x32, .f32⟩ : BufTy).Contents (Elt F) → (⟨S32x32, .f32⟩ : BufTy).Contents (Elt F) → (⟨S32x64, .f32⟩ : BufTy).Contents (Elt F)),
    nullary main_cst_0 (constant S_ .f32 0x3F800000#32),
    unary main_cst_0 main_v6 (broadcastInDim S32 ![] bcast_S_S32 : (⟨S_, .f32⟩ : BufTy).Contents (Elt F) → (⟨S32, .f32⟩ : BufTy).Contents (Elt F)),
    binary main_arg5 main_v6 main_v7 ((fun a b => concatenate S64 0 [⟨S32, a⟩, ⟨S32, b⟩] concatenates_S32_S32_S64_d0) : (⟨S32, .f32⟩ : BufTy).Contents (Elt F) → (⟨S32, .f32⟩ : BufTy).Contents (Elt F) → (⟨S64, .f32⟩ : BufTy).Contents (Elt F)),
    reshape main_v7 main_v8 (rfl : (.f32 : EltTy) = .f32) shapeCasts_S64_S1x64,
    unary main_v2 main_v9 ((extractStridedSlice S200x1 ![0, 0] · slices_S200x8000_S200x1_0_0) : (⟨S200x8000, .i32⟩ : BufTy).Contents (Elt F) → (⟨S200x1, .i32⟩ : BufTy).Contents (Elt F)),
    reshape main_v9 main_v10 (rfl : (.i32 : EltTy) = .i32) shapeCasts_S200x1_S200,
    unary main_v2 main_v11 ((extractStridedSlice S200x1 ![0, 7999] · slices_S200x8000_S200x1_0_7999) : (⟨S200x8000, .i32⟩ : BufTy).Contents (Elt F) → (⟨S200x1, .i32⟩ : BufTy).Contents (Elt F)),
    reshape main_v11 main_v12 (rfl : (.i32 : EltTy) = .i32) shapeCasts_S200x1_S200,
    unary main_arg2 main_v13 ((transpose S32x32 [1, 0] · transposes_S32x32_S32x32_1_0) : (⟨S32x32, .f32⟩ : BufTy).Contents (Elt F) → (⟨S32x32, .f32⟩ : BufTy).Contents (Elt F)),
    unary main_v13 main_v14 ((truncf .bf16 · bitsLt_bf16_f32) : (⟨S32x32, .f32⟩ : BufTy).Contents (Elt F) → (⟨S32x32, .bf16⟩ : BufTy).Contents (Elt F)),
    reshape main_arg3 main_v15 (rfl : (.f32 : EltTy) = .f32) shapeCasts_S32_S1x32,
    unary main_v5 main_v16 ((truncf .bf16 · bitsLt_bf16_f32) : (⟨S32x64, .f32⟩ : BufTy).Contents (Elt F) → (⟨S32x64, .bf16⟩ : BufTy).Contents (Elt F)),
    unary main_arg6 main_v17 ((transpose S32x32 [1, 0] · transposes_S32x32_S32x32_1_0) : (⟨S32x32, .f32⟩ : BufTy).Contents (Elt F) → (⟨S32x32, .f32⟩ : BufTy).Contents (Elt F)),
    reshape main_arg7 main_v18 (rfl : (.f32 : EltTy) = .f32) shapeCasts_S32_S1x32,
    unary main_arg8 main_v19 ((transpose S32x32 [1, 0] · transposes_S32x32_S32x32_1_0) : (⟨S32x32, .f32⟩ : BufTy).Contents (Elt F) → (⟨S32x32, .f32⟩ : BufTy).Contents (Elt F)),
    reshape main_arg9 main_v20 (rfl : (.f32 : EltTy) = .f32) shapeCasts_S32_S1x32,
    unary main_arg10 main_v21 ((transpose S32x32 [1, 0] · transposes_S32x32_S32x32_1_0) : (⟨S32x32, .f32⟩ : BufTy).Contents (Elt F) → (⟨S32x32, .f32⟩ : BufTy).Contents (Elt F)),
    reshape main_arg11 main_v22 (rfl : (.f32 : EltTy) = .f32) shapeCasts_S32_S1x32,
    unary main_arg12 main_v23 ((transpose S32x2 [1, 0] · transposes_S2x32_S32x2_1_0) : (⟨S2x32, .f32⟩ : BufTy).Contents (Elt F) → (⟨S32x2, .f32⟩ : BufTy).Contents (Elt F)),
    reshape main_arg13 main_v24 (rfl : (.f32 : EltTy) = .f32) shapeCasts_S2_S1x2 ]

/-- The reshape of the table, and the reshape of the result. -/
abbrev opTab : HloOp τ sig (Elt F) := reshape main_v25 main_v26 (rfl : (.f32 : EltTy) = .f32) shapeCasts_S4096x1_S4096
abbrev opOut : HloOp τ sig (Elt F) := reshape main_v27 main_v28 (rfl : (.f32 : EltTy) = .f32) shapeCasts_S1600000_S1600000x1

/-- The TensorCore call, in the program of the pipelines alone. -/
abbrev callTC : Prog (TpuEff nD τ sig (Elt F) (ΛP (F := F)) .tc) PUnit := .op (.customCall (Pipeline.entry 0) ()) .ret

set_option maxRecDepth 8192 in
set_option maxHeartbeats 4000000 in
theorem main_eq (d : Dev nD) : main (F := F) d = (seq hostOps >>= fun _ => SparseCore.liftProg callTC >>= fun _ => seq [opTab] >>= fun _ =>
    (KC (F := F)).run d 0 >>= fun _ => seq [opOut] >>= fun _ => pure ⟨⟩) := rfl

theorem hostOps_sub : (hostOps : List (HloOp τ sig (Elt F))).Forall fun op => op.bufs ⊆ tcRefs τ sig :=
  ⟨StableHlo.reshape_bufs_sub .., StableHlo.reshape_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩

theorem hostOps_fresh : (hostOps : List (HloOp τ sig (Elt F))).Forall fun op => op.fresh = ∅ := by
  simp only [List.Forall]; repeat' constructor

theorem tail_sub : ([opTab] : List (HloOp τ sig (Elt F))).Forall fun op => op.bufs ⊆ tcRefs τ sig := reshape_bufs_sub ..
theorem out_sub : ([opOut] : List (HloOp τ sig (Elt F))).Forall fun op => op.bufs ⊆ tcRefs τ sig := reshape_bufs_sub ..

end Cert.Proof.KI

end
-- ==== Proof.KI.Launch.lean ====
/-
  @main's run on the TensorCore and the launch: from any launch memory whose ids lie in the table, every buffer of the device ends
  at what the host operations, the TensorCore call's table and the SparseCore call's gather make of that memory.
-/
module

public import proofs.«01_k».proof.Proof.KI.Seg
public import proofs.«01_k».proof.Proof.KI.Deal
public import proofs.«01_k».proof.Proof.KI.Host

@[expose] public section

noncomputable section

namespace Cert.Proof.KI

open Cert.KernelIdeal Cert.KernelIdeal.Gen

open Idealize.ShloMosaic Idealize.ShloMosaic.TcCoe
open Idealize.ShloMosaic.SparseCore.Cfg (HIx Pay)
open Idealize.ShloMosaic.Pipeline (Dat Cfg Window BodyObligation ucRefs)
open Idealize.ShloMosaic.StableHlo (seq held after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The buffers between the steps -/

variable (m : (ℓ : Loc nD τ sig) → Buf (Elt F) ℓ) (ρ : Dev nD → PrngReg)

/-- The buffers when the TensorCore call is entered, after it, when the SparseCore call is entered, after it, at the end. -/
def W1 (d : Dev nD) : Valuation τ sig (Elt F) := after hostOps (fun b => m (d, b))
def W2 (d : Dev nD) : Valuation τ sig (Elt F) := after [opTab] (afterCall (W1 m) d)
def tabs (d : Dev nD) : Buf (Elt F) (tabLoc d) := W2 m d (Proc.devRef .tc main_v26)
def idss (d : Dev nD) : Buf (Elt F) (idsLoc d) := W2 m d (Proc.devRef .tc main_v0)
def gath (d : Dev nD) : Buf (Elt F) (outLoc d) := gathered (tabs m d) (idss m d)
def W3 (d : Dev nD) : Valuation τ sig (Elt F) := Function.update (W2 m d) (Proc.devRef .tc main_v27) (gath m d)
def W4 (d : Dev nD) : Valuation τ sig (Elt F) := after [opOut] (W3 m d)

/-- The three buffers of the SparseCore call. -/
def S3 : Finset (DevRef τ sig) := {Proc.devRef .tc main_v26, Proc.devRef .tc main_v0, Proc.devRef .tc main_v27}

theorem S3_sub : S3 ⊆ ucRefs τ sig := by decide +kernel

theorem held_S3 (d : Dev nD) (V : Valuation τ sig (Elt F)) :
    (held (d.tc : Thread nD τ) S3 V : sProp 𝕄) = iprop((tabLoc d ↦{fullShare} (V (Proc.devRef .tc main_v26) : Buf (Elt F) (tabLoc d)))
      ∗ (idsLoc d ↦{fullShare} (V (Proc.devRef .tc main_v0) : Buf (Elt F) (idsLoc d))) ∗ (outLoc d ↦{fullShare} (V (Proc.devRef .tc main_v27) : Buf (Elt F) (outLoc d)))) := by
  unfold held S3
  rw [SparseCore.bigSep_insert' (by decide), SparseCore.bigSep_insert' (by decide), bigSep_singleton]

theorem W3_of_ne (d : Dev nD) (b : Ref sig .tc) (h : b ≠ main_v27) : W3 m d (Proc.devRef .tc b) = W2 m d (Proc.devRef .tc b) := by
  unfold W3
  exact Function.update_of_ne (StableHlo.devRef_ne_of_ne (τ := τ) h) _ _

theorem W3_v27 (d : Dev nD) : W3 m d (Proc.devRef .tc main_v27) = gath m d := by
  unfold W3
  exact Function.update_self (Proc.devRef (τ := τ) .tc main_v27) (gath m d) (W2 m d)

/-! ## The two calls -/

theorem arr_sub : Pipeline.arrRefs spec0 ⊆ ucRefs τ sig := Pipeline.arrRefs_sub_ucRefs spec0 (by decide)

theorem afterCall_rest (W : Dev nD → Valuation τ sig (Elt F)) (d : Dev nD) :
    (held (d.tc : Thread nD τ) (ucRefs τ sig \ Pipeline.arrRefs spec0) (W d) : sProp 𝕄) = held (d.tc : Thread nD τ) (ucRefs τ sig \ Pipeline.arrRefs spec0) (afterCall W d) :=
  StableHlo.held_congr _ fun b hb => (Function.update_of_ne (fun h => by
    rw [h] at hb
    exact (Finset.mem_sdiff.1 hb).2 (by decide +kernel)) _ _).symm

theorem seg_post (W : Dev nD → Valuation τ sig (Elt F)) (h1 : ∀ c j, (W c (Proc.devRef .tc main_v10) j : BitVec 32).toNat < 4096)
    (h2 : ∀ c j, (W c (Proc.devRef .tc main_v12) j : BitVec 32).toNat < 4096) (d : Dev nD) :
    (seg W h1 h2).post d ⊢ (iprop(held (d.tc : Thread nD τ) (Pipeline.arrRefs spec0) (afterCall W d) ∗ owes0 (F := F) d) : sProp 𝕄) := .rfl

theorem seg_pre (W : Dev nD → Valuation τ sig (Elt F)) (h1 : ∀ c j, (W c (Proc.devRef .tc main_v10) j : BitVec 32).toNat < 4096)
    (h2 : ∀ c j, (W c (Proc.devRef .tc main_v12) j : BitVec 32).toNat < 4096) (d : Dev nD) :
    (iprop(held (d.tc : Thread nD τ) (Pipeline.arrRefs spec0) (W d) ∗ owes0 (F := F) d) : sProp 𝕄) ⊢ (seg W h1 h2).pre d := .rfl

theorem tc_step (W : Dev nD → Valuation τ sig (Elt F)) (h1 : ∀ c j, (W c (Proc.devRef .tc main_v10) j : BitVec 32).toNat < 4096)
    (h2 : ∀ c j, (W c (Proc.devRef .tc main_v12) j : BitVec 32).toNat < 4096) (d : Dev nD) (Q : PUnit → sProp 𝕄) :
    iprop(levAts (KC (F := F)).L (KC (F := F)).lev ∗ Pipeline.cellsGhost (Pipeline.pin (pcfgs (F := F)) adm) EP 0 d ∗ Pipeline.toksInit (Pipeline.pin (pcfgs (F := F)) adm) EP 0 d
        ∗ boundary (d.tc : Thread nD τ) ∗ held (d.tc : Thread nD τ) (ucRefs τ sig) (W d) ∗ owes0 (F := F) d
        ∗ (boundary (d.tc : Thread nD τ) ∗ held (d.tc : Thread nD τ) (ucRefs τ sig) (afterCall W d) ∗ owes0 (F := F) d -∗ Q ⟨⟩))
      ⊢ wp frame (wpE (DD (F := F)) 𝒱 (d.tc : Thread nD τ) none) Set.univ callTC Q := by
  rw [StableHlo.held_sub_split _ arr_sub, StableHlo.held_sub_split _ arr_sub, ← afterCall_rest]
  iintro ⟨Hl, Hc, Ht, Hb, ⟨Ha, Hr⟩, HO, Hk⟩
  iapply (Pipeline.RegionSeg.wp (pcfgs (F := F)) adm (dats W) none ((launch0.toP (Val := Elt F)).cellOf_inj adm) EP (defs₀ (F := F)) 𝒱₀ (KC (F := F)).L (KC (F := F)).lev
    (seg W h1 h2) d none (fun _ h => nomatch h) .ret Q)
  isplitl [Hr Hk]
  · iintro ⟨Hb, Hpost⟩
    ihave Hpost := (seg_post W h1 h2 d) $$ Hpost
    icases Hpost with ⟨Ha, HO⟩
    rw [wp_ret]
    imodintro
    iapply Hk
    isplitl [Hb]; · iexact Hb
    isplitl [Ha Hr]
    · isplitl [Ha]; · iexact Ha
      iexact Hr
    iexact HO
  isplitl [Hb]; · iexact Hb
  isplitl [Ha HO]
  · iapply (seg_pre W h1 h2 d) $$ [Ha HO]
    isplitl [Ha]; · iexact Ha
    iexact HO
  isplitl [Hl]; · iexact Hl
  isplitl [Hc]; · iexact Hc
  iexact Ht

/-- What the TensorCore owes, out of its state before the SparseCore call. -/
theorem tcSt_take (d : Dev nD) : (KC (F := F)).tcSt EH d 0 ⊢ (iprop(owes0 (F := F) d ∗ (owes0 (F := F) d -∗ (KC (F := F)).tcSt EH d 0)) : sProp 𝕄) := by
  unfold SparseCore.Cfg.tcSt
  iintro ⟨⟨%Wd, %hW, HO⟩, Hrest⟩
  isplitl [HO]
  · iexists Wd
    isplitr; · ipureintro; exact hW
    iexact HO
  iintro ⟨%Wd, %hW, HO⟩
  isplitl [HO]
  · iexists Wd
    isplitr; · ipureintro; exact hW
    iexact HO
  iexact Hrest

theorem sc_rest (d : Dev nD) :
    (held (d.tc : Thread nD τ) (ucRefs τ sig \ S3) (W2 m d) : sProp 𝕄) = held (d.tc : Thread nD τ) (ucRefs τ sig \ S3) (W3 m d) :=
  StableHlo.held_congr _ fun b hb => (Function.update_of_ne (fun h => by
    rw [h] at hb
    exact (Finset.mem_sdiff.1 hb).2 (by decide +kernel)) _ _).symm

theorem held_W2 (d : Dev nD) : (held (d.tc : Thread nD τ) S3 (W2 m d) : sProp 𝕄) = iprop((tabLoc d ↦{fullShare} tabs m d)
    ∗ (idsLoc d ↦{fullShare} idss m d) ∗ (outLoc d ↦{fullShare} (W2 m d (Proc.devRef .tc main_v27) : Buf (Elt F) (outLoc d)))) := held_S3 d _

theorem held_W3 (d : Dev nD) : (held (d.tc : Thread nD τ) S3 (W3 m d) : sProp 𝕄) = iprop((tabLoc d ↦{fullShare} tabs m d)
    ∗ (idsLoc d ↦{fullShare} idss m d) ∗ (outLoc d ↦{fullShare} gathered (tabs m d) (idss m d))) := by
  rw [held_S3, W3_v27, W3_of_ne m d main_v26 (by decide), W3_of_ne m d main_v0 (by decide)]
  rfl

theorem sc_step (κ : GSem nD τ sig → ℕ) (d : Dev nD) (Q : PUnit → sProp 𝕄) :
    iprop((KC (F := F)).ctx EH (P (tabs m) (idss m)) κ ∗ (KC (F := F)).tcSt EH d 0 ∗ held (d.tc : Thread nD τ) (ucRefs τ sig) (W2 m d)
        ∗ ((KC (F := F)).tcSt EH d 1 ∗ held (d.tc : Thread nD τ) (ucRefs τ sig) (W3 m d) -∗ Q ⟨⟩))
      ⊢ wp frame (wpE ((KC (F := F)).defs (DD (F := F))) 𝒱 (SparseCore.T d) none) Set.univ ((KC (F := F)).run d 0) Q := by
  rw [StableHlo.held_sub_split _ S3_sub (W2 m d), StableHlo.held_sub_split _ S3_sub (W3 m d), ← sc_rest, held_W2, held_W3]
  iintro ⟨Hctx, Hst, ⟨H3, Hr⟩, Hk⟩
  iapply ((KC (F := F)).wp_run (DD (F := F)) 𝒱 (EH := EH) (P := P (tabs m) (idss m)) κ d 0)
  isplitl [Hctx]; · iexact Hctx
  isplitl [Hst]; · iexact Hst
  isplitl [H3]
  · iapply (deal (tabs m) (idss m) d (W2 m d (Proc.devRef .tc main_v27))) $$ H3
  iintro ⟨Hst, Hdn⟩
  ihave H3 := (Entails.of_eq (collect (tabs m) (idss m) d)) $$ Hdn
  iapply Hk
  isplitl [Hst]; · iexact Hst
  isplitl [H3]; · iexact H3
  iexact Hr

/-! ## @main -/

/-- What the launch deals the TensorCore for the pipeline's cells, and what @main leaves the claim. -/
def GG (d : Dev nD) : sProp 𝕄 := iprop(Pipeline.cellsGhost (Pipeline.pin (pcfgs (F := F)) adm) EP 0 d ∗ Pipeline.toksInit (Pipeline.pin (pcfgs (F := F)) adm) EP 0 d)
def FIN (d : Dev nD) : sProp 𝕄 := held (d.tc : Thread nD τ) (ucRefs τ sig) (W4 m d)

theorem fin_eq (d : Dev nD) : (held (d.tc : Thread nD τ) (ucRefs τ sig) (after [opOut] (W3 m d)) : sProp 𝕄) = FIN m d := rfl

theorem gg_eq : iprop((bigSep Finset.univ fun d : Dev nD => bigSep Finset.univ fun p => Pipeline.cellsGhost (Pipeline.pin (pcfgs (F := F)) adm) EP p d)
    ∗ (bigSep Finset.univ fun d : Dev nD => bigSep Finset.univ fun p => Pipeline.toksInit (Pipeline.pin (pcfgs (F := F)) adm) EP p d))
    = (bigSep Finset.univ fun d : Dev nD => GG (F := F) d : sProp 𝕄) := by
  unfold GG
  rw [bigSep_sep', bigSep_congr fun (d : Dev nD) _ => bigSep_univ_of_subsingleton (0 : Fin 1), bigSep_congr fun (d : Dev nD) _ => bigSep_univ_of_subsingleton (0 : Fin 1)]

theorem x_emp (tab : ∀ d, Buf (Elt F) (tabLoc d)) (ids : ∀ d, Buf (Elt F) (idsLoc d)) :
    (bigSep Finset.univ fun thr : Thread nD τ => bigSep Finset.univ fun q : Fin 1 => (P tab ids).x q thr) = (iprop(emp) : sProp 𝕄) :=
  (bigSep_congr fun _ _ => bigSep_univ_of_subsingleton (0 : Fin 1)).trans (bigSep_emp_const _)

theorem host_mem {ops : List (HloOp τ sig (Elt F))} (h : ops.Forall fun op => op.bufs ⊆ StableHlo.tcRefs τ sig) : ∀ op ∈ ops, op.bufs ⊆ ucRefs τ sig :=
  fun op ho => Pipeline.sub_ucRefs op (List.forall_iff_forall_mem.mp h op ho)

variable (h1 : ∀ c j, (W1 m c (Proc.devRef .tc main_v10) j : BitVec 32).toNat < 4096) (h2 : ∀ c j, (W1 m c (Proc.devRef .tc main_v12) j : BitVec 32).toNat < 4096)

include h1 h2 in
theorem hmain (κ : GSem nD τ sig → ℕ) (d : Dev nD) :
    iprop((KC (F := F)).ctx EH (P (tabs m) (idss m)) κ ∗ (KC (F := F)).tcSt EH d 0 ∗ (KC (F := F)).tcRes m ρ d ∗ GG (F := F) d)
      ⊢ wp frame (wpE ((KC (F := F)).defs (DD (F := F))) 𝒱 (SparseCore.T d) none) Set.univ (main d)
          fun _ => iprop((KC (F := F)).tcSt EH d 1 ∗ FIN m d ∗ (KC (F := F)).tcEnd d) := by
  rw [main_eq]
  unfold SparseCore.Cfg.tcRes SparseCore.Cfg.tcEnd GG
  iintro ⟨#Hctx, Hst, ⟨Hb, Hheld, Hts, -⟩, Hc, Ht⟩
  ihave Hh := (Entails.of_eq (Pipeline.unscopedBufs_held d (fun b => m (d, b)))) $$ Hheld
  iapply (StableHlo.wp_seq 𝒱 none Set.univ d (ucRefs τ sig) _ hostOps (host_mem hostOps_sub) (List.forall_iff_forall_mem.mp hostOps_fresh) (fun b => m (d, b))) $$ [Hb Hh]
  · isplitl [Hb]; · iexact Hb
    iexact Hh
  iintro ⟨Hb, Hh⟩
  rw [wp_bind]
  iapply ((KC (F := F)).wp_liftProg (DD (F := F)) 𝒱 (SparseCore.T d) Set.univ none callTC _)
  ihave Hs := (tcSt_take d) $$ Hst
  icases Hs with ⟨HO, Hst⟩
  iapply (tc_step (W1 m) h1 h2 d _)
  isplitr; · iapply ((KC (F := F)).ctx_levAts κ) $$ Hctx
  isplitl [Hc]; · iexact Hc
  isplitl [Ht]; · iexact Ht
  isplitl [Hb]; · iexact Hb
  isplitl [Hh]; · iexact Hh
  isplitl [HO]; · iexact HO
  iintro ⟨Hb, Hh, HO⟩
  ispecialize Hst $$ HO
  iapply (StableHlo.wp_seq 𝒱 none Set.univ d (ucRefs τ sig) _ [opTab] (host_mem tail_sub) (by intro op ho; rw [List.mem_singleton.1 ho]; rfl) (afterCall (W1 m) d)) $$ [Hb Hh]
  · isplitl [Hb]; · iexact Hb
    iexact Hh
  iintro ⟨Hb, Hh⟩
  rw [wp_bind]
  iapply (sc_step m κ d _)
  isplitr; · iexact Hctx
  isplitl [Hst]; · iexact Hst
  isplitl [Hh]; · iexact Hh
  iintro ⟨Hst, Hh⟩
  iapply (StableHlo.wp_seq 𝒱 none Set.univ d (ucRefs τ sig) _ [opOut] (host_mem out_sub) (by intro op ho; rw [List.mem_singleton.1 ho]; rfl) (W3 m d)) $$ [Hb Hh]
  · isplitl [Hb]; · iexact Hb
    iexact Hh
  iintro ⟨Hb, Hh⟩
  rw [wp_pure]
  imodintro
  ihave Hh := (Entails.of_eq (fin_eq m d)) $$ Hh
  isplitl [Hst]; · iexact Hst
  isplitl [Hh]; · iexact Hh
  isplitl [Hb] <;> iassumption

/-! ## The launch -/

def fq (d : Dev nD) (s' : Phys nD τ sig (Elt F)) : Prop := ∀ b ∈ ucRefs τ sig, s'.mem.mem (d, b) = W4 m d b

theorem hfin (d : Dev nD) (s' : Phys nD τ sig (Elt F)) : iprop(FIN m d ∗ SI s') ⊢ (⌜fq m d s'⌝ : sProp 𝕄) := by
  have hone : ∀ b ∈ ucRefs τ sig, iprop(FIN m d ∗ SI s') ⊢ (⌜s'.mem.mem (d, b) = W4 m d b⌝ : sProp 𝕄) := fun b hb => by
    unfold FIN held
    refine (sep_mono (bigSep_elim hb) .rfl).trans ?_
    iintro ⟨Hx, HSI⟩
    ihave H := (SI_pointsTo_agree (st := s') (ℓ := (d, b)) (I := Finset.univ) (q := fullShare) (f := W4 m d b)) $$ [HSI Hx]
    · isplitl [HSI] <;> iassumption
    icases H with %hx
    ipureintro; exact funext fun i => hx i (Finset.mem_univ i)
  exact fun x hx b hb => hone b hb x hx

def u₀ : UU := (initOf (KC (F := F)).hsCells (KC (F := F)).hsToks,
  (initOf (Pipeline.cells (Pipeline.pin (pcfgs (F := F)) adm) ((launch0.toP (Val := Elt F)).cellOf_inj adm))
    (Pipeline.launchToks (Pipeline.pin (pcfgs (F := F)) adm) ((launch0.toP (Val := Elt F)).cellOf_inj adm)), 1))

theorem hu₀ : (ownU (u₀ (F := F)) : sProp 𝕄)
    ⊢ |={Set.univ}=> iprop(BI.own (EH (initOf (KC (F := F)).hsCells (KC (F := F)).hsToks)) ∗ (bigSep Finset.univ fun d : Dev nD => GG (F := F) d)
        ∗ bigSep Finset.univ fun thr : Thread nD τ => bigSep Finset.univ fun q : Fin 1 => (P (tabs m) (idss m)).x q thr) := by
  unfold u₀
  iintro Hu
  ihave H := (ownU_pair _ _) $$ Hu
  icases H with ⟨HH, HP⟩
  ihave H := (own_pair_emb _ _ _) $$ HP
  icases H with ⟨HP, -⟩
  imod (Pipeline.fund_ghost (Pipeline.pin (pcfgs (F := F)) adm) EP ((launch0.toP (Val := Elt F)).cellOf_inj adm)) $$ HP with ⟨Hg, Ht⟩
  imodintro
  isplitl [HH]; · iexact HH
  isplitl [Hg Ht]
  · iapply (Entails.of_eq gg_eq) $$ [Hg Ht]
    isplitl [Hg] <;> iassumption
  rw [x_emp]
  iempintro

def QC : PUnit × MemSt nD τ sig (Elt F) → Prop := fun r => (∀ c : Dev nD, ∀ b ∈ ucRefs τ sig, r.2.mem (c, b) = W4 m c b) ∧ r.2.sem = fun _ => 0

/-- The run: every unscoped buffer of every device at `W4`, every semaphore at zero. -/
theorem run_main [∀ e, Nonempty (Elt F e)] (h0 : ∀ d j, (idss m d j).toNat < 4096) (h1 : ∀ c j, (W1 m c (Proc.devRef .tc main_v10) j : BitVec 32).toNat < 4096)
    (h2 : ∀ c j, (W1 m c (Proc.devRef .tc main_v12) j : BitVec 32).toNat < 4096) :
    θ_run (Cert.KernelIdeal.defs (F := F)) (Cert.KernelIdeal.threads (F := F)) ⟨m, fun _ => 0, ρ⟩ (QC m) :=
  SparseCore.Cfg.θ_run_sc_quiescent (K := KC (F := F)) (D := DD (F := F)) (𝒱 := 𝒱) (EH := EH) (P := P (tabs m) (idss m)) (A := ∅) scFacts v₀
    (fun q hq => match q with | 0 => nomatch hq)
    (fun q _ => match q with | 0 => tileObl (tabs m) (idss m) h0)
    (fun q _ => match q with | 0 => SparseCore.Cfg.VecSplit.of_plain (vecSplit (tabs m) (idss m)))
    m ρ main (GG (F := F)) (FIN m) (u₀ (F := F)) (sep_elim_left.trans (hu₀ m)) (hmain m ρ h1 h2) (fq m) (hfin m) (QC m) (fun _ h hz => ⟨h, hz⟩)

end Cert.Proof.KI

end
-- ==== Proof.KI.Read.lean ====
/-
  What the buffers hold: the arguments at the end as at the launch, the ids at the two calls, the result read off the table.
-/
module

public import proofs.«01_k».proof.Proof.KI.Launch

@[expose] public section

noncomputable section

namespace Cert.Proof.KI

open Cert.KernelIdeal Cert.KernelIdeal.Gen

open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

/-- The buffers the host operations before the call write. -/
def written : List (Ref sig .tc) :=
  [main_v0, main_v1, main_v2, main_v3, main_cst, main_v4, main_v5, main_cst_0, main_v6, main_v7, main_v8, main_v9, main_v10, main_v11, main_v12, main_v13,
    main_v14, main_v15, main_v16, main_v17, main_v18, main_v19, main_v20, main_v21, main_v22, main_v23, main_v24]

theorem W1_keep (d : Dev nD) (b : Ref sig .tc) (h : ∀ w ∈ written, b ≠ w) : W1 m d (Proc.devRef .tc b) = m (d, Proc.devRef .tc b) := by
  unfold W1
  refine after_of_forall_not_mem (b := Proc.devRef .tc b) _ _ (List.forall_iff_forall_mem.mp ?_)
  simp only [hostOps, List.Forall, nullary_writes, unary_writes, binary_writes, reshape_writes, Finset.mem_singleton]
  repeat' apply And.intro
  all_goals exact devRef_ne_of_ne (h _ (by decide))

theorem W2_keep (d : Dev nD) (b : Ref sig .tc) (h5 : b ≠ main_v25) (h6 : b ≠ main_v26) : W2 m d (Proc.devRef .tc b) = W1 m d (Proc.devRef .tc b) := by
  unfold W2
  refine (after_of_forall_not_mem (b := Proc.devRef .tc b) _ _ (List.forall_iff_forall_mem.mp ?_)).trans (afterCall_of_ne _ d b h5)
  simp only [List.Forall, reshape_writes, Finset.mem_singleton]
  exact devRef_ne_of_ne h6

theorem W4_keep (d : Dev nD) (b : Ref sig .tc) (h7 : b ≠ main_v27) (h8 : b ≠ main_v28) : W4 m d (Proc.devRef .tc b) = W2 m d (Proc.devRef .tc b) := by
  unfold W4
  refine (after_of_forall_not_mem (b := Proc.devRef .tc b) _ _ (List.forall_iff_forall_mem.mp ?_)).trans (W3_of_ne m d b h7)
  simp only [List.Forall, reshape_writes, Finset.mem_singleton]
  exact devRef_ne_of_ne h8

theorem W4_arg (d : Dev nD) (b : Ref sig .tc) (h : ∀ w ∈ main_v25 :: main_v26 :: main_v27 :: main_v28 :: written, b ≠ w) :
    W4 m d (Proc.devRef .tc b) = m (d, Proc.devRef .tc b) := by
  rw [W4_keep m d b (h _ (by decide)) (h _ (by decide)), W2_keep m d b (h _ (by decide)) (h _ (by decide)),
    W1_keep m d b fun w hw => h w (List.mem_cons_of_mem _ (List.mem_cons_of_mem _ (List.mem_cons_of_mem _ (List.mem_cons_of_mem _ hw))))]

/-- The ids as the two calls read them. -/
def idsArg (d : Dev nD) : S1600000x1.Idx → BitVec 32 := m (d, Proc.devRef .tc main_arg1)

theorem idss_eq (d : Dev nD) : idss m d = shapeCast S1600000 (idsArg m d) shapeCasts_S1600000x1_S1600000 := by
  unfold idss
  rw [W2_keep m d main_v0 (by decide) (by decide)]
  unfold W1
  simp only [hostOps]
  after_results_simp <;> rfl

theorem W1_v10 (d : Dev nD) : W1 m d (Proc.devRef .tc main_v10) = shapeCast S200 (extractStridedSlice S200x1 ![0, 0] (shapeCast S200x8000
    (shapeCast S1600000 (idsArg m d) shapeCasts_S1600000x1_S1600000) shapeCasts_S1600000_S200x8000) slices_S200x8000_S200x1_0_0) shapeCasts_S200x1_S200 := by
  unfold W1
  simp only [hostOps]
  after_results_simp <;> rfl

theorem W1_v12 (d : Dev nD) : W1 m d (Proc.devRef .tc main_v12) = shapeCast S200 (extractStridedSlice S200x1 ![0, 7999] (shapeCast S200x8000
    (shapeCast S1600000 (idsArg m d) shapeCasts_S1600000x1_S1600000) shapeCasts_S1600000_S200x8000) slices_S200x8000_S200x1_0_7999) shapeCasts_S200x1_S200 := by
  unfold W1
  simp only [hostOps]
  after_results_simp <;> rfl

/-- A word every id satisfies a condition on, so do the ids in any other order. -/
theorem words_of (p : BitVec 32 → Prop) (d : Dev nD) (h : ∀ i, p (idsArg m d i)) :
    (∀ j, p (idss m d j)) ∧ (∀ j, p (W1 m d (Proc.devRef .tc main_v10) j)) ∧ ∀ j, p (W1 m d (Proc.devRef .tc main_v12) j) := by
  rw [idss_eq, W1_v10, W1_v12]
  exact ⟨fun j => h _, fun j => h _, fun j => h _⟩

/-- The result: entry `ids j` of the table, for every point `j`. -/
theorem W4_out (d : Dev nD) : W4 m d (Proc.devRef .tc main_v28) = shapeCast S1600000x1 (gathered (shapeCast S4096 (tableAt (W1 m) d) shapeCasts_S4096x1_S4096)
    (shapeCast S1600000 (idsArg m d) shapeCasts_S1600000x1_S1600000)) shapeCasts_S1600000_S1600000x1 := by
  rw [← idss_eq]
  have ht : tabs m d = shapeCast S4096 (tableAt (W1 m) d) shapeCasts_S4096x1_S4096 := by
    unfold tabs W2 afterCall
    simp only [opTab]
    after_results_simp
    exact congrArg (fun x => shapeCast S4096 x shapeCasts_S4096x1_S4096) (Function.update_self (Proc.devRef (τ := τ) .tc main_v25) (tableAt (W1 m) d) (W1 m d))
  rw [← ht, show gathered (tabs m d) (idss m d) = gath m d from rfl, ← W3_v27]
  unfold W4
  simp only [opOut]
  after_results_simp <;> rfl

end Cert.Proof.KI

end
-- ==== Proof.KI.Frame.lean ====
/-
  The run from ids in the table: the arguments end unchanged, the result at the gathered table, every semaphore at zero.
-/
module

public import proofs.«01_k».proof.Proof.KI.Read

@[expose] public section

noncomputable section

namespace Cert.Proof.KI

open Cert.KernelIdeal Cert.KernelIdeal.Gen

open Idealize.ShloMosaic Idealize.ShloMosaic.TcCoe Idealize.ShloMosaic.StableHlo
open Idealize.SL Idealize.SL.Sem

variable {F : FTy → Type} [FloatOps F]

/-- The arguments of @main. -/
def argRefs : List (Ref sig .tc) :=
  [main_arg0, main_arg1, main_arg2, main_arg3, main_arg4, main_arg5, main_arg6, main_arg7, main_arg8, main_arg9, main_arg10, main_arg11, main_arg12, main_arg13, main_arg14]

theorem argRefs_uc : ∀ b ∈ argRefs, Proc.devRef (τ := τ) .tc b ∈ Pipeline.ucRefs τ sig := by decide +kernel
theorem argRefs_ne : ∀ b ∈ argRefs, ∀ w ∈ main_v25 :: main_v26 :: main_v27 :: main_v28 :: written, b ≠ w := by decide
theorem out_uc : Proc.devRef (τ := τ) .tc main_v28 ∈ Pipeline.ucRefs τ sig := by decide +kernel

/-- The end of the run. -/
def EndsAt (m : (ℓ : Loc nD τ sig) → Buf (Elt F) ℓ) (r : PUnit × MemSt nD τ sig (Elt F)) : Prop :=
  (∀ (c : Dev nD), ∀ b ∈ argRefs, r.2.mem ((c.tc : Thread nD τ).loc b) = m ((c.tc : Thread nD τ).loc b))
    ∧ (∀ c : Dev nD, r.2.mem ((c.tc : Thread nD τ).loc main_v28) = W4 m c (Proc.devRef .tc main_v28)) ∧ r.2.sem = fun _ => 0

theorem run_ends [∀ e, Nonempty (Elt F e)] (m : (ℓ : Loc nD τ sig) → Buf (Elt F) ℓ) (ρ : Dev nD → PrngReg) (h : ∀ d i, (idsArg m d i).toNat < 4096) :
    θ_run (Cert.KernelIdeal.defs (F := F)) (Cert.KernelIdeal.threads (F := F)) ⟨m, fun _ => 0, ρ⟩ (EndsAt m) :=
  (θ_run _ _ _).mono (fun r hr => ⟨fun c b hb => (hr.1 c _ (argRefs_uc b hb)).trans (W4_arg m c b (argRefs_ne b hb)), fun c => hr.1 c _ out_uc, hr.2⟩)
    (run_main m ρ (fun d => (words_of m (·.toNat < 4096) d (h d)).1) (fun d => (words_of m (·.toNat < 4096) d (h d)).2.1) fun d => (words_of m (·.toNat < 4096) d (h d)).2.2)

end Cert.Proof.KI

end
-- ==== Proof.R.Run.lean ====
/-
  The reference's run: @main as its host operations in six stretches, and what the whole line leaves in every buffer.
-/
module

public import proofs.«01_k».proof.Proof.Gen.ReferenceIdeal
public import Idealize.ShloMosaic.Lib.StableHlo.Run

@[expose] public section

noncomputable section

namespace Cert.Proof.R

open Cert.ReferenceIdeal Cert.ReferenceIdeal.Gen Idealize.ShloMosaic Idealize.ShloMosaic.TcCoe Idealize.SL.Sem Idealize.ShloMosaic.StableHlo

variable {F : FTy → Type} [FloatOps F]

/-- The two layers over every point. -/
abbrev opsMlp : List (HloOp τ sig (Elt F)) :=
  [ unary main_arg2 main_v0 ((transpose S32x32 [1, 0] · transposes_S32x32_S32x32_1_0) : (⟨S32x32, .f32⟩ : BufTy).Contents (Elt F) → (⟨S32x32, .f32⟩ : BufTy).Contents (Elt F)),
    binary main_arg0 main_v0 main_v1 ((fun l r => Host.dotGeneral dot_S1600000x32_S32x32_S1600000x32_1_0_0_1_n_n none l r) : (⟨S1600000x32, .f32⟩ : BufTy).Contents (Elt F) → (⟨S32x32, .f32⟩ : BufTy).Contents (Elt F) → (⟨S1600000x32, .f32⟩ : BufTy).Contents (Elt F)),
    unary main_arg3 main_v2 (broadcastInDim S1x32 ![1] bcast_S32_S1x32_1 : (⟨S32, .f32⟩ : BufTy).Contents (Elt F) → (⟨S1x32, .f32⟩ : BufTy).Contents (Elt F)),
    unary main_v2 main_v3 (broadcastInDim S1600000x32 ![0, 1] bcast_S1x32_S1600000x32_0_1 : (⟨S1x32, .f32⟩ : BufTy).Contents (Elt F) → (⟨S1600000x32, .f32⟩ : BufTy).Contents (Elt F)),
    binary main_v1 main_v3 main_v4 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x32, .f32⟩) main_call0_v0) (broadcastInDim S1600000x32 ![] bcast_S_S1600000x32),
    TRef.binary (TRef.of (T := ⟨S1600000x32, .f32⟩) main_v4) (TRef.of (T := ⟨S1600000x32, .f32⟩) main_call0_v0) (TRef.of (T := ⟨S1600000x32, .f32⟩) main_v5) maximumf,
    unary main_arg4 main_v6 ((transpose S32x32 [1, 0] · transposes_S32x32_S32x32_1_0) : (⟨S32x32, .f32⟩ : BufTy).Contents (Elt F) → (⟨S32x32, .f32⟩ : BufTy).Contents (Elt F)),
    binary main_v5 main_v6 main_v7 ((fun l r => Host.dotGeneral dot_S1600000x32_S32x32_S1600000x32_1_0_0_1_n_n none l r) : (⟨S1600000x32, .f32⟩ : BufTy).Contents (Elt F) → (⟨S32x32, .f32⟩ : BufTy).Contents (Elt F) → (⟨S1600000x32, .f32⟩ : BufTy).Contents (Elt F)),
    unary main_arg5 main_v8 (broadcastInDim S1x32 ![1] bcast_S32_S1x32_1 : (⟨S32, .f32⟩ : BufTy).Contents (Elt F) → (⟨S1x32, .f32⟩ : BufTy).Contents (Elt F)),
    unary main_v8 main_v9 (broadcastInDim S1600000x32 ![0, 1] bcast_S1x32_S1600000x32_0_1 : (⟨S1x32, .f32⟩ : BufTy).Contents (Elt F) → (⟨S1600000x32, .f32⟩ : BufTy).Contents (Elt F)),
    binary main_v7 main_v9 main_v10 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1600000x32, .f32⟩) main_call1_v0) (broadcastInDim S1600000x32 ![] bcast_S_S1600000x32),
    TRef.binary (TRef.of (T := ⟨S1600000x32, .f32⟩) main_v10) (TRef.of (T := ⟨S1600000x32, .f32⟩) main_call1_v0) (TRef.of (T := ⟨S1600000x32, .f32⟩) main_v11) maximumf ]

/-- The mean of the features over the points of an id. -/
abbrev opsMean : List (HloOp τ sig (Elt F)) :=
  [ reshape main_arg1 main_v12 (rfl : (.i32 : EltTy) = .i32) shapeCasts_S1600000x1_S1600000,
    nullary main_cst (constant S_ .f32 0x00000000#32),
    unary main_cst main_v13 (broadcastInDim S4096x32 ![] bcast_S_S4096x32 : (⟨S_, .f32⟩ : BufTy).Contents (Elt F) → (⟨S4096x32, .f32⟩ : BufTy).Contents (Elt F)),
    unary main_v12 main_v14 (broadcastInDim S1600000x1 ![0] bcast_S1600000_S1600000x1_0 : (⟨S1600000, .i32⟩ : BufTy).Contents (Elt F) → (⟨S1600000x1, .i32⟩ : BufTy).Contents (Elt F)),
    ternary main_v13 main_v14 main_v11 main_v15 ((fun x i u => Host.scatterAdd scatter_S4096x32_S1600000x1_S1600000x32_1_0_0_1 x i u) : (⟨S4096x32, .f32⟩ : BufTy).Contents (Elt F) → (⟨S1600000x1, .i32⟩ : BufTy).Contents (Elt F) → (⟨S1600000x32, .f32⟩ : BufTy).Contents (Elt F) → (⟨S4096x32, .f32⟩ : BufTy).Contents (Elt F)),
    nullary main_cst_0 (constant S_ .f32 0x3F800000#32),
    unary main_cst_0 main_v16 (broadcastInDim S1600000x1 ![] bcast_S_S1600000x1 : (⟨S_, .f32⟩ : BufTy).Contents (Elt F) → (⟨S1600000x1, .f32⟩ : BufTy).Contents (Elt F)),
    nullary main_cst_1 (constant S_ .f32 0x00000000#32),
    unary main_cst_1 main_v17 (broadcastInDim S4096x1 ![] bcast_S_S4096x1 : (⟨S_, .f32⟩ : BufTy).Contents (Elt F) → (⟨S4096x1, .f32⟩ : BufTy).Contents (Elt F)),
    unary main_v12 main_v18 (broadcastInDim S1600000x1 ![0] bcast_S1600000_S1600000x1_0 : (⟨S1600000, .i32⟩ : BufTy).Contents (Elt F) → (⟨S1600000x1, .i32⟩ : BufTy).Contents (Elt F)),
    ternary main_v17 main_v18 main_v16 main_v19 ((fun x i u => Host.scatterAdd scatter_S4096x1_S1600000x1_S1600000x1_1_0_0_1 x i u) : (⟨S4096x1, .f32⟩ : BufTy).Contents (Elt F) → (⟨S1600000x1, .i32⟩ : BufTy).Contents (Elt F) → (⟨S1600000x1, .f32⟩ : BufTy).Contents (Elt F) → (⟨S4096x1, .f32⟩ : BufTy).Contents (Elt F)),
    nullary main_cst_2 (constant S_ .f32 0x3F800000#32),
    unary main_cst_2 main_v20 (broadcastInDim S4096x1 ![] bcast_S_S4096x1 : (⟨S_, .f32⟩ : BufTy).Contents (Elt F) → (⟨S4096x1, .f32⟩ : BufTy).Contents (Elt F)),
    binary main_v19 main_v20 main_v21 (maximumf : (⟨S4096x1, .f32⟩ : BufTy).Contents (Elt F) → (⟨S4096x1, .f32⟩ : BufTy).Contents (Elt F) → (⟨S4096x1, .f32⟩ : BufTy).Contents (Elt F)),
    unary main_v21 main_v22 (broadcastInDim S4096x32 ![0, 1] bcast_S4096x1_S4096x32_0_1 : (⟨S4096x1, .f32⟩ : BufTy).Contents (Elt F) → (⟨S4096x32, .f32⟩ : BufTy).Contents (Elt F)),
    binary main_v15 main_v22 main_v23 (Host.divf : (⟨S4096x32, .f32⟩ : BufTy).Contents (Elt F) → (⟨S4096x32, .f32⟩ : BufTy).Contents (Elt F) → (⟨S4096x32, .f32⟩ : BufTy).Contents (Elt F)) ]

/-- Three layers and the logits. -/
abbrev opsLogits : List (HloOp τ sig (Elt F)) :=
  [ unary main_arg6 main_v24 ((transpose S32x32 [1, 0] · transposes_S32x32_S32x32_1_0) : (⟨S32x32, .f32⟩ : BufTy).Contents (Elt F) → (⟨S32x32, .f32⟩ : BufTy).Contents (Elt F)),
    binary main_v23 main_v24 main_v25 ((fun l r => Host.dotGeneral dot_S4096x32_S32x32_S4096x32_1_0_0_1_n_n none l r) : (⟨S4096x32, .f32⟩ : BufTy).Contents (Elt F) → (⟨S32x32, .f32⟩ : BufTy).Contents (Elt F) → (⟨S4096x32, .f32⟩ : BufTy).Contents (Elt F)),
    unary main_arg7 main_v26 (broadcastInDim S1x32 ![1] bcast_S32_S1x32_1 : (⟨S32, .f32⟩ : BufTy).Contents (Elt F) → (⟨S1x32, .f32⟩ : BufTy).Contents (Elt F)),
    unary main_v26 main_v27 (broadcastInDim S4096x32 ![0, 1] bcast_S1x32_S4096x32_0_1 : (⟨S1x32, .f32⟩ : BufTy).Contents (Elt F) → (⟨S4096x32, .f32⟩ : BufTy).Contents (Elt F)),
    binary main_v25 main_v27 main_v28 (addf : (⟨S4096x32, .f32⟩ : BufTy).Contents (Elt F) → (⟨S4096x32, .f32⟩ : BufTy).Contents (Elt F) → (⟨S4096x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x32, .f32⟩) main_call2_v0) (broadcastInDim S4096x32 ![] bcast_S_S4096x32),
    TRef.binary (TRef.of (T := ⟨S4096x32, .f32⟩) main_v28) (TRef.of (T := ⟨S4096x32, .f32⟩) main_call2_v0) (TRef.of (T := ⟨S4096x32, .f32⟩) main_v29) maximumf,
    unary main_arg8 main_v30 ((transpose S32x32 [1, 0] · transposes_S32x32_S32x32_1_0) : (⟨S32x32, .f32⟩ : BufTy).Contents (Elt F) → (⟨S32x32, .f32⟩ : BufTy).Contents (Elt F)),
    binary main_v29 main_v30 main_v31 ((fun l r => Host.dotGeneral dot_S4096x32_S32x32_S4096x32_1_0_0_1_n_n none l r) : (⟨S4096x32, .f32⟩ : BufTy).Contents (Elt F) → (⟨S32x32, .f32⟩ : BufTy).Contents (Elt F) → (⟨S4096x32, .f32⟩ : BufTy).Contents (Elt F)),
    unary main_arg9 main_v32 (broadcastInDim S1x32 ![1] bcast_S32_S1x32_1 : (⟨S32, .f32⟩ : BufTy).Contents (Elt F) → (⟨S1x32, .f32⟩ : BufTy).Contents (Elt F)),
    unary main_v32 main_v33 (broadcastInDim S4096x32 ![0, 1] bcast_S1x32_S4096x32_0_1 : (⟨S1x32, .f32⟩ : BufTy).Contents (Elt F) → (⟨S4096x32, .f32⟩ : BufTy).Contents (Elt F)),
    binary main_v31 main_v33 main_v34 (addf : (⟨S4096x32, .f32⟩ : BufTy).Contents (Elt F) → (⟨S4096x32, .f32⟩ : BufTy).Contents (Elt F) → (⟨S4096x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4096x32, .f32⟩) main_call3_v0) (broadcastInDim S4096x32 ![] bcast_S_S4096x32),
    TRef.binary (TRef.of (T := ⟨S4096x32, .f32⟩) main_v34) (TRef.of (T := ⟨S4096x32, .f32⟩) main_call3_v0) (TRef.of (T := ⟨S4096x32, .f32⟩) main_v35) maximumf,
    unary main_arg10 main_v36 ((transpose S32x32 [1, 0] · transposes_S32x32_S32x32_1_0) : (⟨S32x32, .f32⟩ : BufTy).Contents (Elt F) → (⟨S32x32, .f32⟩ : BufTy).Contents (Elt F)),
    binary main_v35 main_v36 main_v37 ((fun l r => Host.dotGeneral dot_S4096x32_S32x32_S4096x32_1_0_0_1_n_n none l r) : (⟨S4096x32, .f32⟩ : BufTy).Contents (Elt F) → (⟨S32x32, .f32⟩ : BufTy).Contents (Elt F) → (⟨S4096x32, .f32⟩ : BufTy).Contents (Elt F)),
    unary main_arg11 main_v38 (broadcastInDim S1x32 ![1] bcast_S32_S1x32_1 : (⟨S32, .f32⟩ : BufTy).Contents (Elt F) → (⟨S1x32, .f32⟩ : BufTy).Contents (Elt F)),
    unary main_v38 main_v39 (broadcastInDim S4096x32 ![0, 1] bcast_S1x32_S4096x32_0_1 : (⟨S1x32, .f32⟩ : BufTy).Contents (Elt F) → (⟨S4096x32, .f32⟩ : BufTy).Contents (Elt F)),
    binary main_v37 main_v39 main_v40 (addf : (⟨S4096x32, .f32⟩ : BufTy).Contents (Elt F) → (⟨S4096x32, .f32⟩ : BufTy).Contents (Elt F) → (⟨S4096x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4096x32, .f32⟩) main_call4_v0) (broadcastInDim S4096x32 ![] bcast_S_S4096x32),
    TRef.binary (TRef.of (T := ⟨S4096x32, .f32⟩) main_v40) (TRef.of (T := ⟨S4096x32, .f32⟩) main_call4_v0) (TRef.of (T := ⟨S4096x32, .f32⟩) main_v41) maximumf,
    unary main_arg12 main_v42 ((transpose S32x2 [1, 0] · transposes_S2x32_S32x2_1_0) : (⟨S2x32, .f32⟩ : BufTy).Contents (Elt F) → (⟨S32x2, .f32⟩ : BufTy).Contents (Elt F)),
    binary main_v41 main_v42 main_v43 ((fun l r => Host.dotGeneral dot_S4096x32_S32x2_S4096x2_1_0_0_1_n_n none l r) : (⟨S4096x32, .f32⟩ : BufTy).Contents (Elt F) → (⟨S32x2, .f32⟩ : BufTy).Contents (Elt F) → (⟨S4096x2, .f32⟩ : BufTy).Contents (Elt F)),
    unary main_arg13 main_v44 (broadcastInDim S1x2 ![1] bcast_S2_S1x2_1 : (⟨S2, .f32⟩ : BufTy).Contents (Elt F) → (⟨S1x2, .f32⟩ : BufTy).Contents (Elt F)),
    unary main_v44 main_v45 (broadcastInDim S4096x2 ![0, 1] bcast_S1x2_S4096x2_0_1 : (⟨S1x2, .f32⟩ : BufTy).Contents (Elt F) → (⟨S4096x2, .f32⟩ : BufTy).Contents (Elt F)),
    binary main_v43 main_v45 main_v46 (addf : (⟨S4096x2, .f32⟩ : BufTy).Contents (Elt F) → (⟨S4096x2, .f32⟩ : BufTy).Contents (Elt F) → (⟨S4096x2, .f32⟩ : BufTy).Contents (Elt F)) ]

/-- The noise and the softmax. -/
abbrev opsSoft : List (HloOp τ sig (Elt F)) :=
  [ nullary main_cst_3 (constant S_ .f32 0x2EDBE6FF#32),
    nullary main_cst_4 (constant S_ .f32 0x3F800000#32),
    TRef.unary (TRef.of (T := ⟨S_, .f32⟩) main_cst_3) (TRef.of (T := ⟨S_, .f32⟩) main_call5_v0) id,
    TRef.unary (TRef.of (T := ⟨S_, .f32⟩) main_call5_v0) (TRef.of (T := ⟨S4096x2, .f32⟩) main_call5_v1) (broadcastInDim S4096x2 ![] bcast_S_S4096x2),
    TRef.binary (TRef.of (T := ⟨S4096x2, .f32⟩) main_call5_v1) (TRef.of (T := ⟨S4096x2, .f32⟩) main_arg14) (TRef.of (T := ⟨S4096x2, .f32⟩) main_call5_v2) maximumf,
    TRef.unary (TRef.of (T := ⟨S_, .f32⟩) main_cst_4) (TRef.of (T := ⟨S_, .f32⟩) main_call5_v3) id,
    TRef.unary (TRef.of (T := ⟨S_, .f32⟩) main_call5_v3) (TRef.of (T := ⟨S4096x2, .f32⟩) main_call5_v4) (broadcastInDim S4096x2 ![] bcast_S_S4096x2),
    TRef.binary (TRef.of (T := ⟨S4096x2, .f32⟩) main_call5_v4) (TRef.of (T := ⟨S4096x2, .f32⟩) main_call5_v2) (TRef.of (T := ⟨S4096x2, .f32⟩) main_v47) minimumf,
    unary main_v47 main_v48 (Host.log : (⟨S4096x2, .f32⟩ : BufTy).Contents (Elt F) → (⟨S4096x2, .f32⟩ : BufTy).Contents (Elt F)),
    unary main_v48 main_v49 (Host.negf : (⟨S4096x2, .f32⟩ : BufTy).Contents (Elt F) → (⟨S4096x2, .f32⟩ : BufTy).Contents (Elt F)),
    unary main_v49 main_v50 (Host.log : (⟨S4096x2, .f32⟩ : BufTy).Contents (Elt F) → (⟨S4096x2, .f32⟩ : BufTy).Contents (Elt F)),
    unary main_v50 main_v51 (Host.negf : (⟨S4096x2, .f32⟩ : BufTy).Contents (Elt F) → (⟨S4096x2, .f32⟩ : BufTy).Contents (Elt F)),
    binary main_v46 main_v51 main_v52 (addf : (⟨S4096x2, .f32⟩ : BufTy).Contents (Elt F) → (⟨S4096x2, .f32⟩ : BufTy).Contents (Elt F) → (⟨S4096x2, .f32⟩ : BufTy).Contents (Elt F)),
    nullary main_cst_5 (constant S_ .f32 0xFF800000#32),
    binary main_v52 main_cst_5 main_v53 ((fun x v => Host.reduce FloatOps.maximumf x v reducesTo_S4096x2_S4096_d1 h_S_) : (⟨S4096x2, .f32⟩ : BufTy).Contents (Elt F) → (⟨S_, .f32⟩ : BufTy).Contents (Elt F) → (⟨S4096, .f32⟩ : BufTy).Contents (Elt F)),
    nullary main_cst_6 (constant S_ .f32 0xFF800000#32),
    unary main_cst_6 main_v54 (broadcastInDim S4096 ![] bcast_S_S4096 : (⟨S_, .f32⟩ : BufTy).Contents (Elt F) → (⟨S4096, .f32⟩ : BufTy).Contents (Elt F)),
    binary main_v54 main_v53 main_v55 (maximumf : (⟨S4096, .f32⟩ : BufTy).Contents (Elt F) → (⟨S4096, .f32⟩ : BufTy).Contents (Elt F) → (⟨S4096, .f32⟩ : BufTy).Contents (Elt F)),
    unary main_v55 main_v56 (broadcastInDim S4096x1 ![0] bcast_S4096_S4096x1_0 : (⟨S4096, .f32⟩ : BufTy).Contents (Elt F) → (⟨S4096x1, .f32⟩ : BufTy).Contents (Elt F)),
    unary main_v56 main_v57 (broadcastInDim S4096x2 ![0, 1] bcast_S4096x1_S4096x2_0_1 : (⟨S4096x1, .f32⟩ : BufTy).Contents (Elt F) → (⟨S4096x2, .f32⟩ : BufTy).Contents (Elt F)),
    binary main_v52 main_v57 main_v58 (subf : (⟨S4096x2, .f32⟩ : BufTy).Contents (Elt F) → (⟨S4096x2, .f32⟩ : BufTy).Contents (Elt F) → (⟨S4096x2, .f32⟩ : BufTy).Contents (Elt F)),
    unary main_v58 main_v59 (Host.exp : (⟨S4096x2, .f32⟩ : BufTy).Contents (Elt F) → (⟨S4096x2, .f32⟩ : BufTy).Contents (Elt F)),
    nullary main_cst_7 (constant S_ .f32 0x00000000#32),
    binary main_v59 main_cst_7 main_v60 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_v60 main_v61 (broadcastInDim S4096x1 ![0] bcast_S4096_S4096x1_0 : (⟨S4096, .f32⟩ : BufTy).Contents (Elt F) → (⟨S4096x1, .f32⟩ : BufTy).Contents (Elt F)),
    unary main_v61 main_v62 (broadcastInDim S4096x2 ![0, 1] bcast_S4096x1_S4096x2_0_1 : (⟨S4096x1, .f32⟩ : BufTy).Contents (Elt F) → (⟨S4096x2, .f32⟩ : BufTy).Contents (Elt F)),
    binary main_v59 main_v62 main_v63 (Host.divf : (⟨S4096x2, .f32⟩ : BufTy).Contents (Elt F) → (⟨S4096x2, .f32⟩ : BufTy).Contents (Elt F) → (⟨S4096x2, .f32⟩ : BufTy).Contents (Elt F)) ]

/-- The greater of the two, straight through. -/
abbrev opsHard : List (HloOp τ sig (Elt F)) :=
  [ TRef.nullary (TRef.of (T := ⟨S4096x2, .i32⟩) main_call6_v0) (iotaInDim S4096x2 32 1),
    TRef.nullary (TRef.of (T := ⟨S_, .f32⟩) main_call6_cst) (constant S_ .f32 0xFF800000#32),
    TRef.nullary (TRef.of (T := ⟨S_, .i32⟩) main_call6_c) (constantI S_ 32 0#32),
    TRef.quaternary (TRef.of (T := ⟨S4096x2, .f32⟩) main_v63) (TRef.of (T := ⟨S4096x2, .i32⟩) main_call6_v0) (TRef.of (T := ⟨S_, .f32⟩) main_call6_cst) (TRef.of (T := ⟨S_, .i32⟩) main_call6_c) (TRef.of (T := ⟨S4096, .f32⟩) main_call6_v1_0) (fun x y u v j => (Host.argReduce reducer_argmax_f32_i32 x y u v reducesTo_S4096x2_S4096_d1 h_S_ j).1),
    TRef.quaternary (TRef.of (T := ⟨S4096x2, .f32⟩) main_v63) (TRef.of (T := ⟨S4096x2, .i32⟩) main_call6_v0) (TRef.of (T := ⟨S_, .f32⟩) main_call6_cst) (TRef.of (T := ⟨S_, .i32⟩) main_call6_c) (TRef.of (T := ⟨S4096, .i32⟩) main_v64) (fun x y u v j => (Host.argReduce reducer_argmax_f32_i32 x y u v reducesTo_S4096x2_S4096_d1 h_S_ j).2),
    TRef.unary (TRef.of (T := ⟨S4096, .i32⟩) main_v64) (TRef.of (T := ⟨S4096x1, .i32⟩) main_call7_v0) (broadcastInDim S4096x1 ![0] bcast_S4096_S4096x1_0),
    TRef.nullary (TRef.of (T := ⟨S1x2, .i32⟩) main_call7_v1) (iotaInDim S1x2 32 1),
    TRef.unary (TRef.of (T := ⟨S4096x1, .i32⟩) main_call7_v0) (TRef.of (T := ⟨S4096x2, .i32⟩) main_call7_v2) (broadcastInDim S4096x2 ![0, 1] bcast_S4096x1_S4096x2_0_1),
    TRef.unary (TRef.of (T := ⟨S1x2, .i32⟩) main_call7_v1) (TRef.of (T := ⟨S4096x2, .i32⟩) main_call7_v3) (broadcastInDim S4096x2 ![0, 1] bcast_S1x2_S4096x2_0_1),
    TRef.binary (TRef.of (T := ⟨S4096x2, .i32⟩) main_call7_v2) (TRef.of (T := ⟨S4096x2, .i32⟩) main_call7_v3) (TRef.of (T := ⟨S4096x2, .i1⟩) main_call7_v4) (cmpi .eq),
    TRef.unary (TRef.of (T := ⟨S4096x2, .i1⟩) main_call7_v4) (TRef.of (T := ⟨S4096x2, .f32⟩) main_v65) (uitofp .f32),
    binary main_v65 main_v63 main_v66 (subf : (⟨S4096x2, .f32⟩ : BufTy).Contents (Elt F) → (⟨S4096x2, .f32⟩ : BufTy).Contents (Elt F) → (⟨S4096x2, .f32⟩ : BufTy).Contents (Elt F)),
    binary main_v66 main_v63 main_v67 (addf : (⟨S4096x2, .f32⟩ : BufTy).Contents (Elt F) → (⟨S4096x2, .f32⟩ : BufTy).Contents (Elt F) → (⟨S4096x2, .f32⟩ : BufTy).Contents (Elt F)),
    unary main_v67 main_v68 ((extractStridedSlice S4096x1 ![0, 1] · slices_S4096x2_S4096x1_0_1) : (⟨S4096x2, .f32⟩ : BufTy).Contents (Elt F) → (⟨S4096x1, .f32⟩ : BufTy).Contents (Elt F)),
    reshape main_v68 main_v69 (rfl : (.f32 : EltTy) = .f32) shapeCasts_S4096x1_S4096 ]

/-- Every point the value of its id. -/
abbrev opsOut : List (HloOp τ sig (Elt F)) :=
  [ nullary main_c (constantI S_ 32 0#32),
    unary main_c main_v70 (broadcastInDim S1600000 ![] bcast_S_S1600000 : (⟨S_, .i32⟩ : BufTy).Contents (Elt F) → (⟨S1600000, .i32⟩ : BufTy).Contents (Elt F)),
    binary main_v12 main_v70 main_v71 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 4096#32),
    unary main_c_8 main_v72 (broadcastInDim S1600000 ![] bcast_S_S1600000 : (⟨S_, .i32⟩ : BufTy).Contents (Elt F) → (⟨S1600000, .i32⟩ : BufTy).Contents (Elt F)),
    binary main_v12 main_v72 main_v73 (addi : (⟨S1600000, .i32⟩ : BufTy).Contents (Elt F) → (⟨S1600000, .i32⟩ : BufTy).Contents (Elt F) → (⟨S1600000, .i32⟩ : BufTy).Contents (Elt F)),
    ternary main_v71 main_v73 main_v12 main_v74 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v74 main_v75 (broadcastInDim S1600000x1 ![0] bcast_S1600000_S1600000x1_0 : (⟨S1600000, .i32⟩ : BufTy).Contents (Elt F) → (⟨S1600000x1, .i32⟩ : BufTy).Contents (Elt F)),
    binary main_v69 main_v75 main_v76 ((fun x i => Host.gather gather_S4096_S1600000x1_S1600000_n_0_n_n_0_1_1 x i) : (⟨S4096, .f32⟩ : BufTy).Contents (Elt F) → (⟨S1600000x1, .i32⟩ : BufTy).Contents (Elt F) → (⟨S1600000, .f32⟩ : BufTy).Contents (Elt F)),
    unary main_v76 main_v77 (broadcastInDim S1600000x1 ![0] bcast_S1600000_S1600000x1_0 : (⟨S1600000, .f32⟩ : BufTy).Contents (Elt F) → (⟨S1600000x1, .f32⟩ : BufTy).Contents (Elt F)) ]

abbrev ops : List (HloOp τ sig (Elt F)) := opsMlp ++ (opsMean ++ (opsLogits ++ (opsSoft ++ (opsHard ++ opsOut))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., reshape_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩

/-- Every weakly fair execution ends with every buffer at what the operations make of the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.Proof.R

end
-- ==== Proof.R.Frame.lean ====
/-
  The reference's run at its arguments: none of its operations writes one.
-/
module

public import proofs.«01_k».proof.Proof.R.Run

@[expose] public section

noncomputable section

namespace Cert.Proof.R

open Cert.ReferenceIdeal Cert.ReferenceIdeal.Gen Idealize.ShloMosaic Idealize.ShloMosaic.TcCoe Idealize.SL.Sem Idealize.ShloMosaic.StableHlo

variable {F : FTy → Type} [FloatOps F]

/-- The buffers the operations write. -/
def written : List (Ref sig .tc) :=
  [main_v0, main_v1, main_v2, main_v3, main_v4, main_call0_cst, main_call0_v0, main_v5, main_v6, main_v7, main_v8, main_v9, main_v10, main_call1_cst, main_call1_v0, main_v11, main_v12, main_cst, main_v13, main_v14, main_v15, main_cst_0, main_v16, main_cst_1, main_v17, main_v18, main_v19, main_cst_2, main_v20, main_v21, main_v22, main_v23, main_v24, main_v25, main_v26, main_v27, main_v28, main_call2_cst, main_call2_v0, main_v29, main_v30, main_v31, main_v32, main_v33, main_v34, main_call3_cst, main_call3_v0, main_v35, main_v36, main_v37, main_v38, main_v39, main_v40, main_call4_cst, main_call4_v0, main_v41, main_v42, main_v43, main_v44, main_v45, main_v46, main_cst_3, main_cst_4, main_call5_v0, main_call5_v1, main_call5_v2, main_call5_v3, main_call5_v4, main_v47, main_v48, main_v49, main_v50, main_v51, main_v52, main_cst_5, main_v53, main_cst_6, main_v54, main_v55, main_v56, main_v57, main_v58, main_v59, main_cst_7, main_v60, main_v61, main_v62, main_v63, main_call6_v0, main_call6_cst, main_call6_c, main_call6_v1_0, main_v64, main_call7_v0, main_call7_v1, main_call7_v2, main_call7_v3, main_call7_v4, main_v65, main_v66, main_v67, main_v68, main_v69, main_c, main_v70, main_v71, main_c_8, main_v72, main_v73, main_v74, main_v75, main_v76, main_v77]

/-- The arguments of @main. -/
def argRefs : List (Ref sig .tc) :=
  [main_arg0, main_arg1, main_arg2, main_arg3, main_arg4, main_arg5, main_arg6, main_arg7, main_arg8, main_arg9, main_arg10, main_arg11, main_arg12, main_arg13, main_arg14]

theorem argRefs_ne : ∀ b ∈ argRefs, ∀ w ∈ written, b ≠ w := by decide

theorem writes_mem : ∀ op ∈ (ops : List (HloOp τ sig (Elt F))), ∃ w ∈ written, op.writes = {Proc.devRef .tc w} := by
  refine List.forall_iff_forall_mem.mp ?_
  simp only [ops, List.forall_append, List.Forall]
  repeat' apply And.intro
  all_goals first
    | exact ⟨_, by decide, nullary_writes ..⟩
    | exact ⟨_, by decide, unary_writes ..⟩
    | exact ⟨_, by decide, binary_writes ..⟩
    | exact ⟨_, by decide, ternary_writes ..⟩
    | exact ⟨_, by decide, quaternary_writes ..⟩
    | exact ⟨_, by decide, reshape_writes ..⟩

theorem keep_arg (V : Valuation τ sig (Elt F)) (b : Ref sig .tc) (hb : b ∈ argRefs) : after ops V (Proc.devRef .tc b) = V (Proc.devRef .tc b) := by
  refine after_of_forall_not_mem (b := Proc.devRef .tc b) _ _ fun op ho => ?_
  obtain ⟨w, hw, e⟩ := writes_mem op ho
  rw [e, Finset.mem_singleton]
  exact devRef_ne_of_ne (argRefs_ne b hb w hw)

/-- The end of the run. -/
def EndsAt (m : (ℓ : Loc nD τ sig) → Buf (Elt F) ℓ) (r : PUnit × MemSt nD τ sig (Elt F)) : Prop :=
  (∀ (c : Dev nD), ∀ b ∈ argRefs, r.2.mem ((c.tc : Thread nD τ).loc b) = m ((c.tc : Thread nD τ).loc b))
    ∧ ∀ c : Dev nD, r.2.mem ((c.tc : Thread nD τ).loc main_v77) = after ops (launchContents m c) (Proc.devRef .tc main_v77)

theorem run_ends (m : (ℓ : Loc nD τ sig) → Buf (Elt F) ℓ) (ρ : Dev nD → PrngReg) :
    θ_run defs (onTc (τ := τ) (main (F := F))) ⟨m, fun _ => 0, ρ⟩ (EndsAt m) :=
  (θ_run _ _ _).mono (fun r h => ⟨fun c b hb => (h c b).trans (keep_arg _ b hb), fun c => h c main_v77⟩) (run_main m ρ)

end Cert.Proof.R

end
-- ==== Proof.Frames.lean ====
/-
  The frame claims: each program's run at its arguments and its semaphores.
-/
module

public import proofs.«01_k».proof.Proof.Pre
public import proofs.«01_k».proof.Proof.K.Frame
public import proofs.«01_k».proof.Proof.KI.Frame
public import proofs.«01_k».proof.Proof.R.Frame

@[expose] public section

noncomputable section

namespace Cert.Proof

open Idealize.ShloMosaic Idealize.ShloMosaic.TcCoe Idealize.SL.Sem

theorem k_ids (m : (ℓ : Loc Cert.Kernel.nD Cert.Kernel.τ Cert.Kernel.sig) → Buf (Elt Bits) ℓ) (h : Cert.Pre_Kernel m) (d : Dev Cert.Kernel.nD) (i) :
    (K.idsArg m d i).toNat < 4096 := Pre.range_of_pre _ _ _ _ _ _ _ _ _ _ _ _ _ _ _ (h d) i
theorem ki_ids (m : (ℓ : Loc Cert.KernelIdeal.nD Cert.KernelIdeal.τ Cert.KernelIdeal.sig) → Buf (Elt Ideal) ℓ) (h : Cert.Pre_KernelIdeal m) (d : Dev Cert.KernelIdeal.nD) (i) :
    (KI.idsArg m d i).toNat < 4096 := Pre.range_of_pre _ _ _ _ _ _ _ _ _ _ _ _ _ _ _ (h d) i
theorem frame_k : Cert.quiescent_Kernel := fun m ρ hp =>
  (θ_run _ _ _).mono (fun r h => ⟨fun c => ⟨h.1 c Cert.Kernel.main_arg0 (by decide), h.1 c Cert.Kernel.main_arg1 (by decide), h.1 c Cert.Kernel.main_arg2 (by decide), h.1 c Cert.Kernel.main_arg3 (by decide), h.1 c Cert.Kernel.main_arg4 (by decide), h.1 c Cert.Kernel.main_arg5 (by decide), h.1 c Cert.Kernel.main_arg6 (by decide), h.1 c Cert.Kernel.main_arg7 (by decide), h.1 c Cert.Kernel.main_arg8 (by decide), h.1 c Cert.Kernel.main_arg9 (by decide), h.1 c Cert.Kernel.main_arg10 (by decide), h.1 c Cert.Kernel.main_arg11 (by decide), h.1 c Cert.Kernel.main_arg12 (by decide), h.1 c Cert.Kernel.main_arg13 (by decide), h.1 c Cert.Kernel.main_arg14 (by decide)⟩, h.2.2⟩) (K.run_ends m ρ (k_ids m hp))

theorem frame_ki : Cert.quiescent_KernelIdeal := fun m ρ hp =>
  (θ_run _ _ _).mono (fun r h => ⟨fun c => ⟨h.1 c Cert.KernelIdeal.main_arg0 (by decide), h.1 c Cert.KernelIdeal.main_arg1 (by decide), h.1 c Cert.KernelIdeal.main_arg2 (by decide), h.1 c Cert.KernelIdeal.main_arg3 (by decide), h.1 c Cert.KernelIdeal.main_arg4 (by decide), h.1 c Cert.KernelIdeal.main_arg5 (by decide), h.1 c Cert.KernelIdeal.main_arg6 (by decide), h.1 c Cert.KernelIdeal.main_arg7 (by decide), h.1 c Cert.KernelIdeal.main_arg8 (by decide), h.1 c Cert.KernelIdeal.main_arg9 (by decide), h.1 c Cert.KernelIdeal.main_arg10 (by decide), h.1 c Cert.KernelIdeal.main_arg11 (by decide), h.1 c Cert.KernelIdeal.main_arg12 (by decide), h.1 c Cert.KernelIdeal.main_arg13 (by decide), h.1 c Cert.KernelIdeal.main_arg14 (by decide)⟩, h.2.2⟩) (KI.run_ends m ρ (ki_ids m hp))

theorem frame_r : Cert.quiescent_ReferenceIdeal := fun m ρ _ =>
  (θ_run _ _ _).mono (fun r h => ⟨fun c => ⟨h.1 c Cert.ReferenceIdeal.main_arg0 (by decide), h.1 c Cert.ReferenceIdeal.main_arg1 (by decide), h.1 c Cert.ReferenceIdeal.main_arg2 (by decide), h.1 c Cert.ReferenceIdeal.main_arg3 (by decide), h.1 c Cert.ReferenceIdeal.main_arg4 (by decide), h.1 c Cert.ReferenceIdeal.main_arg5 (by decide), h.1 c Cert.ReferenceIdeal.main_arg6 (by decide), h.1 c Cert.ReferenceIdeal.main_arg7 (by decide), h.1 c Cert.ReferenceIdeal.main_arg8 (by decide), h.1 c Cert.ReferenceIdeal.main_arg9 (by decide), h.1 c Cert.ReferenceIdeal.main_arg10 (by decide), h.1 c Cert.ReferenceIdeal.main_arg11 (by decide), h.1 c Cert.ReferenceIdeal.main_arg12 (by decide), h.1 c Cert.ReferenceIdeal.main_arg13 (by decide), h.1 c Cert.ReferenceIdeal.main_arg14 (by decide)⟩, sem_eq_zero_of_no_sems (by decide) r.2⟩) (R.run_ends m ρ)

end Cert.Proof

end
-- ==== Proof.Sorted.lean ====
/-
  What the second precondition says of the ids: each is a word below 4096, at least the one before; and the frame claims that state it.
-/
module

public import proofs.«01_k».proof.Proof.Frames
public import proofs.«01_k».proof.Proof.Gen.Pre_ids_sorted_in_range

@[expose] public section

noncomputable section

namespace Cert.Proof.Pre

open Idealize.ShloMosaic Idealize.SL.Sem

theorem range_of_sorted {F : FTy → Type} [FloatOps F] (a0 a1 a2 a3 a4 a5 a6 a7 a8 a9 a10 a11 a12 a13 a14)
    (h : (Cert.Pre_ids_sorted_in_range.fn (F := F) a0 a1 a2 a3 a4 a5 a6 a7 a8 a9 a10 a11 a12 a13 a14).1 = fun _ => 1#1) (i : Cert.Pre_ids_sorted_in_range.S1600000x1.Idx) :
    (a1 i).toNat < 4096 := by
  have e := congrFun h i
  simp only [Cert.Pre_ids_sorted_in_range.fn, andi, cmpi, broadcastInDim, constantI] at e
  exact lt_of_words _ e

/-- Point `n` of the ids. -/
def pt (n : ℕ) (h : n < 1600000) : Cert.Pre_ids_sorted_in_range.S1600000x1.Idx := fun k => match k with | 0 => ⟨n, h⟩ | 1 => ⟨0, by decide⟩

theorem step_of_sorted {F : FTy → Type} [FloatOps F] (a0 a1 a2 a3 a4 a5 a6 a7 a8 a9 a10 a11 a12 a13 a14)
    (h : (Cert.Pre_ids_sorted_in_range.fn (F := F) a0 a1 a2 a3 a4 a5 a6 a7 a8 a9 a10 a11 a12 a13 a14).1 = fun _ => 1#1)
    (h' : (Cert.Pre_ids_sorted_in_range.fn (F := F) a0 a1 a2 a3 a4 a5 a6 a7 a8 a9 a10 a11 a12 a13 a14).2 = fun _ => 1#1) (n : ℕ) (hn : n + 1 < 1600000) :
    (a1 (pt n (by omega))).toNat ≤ (a1 (pt (n + 1) hn)).toNat := by
  have hr := range_of_sorted a0 a1 a2 a3 a4 a5 a6 a7 a8 a9 a10 a11 a12 a13 a14 h
  have e := congrFun h' (fun k => match k with | 0 => ⟨n, show n < 1599999 by omega⟩ | 1 => ⟨0, by decide⟩)
  simp only [Cert.Pre_ids_sorted_in_range.fn, cmpi] at e
  refine le_of_words _ _ (hr _) (hr _) (Eq.trans (congrArg₂ (IntOp.cmpi .sge) (congrArg a1 ?_) (congrArg a1 ?_)) e)
  · funext k
    match k with
    | 0 => exact Fin.ext (show n + 1 = 1 + n by omega)
    | 1 => rfl
  · funext k
    match k with
    | 0 => exact Fin.ext (show n = 0 + n by omega)
    | 1 => rfl

theorem sorted_of_pre {F : FTy → Type} [FloatOps F] (a0 a1 a2 a3 a4 a5 a6 a7 a8 a9 a10 a11 a12 a13 a14)
    (h : (Cert.Pre_ids_sorted_in_range.fn (F := F) a0 a1 a2 a3 a4 a5 a6 a7 a8 a9 a10 a11 a12 a13 a14).1 = fun _ => 1#1)
    (h' : (Cert.Pre_ids_sorted_in_range.fn (F := F) a0 a1 a2 a3 a4 a5 a6 a7 a8 a9 a10 a11 a12 a13 a14).2 = fun _ => 1#1) (n : ℕ) :
    ∀ (k : ℕ) (hk : n + k < 1600000), (a1 (pt n (by omega))).toNat ≤ (a1 (pt (n + k) hk)).toNat
  | 0, _ => Nat.le_refl _
  | k + 1, hk => (sorted_of_pre a0 a1 a2 a3 a4 a5 a6 a7 a8 a9 a10 a11 a12 a13 a14 h h' n k (by omega)).trans
      (step_of_sorted a0 a1 a2 a3 a4 a5 a6 a7 a8 a9 a10 a11 a12 a13 a14 h h' (n + k) hk)

end Cert.Proof.Pre

namespace Cert.Proof

open Idealize.ShloMosaic Idealize.ShloMosaic.TcCoe Idealize.SL.Sem

theorem ki_ids' (m : (ℓ : Loc Cert.KernelIdeal.nD Cert.KernelIdeal.τ Cert.KernelIdeal.sig) → Buf (Elt Ideal) ℓ) (h : Cert.Pre_KernelIdeal_ids_sorted_in_range m)
    (d : Dev Cert.KernelIdeal.nD) (i) : (KI.idsArg m d i).toNat < 4096 := Pre.range_of_sorted _ _ _ _ _ _ _ _ _ _ _ _ _ _ _ (h d).1 i

theorem frame_ki_sorted : Cert.quiescent_KernelIdeal_pre_ids_sorted_in_range := fun m ρ hp =>
  (θ_run _ _ _).mono (fun r h => ⟨fun c => ⟨h.1 c Cert.KernelIdeal.main_arg0 (by decide), h.1 c Cert.KernelIdeal.main_arg1 (by decide), h.1 c Cert.KernelIdeal.main_arg2 (by decide), h.1 c Cert.KernelIdeal.main_arg3 (by decide), h.1 c Cert.KernelIdeal.main_arg4 (by decide), h.1 c Cert.KernelIdeal.main_arg5 (by decide), h.1 c Cert.KernelIdeal.main_arg6 (by decide), h.1 c Cert.KernelIdeal.main_arg7 (by decide), h.1 c Cert.KernelIdeal.main_arg8 (by decide), h.1 c Cert.KernelIdeal.main_arg9 (by decide), h.1 c Cert.KernelIdeal.main_arg10 (by decide), h.1 c Cert.KernelIdeal.main_arg11 (by decide), h.1 c Cert.KernelIdeal.main_arg12 (by decide), h.1 c Cert.KernelIdeal.main_arg13 (by decide), h.1 c Cert.KernelIdeal.main_arg14 (by decide)⟩, h.2.2⟩) (KI.run_ends m ρ (ki_ids' m hp))

theorem frame_r_sorted : Cert.quiescent_ReferenceIdeal_pre_ids_sorted_in_range := fun m ρ _ =>
  (θ_run _ _ _).mono (fun r h => ⟨fun c => ⟨h.1 c Cert.ReferenceIdeal.main_arg0 (by decide), h.1 c Cert.ReferenceIdeal.main_arg1 (by decide), h.1 c Cert.ReferenceIdeal.main_arg2 (by decide), h.1 c Cert.ReferenceIdeal.main_arg3 (by decide), h.1 c Cert.ReferenceIdeal.main_arg4 (by decide), h.1 c Cert.ReferenceIdeal.main_arg5 (by decide), h.1 c Cert.ReferenceIdeal.main_arg6 (by decide), h.1 c Cert.ReferenceIdeal.main_arg7 (by decide), h.1 c Cert.ReferenceIdeal.main_arg8 (by decide), h.1 c Cert.ReferenceIdeal.main_arg9 (by decide), h.1 c Cert.ReferenceIdeal.main_arg10 (by decide), h.1 c Cert.ReferenceIdeal.main_arg11 (by decide), h.1 c Cert.ReferenceIdeal.main_arg12 (by decide), h.1 c Cert.ReferenceIdeal.main_arg13 (by decide), h.1 c Cert.ReferenceIdeal.main_arg14 (by decide)⟩, sem_eq_zero_of_no_sems (by decide) r.2⟩) (R.run_ends m ρ)

end Cert.Proof

end
-- ==== Proof.V.Model.lean ====
/-
  The extended-real function both programs compute: two layers over every point, the mean of the points of an id, three layers
  and two logits over every id, the noise, the softmax, the straight-through choice, and every point the choice of its id.
-/
module

public import Idealize.ShloMosaic.Lib.Pointwise
public import Idealize.ShloMosaic.Lib.IdealHost

@[expose] public section

noncomputable section

namespace Cert.Proof.V

open Idealize.ShloMosaic

/-- A layer without its maximum: the products of a row with a matrix's columns, and a bias. -/
def lin {k m : ℕ} (x : Fin k → EReal) (W : Fin k → Fin m → EReal) (b : Fin m → EReal) (j : Fin m) : EReal := (∑ l, x l * W l j) + b j
/-- A layer: the greater of that and zero. -/
def layer {k m : ℕ} (x : Fin k → EReal) (W : Fin k → Fin m → EReal) (b : Fin m → EReal) (j : Fin m) : EReal := max (lin x W b j) 0
/-- What the points of an id add up to, over the points of a block or over all points. -/
def total {n : ℕ} (ids : Fin n → ℕ) (f : Fin n → EReal) (r : ℕ) : EReal := ∑ p, if ids p = r then f p else 0
/-- The mean of a sum over a count, an empty one counted as one. -/
def mean (s c : EReal) : EReal := Ideal.div s (max c 1)
/-- The noise of a uniform draw: the draw kept between a small number and one, and twice its negated logarithm. -/
def noise (u : EReal) : EReal := - Ideal.log (- Ideal.log (min 1 (max (Ideal.ofBits FTy.f32 0x2EDBE6FF#32) u)))
/-- The greater of two scores. -/
def top (z : Fin 2 → EReal) : EReal := Finset.univ.fold max (Ideal.ofBits FTy.f32 0xFF800000#32) z
/-- The softmax of two scores. -/
def soft (z : Fin 2 → EReal) (j : Fin 2) : EReal := Ideal.div (Ideal.exp (z j - top z)) (∑ x, Ideal.exp (z x - top z))
/-- The choice of the second score over the first, straight through its softmax. -/
def choice (z : Fin 2 → EReal) : EReal := (if soft z 0 < soft z 1 then 1 else 0) - soft z 1 + soft z 1

/-- The arguments: the points, their ids, the two layers over points, the three over ids, the logits' and the draws. -/
structure Args where
  x : Fin 1600000 → Fin 32 → EReal
  ids : Fin 1600000 → BitVec 32
  w1 : Fin 32 → Fin 32 → EReal
  b1 : Fin 32 → EReal
  w2 : Fin 32 → Fin 32 → EReal
  b2 : Fin 32 → EReal
  w3 : Fin 32 → Fin 32 → EReal
  b3 : Fin 32 → EReal
  w4 : Fin 32 → Fin 32 → EReal
  b4 : Fin 32 → EReal
  w5 : Fin 32 → Fin 32 → EReal
  b5 : Fin 32 → EReal
  w6 : Fin 2 → Fin 32 → EReal
  b6 : Fin 2 → EReal
  u : Fin 4096 → Fin 2 → EReal

namespace Args

variable (a : Args)

/-- The features of a point. -/
def feat (n : Fin 1600000) (j : Fin 32) : EReal := layer (layer (a.x n) (fun l k => a.w1 k l) a.b1) (fun l k => a.w2 k l) a.b2 j
/-- The id of a point. -/
def id (n : Fin 1600000) : ℕ := (a.ids n).toNat
/-- The sum of the features over the points of an id. -/
def sums (r : Fin 4096) (j : Fin 32) : EReal := total a.id (fun n => a.feat n j) r.val
/-- The number of its points. -/
def count (r : Fin 4096) : EReal := total a.id (fun _ => 1) r.val
/-- The logits of an id. -/
def logits (r : Fin 4096) (j : Fin 2) : EReal :=
  lin (layer (layer (layer (fun k => mean (a.sums r k) (a.count r)) (fun l k => a.w3 k l) a.b3) (fun l k => a.w4 k l) a.b4) (fun l k => a.w5 k l) a.b5)
    (fun l k => a.w6 k l) a.b6 j
/-- The value of an id. -/
def value (r : Fin 4096) : EReal := choice fun j => a.logits r j + noise (a.u r j)

end Args

theorem total_none {n : ℕ} {ids : Fin n → ℕ} {r : ℕ} (f : Fin n → EReal) (h : ∀ p, ids p ≠ r) : total ids f r = 0 :=
  Finset.sum_eq_zero fun p _ => if_neg (h p)

theorem zero_sub' (x : EReal) : 0 - x = - x := by rw [sub_eq_add_neg, zero_add]

end Cert.Proof.V

end
-- ==== Proof.V.Points.lean ====
/-
  The kernel's payloads read at an index: layers, sums over the points of a window's ids, the softmax and the choice.
-/
module

public import proofs.«01_k».proof.Proof.KI.Acc
public import proofs.«01_k».proof.Proof.V.Model

@[expose] public section

noncomputable section

namespace Cert.Proof.V

open Cert.KernelIdeal Cert.KernelIdeal.Gen
open Idealize.ShloMosaic

/-- A matrix as a function of its row and column. -/
abbrev mat {m n : ℕ} (A : (⟨2, ![m, n]⟩ : Shape).Idx → EReal) (i : Fin m) (j : Fin n) : EReal := A (ix2 i j)

theorem ix_ix2 {m n : ℕ} (i : Fin m) (j : Fin n) : KI.ix i j = ix2 i j := (KI.ix_eq _ _ _ rfl rfl).symm

theorem one_hot_bit (b : Prop) [Decidable b] : (FloatOps.sitofp (F := Ideal) FTy.f32 (BitVec.setWidth 32 (BitVec.ofBool (decide b))) : EReal) = if b then 1 else 0 := by
  by_cases h : b
  · simp only [h, decide_true, if_true]
    show (((1#32 : BitVec 32).toInt : ℝ) : EReal) = 1
    simp
  · simp only [h, decide_false, if_false]
    show (((0#32 : BitVec 32).toInt : ℝ) : EReal) = 0
    simp

theorem one_hot (a c : BitVec 32) : (FloatOps.sitofp (F := Ideal) FTy.f32 (BitVec.setWidth 32 (IntOp.cmpi CmpIPredicate.eq a c)) : EReal) = if a = c then 1 else 0 := by
  rw [← one_hot_bit]
  rfl

set_option maxRecDepth 16384

/-- The features of a point of a block, from the block, the two weights and the two biases. -/
theorem pay2_apply (x : Vec Ideal S8000x32 .f32) (w1 : Vec Ideal S32x32 .bf16) (b1 : Vec Ideal S1x32 .f32) (w2 : Vec Ideal S32x64 .bf16) (b2 : Vec Ideal S1x64 .f32)
    (p : Fin 8000) (j : Fin 64) :
    k0_pay2 x w1 b1 w2 b2 (ix2 p j) = layer (layer (mat x p) (mat w1) (mat b1 0)) (mat w2) (mat b2 0) j := by
  pointwise [k0_pay2]
  rfl

/-- The window of 128 rows with the block's features added, each to the row of its id. -/
theorem pay6_apply (v3 : Vec Ideal S1x1x8000 .i32) (v6 : BitVec 32) (x : Vec Ideal S8000x32 .f32) (w1 : Vec Ideal S32x32 .bf16) (b1 : Vec Ideal S1x32 .f32) (w2 : Vec Ideal S32x64 .bf16) (b2 : Vec Ideal S1x64 .f32)
    (a : Vec Ideal S128x64 .f32) (r : Fin 128) (j : Fin 64) :
    k0_pay6 v3 v6 x w1 b1 w2 b2 a (ix2 r j) = a (ix2 r j) + ∑ p : Fin 8000,
      (if v3 (ix3 0 0 p) - k0_mult1 v6 = BitVec.ofNat 32 r.val then 1 else 0) * k0_pay2 x w1 b1 w2 b2 (ix2 p j) := by
  have h : k0_pay6 v3 v6 x w1 b1 w2 b2 a = shapeCast S128x64 (addf a (matmul dot_S128x8000_S8000x64_S128x64_1_0_0_1_n_n none
    (truncf .bf16 (sitofp .f32 (extui 32 (cmpi .eq (broadcastTo S128x8000 (subi (k0_pay5 v3) (broadcast S1x8000 (k0_mult1 v6))) broadcasts_S1x8000_S128x8000)
      (iota .tc S128x8000 32 [0] iota_S128x8000_d0_w32)) natLt_1_32)) bitsLt_bf16_f32) (k0_pay2 x w1 b1 w2 b2) (constant S128x64 .f32 0x00000000#32))) shapeCasts_S128x64_S128x64 := rfl
  rw [h]
  generalize k0_pay2 x w1 b1 w2 b2 = f
  generalize k0_mult1 v6 = o
  pointwise [k0_pay5]
  simp only [one_hot]
  rfl

/-- The same of a window of 64 rows. -/
theorem pay7_apply (v3 : Vec Ideal S1x1x8000 .i32) (v6 v8 : BitVec 32) (f : FVec Ideal S8000x64 .bf16) (k : Fin (k0_t1_loop v6 v8).trips) (a : Vec Ideal S64x64 .f32) (r j : Fin 64) :
    k0_pay7 v3 v6 v8 f KI.rows64 k a (ix2 r j) = a (ix2 r j) + ∑ p : Fin 8000,
      (if v3 (ix3 0 0 p) - Scalar.muli (Scf.iv (KI.fdiv v6) 1#32 k.val) 64#32 = BitVec.ofNat 32 r.val then 1 else 0) * f (ix2 p j) := by
  have h : k0_pay7 v3 v6 v8 f KI.rows64 k a = shapeCast S64x64 (addf a (matmul dot_S64x8000_S8000x64_S64x64_1_0_0_1_n_n none
    (truncf .bf16 (sitofp .f32 (extui 32 (cmpi .eq (broadcastTo S64x8000 (subi (k0_pay5 v3) (broadcast S1x8000 (Scalar.muli (Scf.iv (KI.fdiv v6) 1#32 k.val) 64#32))) broadcasts_S1x8000_S64x8000)
      KI.rows64) natLt_1_32)) bitsLt_bf16_f32) f (constant S64x64 .f32 0x00000000#32))) shapeCasts_S64x64_S64x64 := rfl
  rw [h]
  generalize (Scalar.muli (Scf.iv (KI.fdiv v6) 1#32 k.val) 64#32 : BitVec 32) = o
  pointwise [k0_pay5]
  simp only [one_hot]
  rfl

/-- The zeroed accumulator. -/
theorem pay4_apply (r : Fin 4224) (j : Fin 64) : k0_pay4 (F := Ideal) (ix2 r j) = 0 := by
  pointwise [k0_pay4]

/-- An id's mean: its sums over its count, both read off its row of the accumulator. -/
def means (a : Fin 64 → EReal) (j : Fin 32) : EReal := mean (a ⟨j.val, by omega⟩) (a ⟨32 + j.val, by omega⟩)

/-- The logits of an id before their bias. -/
theorem pay3_apply (a : Vec Ideal S4096x64 .f32) (w1 : Vec Ideal S32x32 .f32) (b1 : Vec Ideal S1x32 .f32) (w2 : Vec Ideal S32x32 .f32) (b2 : Vec Ideal S1x32 .f32)
    (w3 : Vec Ideal S32x32 .f32) (b3 : Vec Ideal S1x32 .f32) (w4 : Vec Ideal S32x2 .f32) (c : Fin 2 → EReal) (r : Fin 4096) (j : Fin 2) :
    k0_pay3 a w1 b1 w2 b2 w3 b3 w4 (ix2 r j) + c j
      = lin (layer (layer (layer (means (mat a r)) (mat w1) (mat b1 0)) (mat w2) (mat b2 0)) (mat w3) (mat b3 0)) (mat w4) c j := by
  pointwise [k0_pay3]
  rfl

/-- An id's choice, from its logits and its draws. -/
theorem pay1_apply (z : FVec Ideal S4096x2 .f32) (b4 : Vec Ideal S1x2 .f32) (u : Vec Ideal S4096x2 .f32) (r : Fin 4096) :
    k0_pay1 z b4 u (ix2 r 0) = choice (fun j => z (ix2 r j) + b4 (ix2 0 j) + noise (u (ix2 r j))) := by
  pointwise [k0_pay1]
  simp only [zero_sub', one_hot_bit]
  rfl

end Cert.Proof.V

end
-- ==== Proof.V.Inputs.lean ====
/-
  What the TensorCore call is handed, entry by entry, in terms of the kernel's arguments.
-/
module

public import proofs.«01_k».proof.Proof.KI.Read
public import proofs.«01_k».proof.Proof.V.Points

@[expose] public section

noncomputable section

namespace Cert.Proof.V

open Cert.KernelIdeal Cert.KernelIdeal.Gen
open Idealize.ShloMosaic Idealize.ShloMosaic.TcCoe Idealize.ShloMosaic.StableHlo

variable (m : (ℓ : Loc nD τ sig) → Buf (Elt Ideal) ℓ) (d : Dev nD)

set_option maxRecDepth 16384

/-- A vector of extended reals as a function of its place, a matrix held in an argument as one of its row and column. -/
abbrev vecOf {n : ℕ} (A : (⟨1, ![n]⟩ : Shape).Idx → EReal) (i : Fin n) : EReal := A (ix1 i)

/-- The kernel's arguments. -/
def kargs : Args where
  x := mat (m (d, Proc.devRef .tc main_arg0))
  ids n := KI.idsArg m d (ix2 n 0)
  w1 := mat (m (d, Proc.devRef .tc main_arg2))
  b1 := vecOf (m (d, Proc.devRef .tc main_arg3))
  w2 := mat (m (d, Proc.devRef .tc main_arg4))
  b2 := vecOf (m (d, Proc.devRef .tc main_arg5))
  w3 := mat (m (d, Proc.devRef .tc main_arg6))
  b3 := vecOf (m (d, Proc.devRef .tc main_arg7))
  w4 := mat (m (d, Proc.devRef .tc main_arg8))
  b4 := vecOf (m (d, Proc.devRef .tc main_arg9))
  w5 := mat (m (d, Proc.devRef .tc main_arg10))
  b5 := vecOf (m (d, Proc.devRef .tc main_arg11))
  w6 := mat (m (d, Proc.devRef .tc main_arg12))
  b6 := vecOf (m (d, Proc.devRef .tc main_arg13))
  u := mat (m (d, Proc.devRef .tc main_arg14))

theorem W1_v1 : KI.W1 m d (Proc.devRef .tc main_v1) = shapeCast S200x1x8000 (shapeCast S1600000 (KI.idsArg m d) shapeCasts_S1600000x1_S1600000) shapeCasts_S1600000_S200x1x8000 := by
  unfold KI.W1
  simp only [KI.hostOps]
  after_results_simp <;> rfl

theorem in_v1 (t : Fin 200) (p : Fin 8000) : (KI.W1 m d (Proc.devRef .tc main_v1) : S200x1x8000.Idx → BitVec 32) (ix3 t 0 p) = (kargs m d).ids ⟨t.val * 8000 + p.val, by omega⟩ := by
  rw [W1_v1]
  pointwise [kargs]

theorem in_v10 (t : Fin 200) : (KI.W1 m d (Proc.devRef .tc main_v10) : S200.Idx → BitVec 32) (ix1 t) = (kargs m d).ids ⟨t.val * 8000, by omega⟩ := by
  rw [KI.W1_v10]
  pointwise [kargs]

theorem in_v12 (t : Fin 200) : (KI.W1 m d (Proc.devRef .tc main_v12) : S200.Idx → BitVec 32) (ix1 t) = (kargs m d).ids ⟨t.val * 8000 + 7999, by omega⟩ := by
  rw [KI.W1_v12]
  pointwise [kargs]

theorem W1_v14 : KI.W1 m d (Proc.devRef .tc main_v14) = truncf .bf16 (transpose S32x32 [1, 0] (m (d, Proc.devRef .tc main_arg2) : S32x32.Idx → EReal) transposes_S32x32_S32x32_1_0 : FVec Ideal S32x32 .f32) bitsLt_bf16_f32 := by
  unfold KI.W1
  simp only [KI.hostOps]
  after_results_simp <;> rfl

theorem in_v14 : mat (KI.W1 m d (Proc.devRef .tc main_v14)) = fun l k => (kargs m d).w1 k l := by
  funext l k
  rw [mat, W1_v14]
  pointwise [kargs]

theorem W1_v16 : KI.W1 m d (Proc.devRef .tc main_v16) = truncf .bf16 (concatenate S32x64 1 [⟨S32x32, transpose S32x32 [1, 0] (m (d, Proc.devRef .tc main_arg4) : S32x32.Idx → EReal) transposes_S32x32_S32x32_1_0⟩,
    ⟨S32x32, broadcastInDim S32x32 ![] bcast_S_S32x32 (constant S_ .f32 0x00000000#32)⟩] concatenates_S32x32_S32x32_S32x64_d1 : FVec Ideal S32x64 .f32) bitsLt_bf16_f32 := by
  unfold KI.W1
  simp only [KI.hostOps]
  after_results_simp <;> rfl

theorem in_v16 : mat (KI.W1 m d (Proc.devRef .tc main_v16)) = fun l (j : Fin 64) => if h : j.val < 32 then (kargs m d).w2 ⟨j.val, h⟩ l else 0 := by
  funext l j
  rw [mat, W1_v16]
  pointwise [kargs]

theorem W1_v8 : KI.W1 m d (Proc.devRef .tc main_v8) = shapeCast S1x64 (concatenate S64 0 [⟨S32, (m (d, Proc.devRef .tc main_arg5) : S32.Idx → EReal)⟩,
    ⟨S32, broadcastInDim S32 ![] bcast_S_S32 (constant S_ .f32 0x3F800000#32)⟩] concatenates_S32_S32_S64_d0 : FVec Ideal S64 .f32) shapeCasts_S64_S1x64 := by
  unfold KI.W1
  simp only [KI.hostOps]
  after_results_simp <;> rfl

theorem in_v8 : mat (KI.W1 m d (Proc.devRef .tc main_v8)) 0 = fun (j : Fin 64) => if h : j.val < 32 then (kargs m d).b2 ⟨j.val, h⟩ else 1 := by
  funext j
  rw [mat, W1_v8]
  pointwise [kargs]

theorem W1_v17 : KI.W1 m d (Proc.devRef .tc main_v17) = transpose S32x32 [1, 0] (m (d, Proc.devRef .tc main_arg6) : S32x32.Idx → EReal) transposes_S32x32_S32x32_1_0 := by
  unfold KI.W1
  simp only [KI.hostOps]
  after_results_simp <;> rfl

theorem in_v17 : mat (KI.W1 m d (Proc.devRef .tc main_v17)) = fun l k => (kargs m d).w3 k l := by
  funext l k
  rw [mat, W1_v17]
  pointwise [kargs]

theorem W1_v19 : KI.W1 m d (Proc.devRef .tc main_v19) = transpose S32x32 [1, 0] (m (d, Proc.devRef .tc main_arg8) : S32x32.Idx → EReal) transposes_S32x32_S32x32_1_0 := by
  unfold KI.W1
  simp only [KI.hostOps]
  after_results_simp <;> rfl

theorem in_v19 : mat (KI.W1 m d (Proc.devRef .tc main_v19)) = fun l k => (kargs m d).w4 k l := by
  funext l k
  rw [mat, W1_v19]
  pointwise [kargs]

theorem W1_v21 : KI.W1 m d (Proc.devRef .tc main_v21) = transpose S32x32 [1, 0] (m (d, Proc.devRef .tc main_arg10) : S32x32.Idx → EReal) transposes_S32x32_S32x32_1_0 := by
  unfold KI.W1
  simp only [KI.hostOps]
  after_results_simp <;> rfl

theorem in_v21 : mat (KI.W1 m d (Proc.devRef .tc main_v21)) = fun l k => (kargs m d).w5 k l := by
  funext l k
  rw [mat, W1_v21]
  pointwise [kargs]

theorem W1_v23 : KI.W1 m d (Proc.devRef .tc main_v23) = transpose S32x2 [1, 0] (m (d, Proc.devRef .tc main_arg12) : S2x32.Idx → EReal) transposes_S2x32_S32x2_1_0 := by
  unfold KI.W1
  simp only [KI.hostOps]
  after_results_simp <;> rfl

theorem in_v23 : mat (KI.W1 m d (Proc.devRef .tc main_v23)) = fun l k => (kargs m d).w6 k l := by
  funext l k
  rw [mat, W1_v23]
  pointwise [kargs]

theorem W1_v15 : KI.W1 m d (Proc.devRef .tc main_v15) = shapeCast S1x32 (m (d, Proc.devRef .tc main_arg3) : S32.Idx → EReal) shapeCasts_S32_S1x32 := by
  unfold KI.W1
  simp only [KI.hostOps]
  after_results_simp <;> rfl

theorem in_v15 : mat (KI.W1 m d (Proc.devRef .tc main_v15)) 0 = (kargs m d).b1 := by
  funext k
  rw [mat, W1_v15]
  pointwise [kargs]

theorem W1_v18 : KI.W1 m d (Proc.devRef .tc main_v18) = shapeCast S1x32 (m (d, Proc.devRef .tc main_arg7) : S32.Idx → EReal) shapeCasts_S32_S1x32 := by
  unfold KI.W1
  simp only [KI.hostOps]
  after_results_simp <;> rfl

theorem in_v18 : mat (KI.W1 m d (Proc.devRef .tc main_v18)) 0 = (kargs m d).b3 := by
  funext k
  rw [mat, W1_v18]
  pointwise [kargs]

theorem W1_v20 : KI.W1 m d (Proc.devRef .tc main_v20) = shapeCast S1x32 (m (d, Proc.devRef .tc main_arg9) : S32.Idx → EReal) shapeCasts_S32_S1x32 := by
  unfold KI.W1
  simp only [KI.hostOps]
  after_results_simp <;> rfl

theorem in_v20 : mat (KI.W1 m d (Proc.devRef .tc main_v20)) 0 = (kargs m d).b4 := by
  funext k
  rw [mat, W1_v20]
  pointwise [kargs]

theorem W1_v22 : KI.W1 m d (Proc.devRef .tc main_v22) = shapeCast S1x32 (m (d, Proc.devRef .tc main_arg11) : S32.Idx → EReal) shapeCasts_S32_S1x32 := by
  unfold KI.W1
  simp only [KI.hostOps]
  after_results_simp <;> rfl

theorem in_v22 : mat (KI.W1 m d (Proc.devRef .tc main_v22)) 0 = (kargs m d).b5 := by
  funext k
  rw [mat, W1_v22]
  pointwise [kargs]

theorem W1_v24 : KI.W1 m d (Proc.devRef .tc main_v24) = shapeCast S1x2 (m (d, Proc.devRef .tc main_arg13) : S2.Idx → EReal) shapeCasts_S2_S1x2 := by
  unfold KI.W1
  simp only [KI.hostOps]
  after_results_simp <;> rfl

theorem in_v24 : mat (KI.W1 m d (Proc.devRef .tc main_v24)) 0 = (kargs m d).b6 := by
  funext k
  rw [mat, W1_v24]
  pointwise [kargs]

theorem in_arg0 : mat (KI.W1 m d (Proc.devRef .tc main_arg0)) = (kargs m d).x := by
  rw [KI.W1_keep m d main_arg0 (by decide)]
  rfl

theorem in_arg14 : mat (KI.W1 m d (Proc.devRef .tc main_arg14)) = (kargs m d).u := by
  rw [KI.W1_keep m d main_arg14 (by decide)]
  rfl

end Cert.Proof.V

end
-- ==== Proof.V.Accum.lean ====
/-
  One block of points added to the accumulator: whichever way the kernel takes, every row gains the features of the block's
  points of that id, when the block's first and last ids bound the others.
-/
module

public import proofs.«01_k».proof.Proof.V.Points

@[expose] public section

noncomputable section

namespace Cert.Proof.V

open Cert.KernelIdeal Cert.KernelIdeal.Gen
open Idealize.ShloMosaic

/-- A point's id less its window's first row is the row within the window exactly when the id is the row. -/
theorem sub_row (w m : BitVec 32) (o r : ℕ) (hm : m.toNat = o) (ho : o ≤ r) (hr : r < 4294967296) : w - m = BitVec.ofNat 32 (r - o) ↔ w.toNat = r := by
  have h2 : (BitVec.ofNat 32 (r - o)).toNat = r - o := KI.toNat_small _ (by omega)
  constructor
  · intro h
    have h1 := congrArg BitVec.toNat h
    rw [BitVec.toNat_sub, h2, hm] at h1
    have := w.isLt
    omega
  · intro h
    apply BitVec.eq_of_toNat_eq
    rw [BitVec.toNat_sub, h2, hm]
    omega

theorem masked (b : Prop) [Decidable b] (x : EReal) : (if b then (1 : EReal) else 0) * x = if b then x else 0 := by
  split
  · exact one_mul x
  · exact zero_mul x

theorem win_apply {n o : ℕ} (A : KI.AccT Ideal) (i : Fin n) (r : Fin 4224) (j : Fin 64) (h : o + i.val = r.val) : KI.win n o A (ix2 i j) = A (ix2 r j) := by
  refine congrArg A ((KI.ix_eq (ix2 r j : S4224x64.Idx) _ _ ?_ ?_).symm)
  · show r.val = (o + i.val) % 4224
    rw [h]; exact (Nat.mod_eq_of_lt r.isLt).symm
  · rfl

theorem put_in {n o : ℕ} (w : (⟨2, ![n, 64]⟩ : Shape).Idx → EReal) (A : KI.AccT Ideal) (r : Fin 4224) (j : Fin 64) (h : o ≤ r.val ∧ r.val < o + n) :
    KI.put (F := Ideal) n o w A (ix2 r j) = w (ix2 ⟨r.val - o, by omega⟩ j) := by
  unfold KI.put
  rw [dif_pos (show o ≤ ((ix2 r j : S4224x64.Idx) 0).val ∧ ((ix2 r j : S4224x64.Idx) 0).val < o + n from h)]
  exact congrArg w ((KI.ix_eq (ix2 ⟨r.val - o, by omega⟩ j : (⟨2, ![n, 64]⟩ : Shape).Idx) _ _ rfl rfl).symm)

theorem put_out {n o : ℕ} (w : (⟨2, ![n, 64]⟩ : Shape).Idx → EReal) (A : KI.AccT Ideal) (r : Fin 4224) (j : Fin 64) (h : ¬ (o ≤ r.val ∧ r.val < o + n)) :
    KI.put (F := Ideal) n o w A (ix2 r j) = A (ix2 r j) := by
  unfold KI.put
  rw [dif_neg (show ¬ (o ≤ ((ix2 r j : S4224x64.Idx) 0).val ∧ ((ix2 r j : S4224x64.Idx) 0).val < o + n) from h)]

variable (v3 : Vec Ideal S1x1x8000 .i32) (v6 v8 : BitVec 32) (h6 : v6.toNat < 4096) (h8 : v8.toNat < 4096)

/-- The ids of the block's points. -/
abbrev idOf (p : Fin 8000) : ℕ := (v3 (ix3 0 0 p)).toNat

include h6 h8 in
/-- After `k` of the windows of 64 rows, the rows they cover have their points' features added. -/
theorem slow_apply (hc : k0_cond3 v6 v8 = 1#1) (f : FVec Ideal S8000x64 .bf16) (A : KI.AccT Ideal) (r : Fin 4224) (j : Fin 64) :
    ∀ k, k ≤ (k0_t1_loop v6 v8).trips → KI.slowAcc v3 v6 v8 f KI.rows64 A k (ix2 r j)
      = A (ix2 r j) + if v6.toNat / 64 * 64 ≤ r.val ∧ r.val < (v6.toNat / 64 + k) * 64 then total (idOf v3) (fun p => f (ix2 p j)) r.val else 0 := by
  intro k
  induction k with
  | zero =>
    intro _
    rw [if_neg (by omega), add_zero]
    rfl
  | succ k ih =>
    intro hk
    have ih := ih (by omega)
    rw [KI.slowAcc, dif_pos (show k < (k0_t1_loop v6 v8).trips by omega)]
    by_cases hr : (v6.toNat / 64 + k) * 64 ≤ r.val ∧ r.val < (v6.toNat / 64 + k) * 64 + 64
    · rw [put_in _ _ _ _ hr, pay7_apply, win_apply (r := r) (h := by show _ + (r.val - _) = _; omega), ih, if_neg (by omega), if_pos (by omega), add_zero]
      refine congrArg _ (Finset.sum_congr rfl fun p _ => ?_)
      rw [masked]
      exact if_congr (sub_row _ _ _ _ (KI.win_toNat v6 v8 h6 h8 hc ⟨k, by omega⟩) hr.1 (by omega)) rfl rfl
    · rw [put_out _ _ _ _ hr, ih]
      exact congrArg _ (if_congr (by omega) rfl rfl)

variable (hlo : ∀ p, v6.toNat ≤ idOf v3 p) (hhi : ∀ p, idOf v3 p ≤ v8.toNat)

include h6 h8 hlo hhi in
/-- One block added: every row gains its points' features. -/
theorem accNext_apply (x : Vec Ideal S8000x32 .f32) (w1 : Vec Ideal S32x32 .bf16) (b1 : Vec Ideal S1x32 .f32) (w2 : Vec Ideal S32x64 .bf16) (b2 : Vec Ideal S1x64 .f32)
    (A : KI.AccT Ideal) (r : Fin 4224) (j : Fin 64) :
    KI.accNext v3 v6 v8 x w1 b1 w2 b2 A (ix2 r j) = A (ix2 r j) + total (idOf v3) (fun p => k0_pay2 x w1 b1 w2 b2 (ix2 p j)) r.val := by
  unfold KI.accNext
  by_cases hc : k0_cond2 v6 v8 = 1#1
  · have hw := (KI.cond2_iff v6 v8 h6 h8).1 hc
    rw [if_pos hc]
    by_cases hr : v6.toNat / 64 * 64 ≤ r.val ∧ r.val < v6.toNat / 64 * 64 + 128
    · rw [put_in _ _ _ _ hr, pay6_apply, win_apply (r := r) (h := by show _ + (r.val - _) = _; omega)]
      refine congrArg _ (Finset.sum_congr rfl fun p _ => ?_)
      rw [masked]
      exact if_congr (sub_row _ _ _ _ (KI.mult1_toNat v6 h6) hr.1 (by omega)) rfl rfl
    · rw [put_out _ _ _ _ hr, total_none, add_zero]
      intro p
      have := hlo p
      have := hhi p
      omega
  · have hd := hc
    rw [← KI.cond3_iff] at hc
    rw [if_neg hd, slow_apply v3 v6 v8 h6 h8 hc _ _ _ _ _ le_rfl, KI.t1_trips v6 v8 h6 h8 hc]
    have hs := KI.slow_le v6 v8 h6 h8 hc
    split
    · rfl
    · rw [total_none]
      intro p
      have := hlo p
      have := hhi p
      omega

end Cert.Proof.V

end
-- ==== Proof.V.Blocks.lean ====
/-
  The blocks a grid point reads, as entries of the arrays they are cut from: the points' block is 8000 rows further on at every
  point, the ids' block the point's row, every other block its whole array.
-/
module

public import proofs.«01_k».proof.Proof.KI.Region
public import Idealize.ShloMosaic.Lib.Pipeline.Value
public import Idealize.ShloMosaic.Lib.Pointwise.Index

@[expose] public section

noncomputable section

namespace Cert.Proof.V

open Cert.KernelIdeal Cert.KernelIdeal.Gen
open Idealize.ShloMosaic Idealize.ShloMosaic.TcCoe

variable {F : FTy → Type} [FloatOps F] (Vv : KI.Vals F) (c : Dev nD) (t : Fin cfg0.N)

theorem lt200 (t : Fin cfg0.N) : t.val < 200 := t.isLt

/-- Where the index map is zero on every axis the block is the whole array. -/
theorem whole_emb (w : Pipeline.Window sig grid0) (t : Fin grid0.N) (h : ∀ a, w.index t a = 0) (y : (w.xblock (grid0.coords t)).Idx) (a : Fin w.shape.rank) :
    ((w.rect t).emb y a : ℕ) = y a := Pipeline.Window.rect_emb_val_of_index_zero w t a (h a) y

theorem blk0 : KI.iblk Vv c 0 t = Vv c main_v10 :=
  funext fun j => congrArg (Vv c main_v10) (funext fun a => Fin.ext (whole_emb win0_0 t (fun a => match a with | ⟨0, _⟩ => rfl) j a))
theorem blk1 : KI.iblk Vv c 1 t = Vv c main_v12 :=
  funext fun j => congrArg (Vv c main_v12) (funext fun a => Fin.ext (whole_emb win0_1 t (fun a => match a with | ⟨0, _⟩ => rfl) j a))
theorem blk4 : KI.iblk Vv c 4 t = Vv c main_v14 :=
  funext fun j => congrArg (Vv c main_v14) (funext fun a => Fin.ext (whole_emb win0_4 t (fun a => match a with | ⟨0, _⟩ => rfl | ⟨1, _⟩ => rfl) j a))
theorem blk5 : KI.iblk Vv c 5 t = Vv c main_v15 :=
  funext fun j => congrArg (Vv c main_v15) (funext fun a => Fin.ext (whole_emb win0_5 t (fun a => match a with | ⟨0, _⟩ => rfl | ⟨1, _⟩ => rfl) j a))
theorem blk6 : KI.iblk Vv c 6 t = Vv c main_v16 :=
  funext fun j => congrArg (Vv c main_v16) (funext fun a => Fin.ext (whole_emb win0_6 t (fun a => match a with | ⟨0, _⟩ => rfl | ⟨1, _⟩ => rfl) j a))
theorem blk7 : KI.iblk Vv c 7 t = Vv c main_v8 :=
  funext fun j => congrArg (Vv c main_v8) (funext fun a => Fin.ext (whole_emb win0_7 t (fun a => match a with | ⟨0, _⟩ => rfl | ⟨1, _⟩ => rfl) j a))
theorem blk8 : KI.iblk Vv c 8 t = Vv c main_v17 :=
  funext fun j => congrArg (Vv c main_v17) (funext fun a => Fin.ext (whole_emb win0_8 t (fun a => match a with | ⟨0, _⟩ => rfl | ⟨1, _⟩ => rfl) j a))
theorem blk9 : KI.iblk Vv c 9 t = Vv c main_v18 :=
  funext fun j => congrArg (Vv c main_v18) (funext fun a => Fin.ext (whole_emb win0_9 t (fun a => match a with | ⟨0, _⟩ => rfl | ⟨1, _⟩ => rfl) j a))
theorem blk10 : KI.iblk Vv c 10 t = Vv c main_v19 :=
  funext fun j => congrArg (Vv c main_v19) (funext fun a => Fin.ext (whole_emb win0_10 t (fun a => match a with | ⟨0, _⟩ => rfl | ⟨1, _⟩ => rfl) j a))
theorem blk11 : KI.iblk Vv c 11 t = Vv c main_v20 :=
  funext fun j => congrArg (Vv c main_v20) (funext fun a => Fin.ext (whole_emb win0_11 t (fun a => match a with | ⟨0, _⟩ => rfl | ⟨1, _⟩ => rfl) j a))
theorem blk12 : KI.iblk Vv c 12 t = Vv c main_v21 :=
  funext fun j => congrArg (Vv c main_v21) (funext fun a => Fin.ext (whole_emb win0_12 t (fun a => match a with | ⟨0, _⟩ => rfl | ⟨1, _⟩ => rfl) j a))
theorem blk13 : KI.iblk Vv c 13 t = Vv c main_v22 :=
  funext fun j => congrArg (Vv c main_v22) (funext fun a => Fin.ext (whole_emb win0_13 t (fun a => match a with | ⟨0, _⟩ => rfl | ⟨1, _⟩ => rfl) j a))
theorem blk14 : KI.iblk Vv c 14 t = Vv c main_v23 :=
  funext fun j => congrArg (Vv c main_v23) (funext fun a => Fin.ext (whole_emb win0_14 t (fun a => match a with | ⟨0, _⟩ => rfl | ⟨1, _⟩ => rfl) j a))
theorem blk15 : KI.iblk Vv c 15 t = Vv c main_v24 :=
  funext fun j => congrArg (Vv c main_v24) (funext fun a => Fin.ext (whole_emb win0_15 t (fun a => match a with | ⟨0, _⟩ => rfl | ⟨1, _⟩ => rfl) j a))
theorem blk16 : KI.iblk Vv c 16 t = Vv c main_arg14 :=
  funext fun j => congrArg (Vv c main_arg14) (funext fun a => Fin.ext (whole_emb win0_16 t (fun a => match a with | ⟨0, _⟩ => rfl | ⟨1, _⟩ => rfl) j a))

/-- The word of the point in the index maps. -/
theorem coord_word : (BitVec.ofNat 32 (grid0.coords t 0).val).toNat = t.val := by
  rw [KI.coords_val, KI.toNat_small _ (by have := lt200 t; omega)]

/-- Point `p` of the block at `t` is point `t * 8000 + p`. -/
theorem blk2 (p : Fin 8000) (d : Fin 32) : KI.iblk Vv c 2 t (ix2 p d : S8000x32.Idx) = Vv c main_arg0 (ix2 ⟨t.val * 8000 + p.val, by have := lt200 t; omega⟩ d : S1600000x32.Idx) := by
  refine congrArg (Vv c main_arg0) (funext fun a => Fin.ext ?_)
  refine (Pipeline.Window.rect_emb_val win0_2 t (ix2 p d : S8000x32.Idx) a rfl).trans ?_
  match a with
  | ⟨0, _⟩ =>
    show (BitVec.ofNat 32 (grid0.coords t 0).val).toNat * 8000 + p.val = t.val * 8000 + p.val
    rw [coord_word]
  | ⟨1, _⟩ =>
    show 0 * 32 + d.val = d.val
    omega

/-- The ids of the block at `t` are row `t` of the ids. -/
theorem blk3 (p : Fin 8000) : KI.iblk Vv c 3 t (ix3 0 0 p : S1x1x8000.Idx) = Vv c main_v1 (ix3 ⟨t.val, lt200 t⟩ 0 p : S200x1x8000.Idx) := by
  refine congrArg (Vv c main_v1) (funext fun a => Fin.ext ?_)
  refine (Pipeline.Window.rect_emb_val win0_3 t (ix3 0 0 p : S1x1x8000.Idx) a rfl).trans ?_
  match a with
  | ⟨0, _⟩ =>
    show (BitVec.ofNat 32 (grid0.coords t 0).val).toNat * 1 + 0 = t.val
    rw [coord_word]; omega
  | ⟨1, _⟩ => rfl
  | ⟨2, _⟩ =>
    show 0 * 8000 + p.val = p.val
    omega

end Cert.Proof.V

end
-- ==== Proof.V.Table.lean ====
/-
  The table the TensorCore call leaves is the value of every id: the accumulator after the last point holds the sums over all
  points, and what the call makes of it are the means, the layers, the logits and the choice.
-/
module

public import proofs.«01_k».proof.Proof.V.Inputs
public import proofs.«01_k».proof.Proof.V.Accum
public import proofs.«01_k».proof.Proof.V.Blocks

@[expose] public section

noncomputable section

namespace Cert.Proof.V

open Cert.KernelIdeal Cert.KernelIdeal.Gen
open Idealize.ShloMosaic Idealize.ShloMosaic.TcCoe Idealize.ShloMosaic.StableHlo

namespace Args

variable (a : Args)

/-- The features of a point with the ones the kernel counts by: 64 columns, the last 32 of them a layer of zero weights and bias one. -/
def wide (n : Fin 1600000) (j : Fin 64) : EReal :=
  layer (layer (a.x n) (fun l k => a.w1 k l) a.b1) (fun l (j : Fin 64) => if h : j.val < 32 then a.w2 ⟨j.val, h⟩ l else 0)
    (fun j => if h : j.val < 32 then a.b2 ⟨j.val, h⟩ else 1) j

theorem wide_feat (n : Fin 1600000) (j : Fin 32) (h : j.val < 64) : a.wide n ⟨j.val, h⟩ = a.feat n j := by
  simp only [wide, feat, layer, lin, dif_pos j.isLt]

theorem wide_one (n : Fin 1600000) (j : Fin 32) (h : 32 + j.val < 64) : a.wide n ⟨32 + j.val, h⟩ = 1 := by
  simp only [wide, layer, lin, dif_neg (show ¬ 32 + j.val < 32 by omega), mul_zero, Finset.sum_const_zero, zero_add]
  exact max_eq_left zero_le_one

/-- What block `t` adds to row `r`. -/
def block (t r : ℕ) (j : Fin 64) : EReal :=
  if h : t < 200 then total (fun p : Fin 8000 => a.id ⟨t * 8000 + p.val, by omega⟩) (fun p => a.wide ⟨t * 8000 + p.val, by omega⟩ j) r else 0

/-- A sum over `a * b` places, in `a` blocks of `b`. -/
theorem sum_split {k b N : ℕ} (h : k * b = N) (f : Fin N → EReal) (g : Fin k → Fin b → EReal) (hg : ∀ t p (hn : t.val * b + p.val < N), g t p = f ⟨t.val * b + p.val, hn⟩) :
    ∑ n, f n = ∑ t, ∑ p, g t p := by
  subst h
  rw [← Fintype.sum_prod_type' (f := g)]
  refine (Fintype.sum_equiv finProdFinEquiv _ _ fun x => ?_).symm
  have hx : x.1.val * b + x.2.val = (finProdFinEquiv x).val := by
    show x.1.val * b + x.2.val = x.2.val + b * x.1.val
    rw [Nat.mul_comm, Nat.add_comm]
  exact (hg x.1 x.2 (hx ▸ (finProdFinEquiv x).isLt)).trans (congrArg f (Fin.ext hx))

theorem all_blocks (r : ℕ) (j : Fin 64) : ∑ t ∈ Finset.range 200, a.block t r j = total a.id (fun n => a.wide n j) r := by
  rw [Finset.sum_range]
  refine ((Finset.sum_congr rfl fun t _ => ?_).trans (sum_split (show 200 * 8000 = 1600000 by norm_num) _
    (fun (t : Fin 200) (p : Fin 8000) => if a.id ⟨t.val * 8000 + p.val, by omega⟩ = r then a.wide ⟨t.val * 8000 + p.val, by omega⟩ j else 0) fun t p hn => rfl).symm)
  rw [block, dif_pos t.isLt, total]

end Args

variable (m : (ℓ : Loc nD τ sig) → Buf (Elt Ideal) ℓ) (d : Dev nD)

/-- The buffers the call reads. -/
abbrev VV : KI.Vals Ideal := KI.valsOf (KI.W1 m)

theorem word0 (t : Fin cfg0.N) : KI.wordAt (grid0.coords t) (KI.iblk (VV m) d 0 t) = (kargs m d).ids ⟨t.val * 8000, by have := lt200 t; omega⟩ := by
  rw [blk0]
  refine Eq.trans ?_ (in_v10 m d ⟨t.val, lt200 t⟩)
  refine congrArg (VV m d main_v10) (funext fun a => Fin.ext ?_)
  match a with
  | ⟨0, _⟩ => exact KI.coords_val t

theorem word1 (t : Fin cfg0.N) : KI.wordAt (grid0.coords t) (KI.iblk (VV m) d 1 t) = (kargs m d).ids ⟨t.val * 8000 + 7999, by have := lt200 t; omega⟩ := by
  rw [blk1]
  refine Eq.trans ?_ (in_v12 m d ⟨t.val, lt200 t⟩)
  refine congrArg (VV m d main_v12) (funext fun a => Fin.ext ?_)
  match a with
  | ⟨0, _⟩ => exact KI.coords_val t

theorem id_blk (t : Fin cfg0.N) (p : Fin 8000) : idOf (KI.iblk (VV m) d 3 t) p = (kargs m d).id ⟨t.val * 8000 + p.val, by have := lt200 t; omega⟩ :=
  congrArg BitVec.toNat ((blk3 (VV m) d t p).trans (in_v1 m d ⟨t.val, lt200 t⟩ p))

theorem feat_blk (t : Fin cfg0.N) (p : Fin 8000) (j : Fin 64) :
    k0_pay2 (KI.iblk (VV m) d 2 t) (KI.iblk (VV m) d 4 t) (KI.iblk (VV m) d 5 t) (KI.iblk (VV m) d 6 t) (KI.iblk (VV m) d 7 t) (ix2 p j)
      = (kargs m d).wide ⟨t.val * 8000 + p.val, by have := lt200 t; omega⟩ j := by
  have hx : mat (KI.iblk (VV m) d 2 t : S8000x32.Idx → EReal) p = (kargs m d).x ⟨t.val * 8000 + p.val, by have := lt200 t; omega⟩ :=
    funext fun k => (blk2 (VV m) d t p k).trans (congrFun (congrFun (in_arg0 m d) _) k)
  have h4 : mat (KI.iblk (VV m) d 4 t : S32x32.Idx → EReal) = _ := (congrArg mat (blk4 (VV m) d t)).trans (in_v14 m d)
  have h5 : mat (KI.iblk (VV m) d 5 t : S1x32.Idx → EReal) 0 = _ := (congrArg (fun z => mat z 0) (blk5 (VV m) d t)).trans (in_v15 m d)
  have h6 : mat (KI.iblk (VV m) d 6 t : S32x64.Idx → EReal) = _ := (congrArg mat (blk6 (VV m) d t)).trans (in_v16 m d)
  have h7 : mat (KI.iblk (VV m) d 7 t : S1x64.Idx → EReal) 0 = _ := (congrArg (fun z => mat z 0) (blk7 (VV m) d t)).trans (in_v8 m d)
  rw [pay2_apply, hx, h4, h5, h6, h7]
  rfl

variable (hr : ∀ n, (kargs m d).id n < 4096) (hs : ∀ n n' : Fin 1600000, n ≤ n' → (kargs m d).id n ≤ (kargs m d).id n')

include hr hs in
/-- After `n` blocks every row holds the sums over their points. -/
theorem acc_apply (r : Fin 4224) (j : Fin 64) : ∀ n, n ≤ 200 → KI.accAt (VV m) d n (ix2 r j) = ∑ t ∈ Finset.range n, (kargs m d).block t r.val j := by
  intro n
  induction n with
  | zero => intro _; exact pay4_apply r j
  | succ n ih =>
    intro hn
    have hN : n < cfg0.N := by rw [show cfg0.N = 200 from N_0]; omega
    have hst : KI.accStart (grid0.coords ⟨n, hN⟩) (KI.accAt (VV m) d n) = KI.accAt (VV m) d n := by
      unfold KI.accStart
      split
      next h =>
        rw [KI.coords_val] at h
        obtain rfl : n = 0 := h
        rfl
      next h => rfl
    rw [Finset.sum_range_succ, ← ih (by omega), KI.accAt, dif_pos hN, KI.accAfter, hst]
    rw [accNext_apply _ _ _ (by rw [word0]; exact hr _) (by rw [word1]; exact hr _)
      (fun p => by rw [word0, id_blk]; exact hs _ _ (Fin.mk_le_mk.2 (by omega)))
      (fun p => by rw [word1, id_blk]; exact hs _ _ (Fin.mk_le_mk.2 (by show n * 8000 + p.val ≤ n * 8000 + 7999; omega)))]
    refine congrArg _ ?_
    rw [Args.block, dif_pos (show n < 200 by omega)]
    refine Finset.sum_congr rfl fun p _ => ?_
    rw [id_blk]
    exact if_congr Iff.rfl (feat_blk m d ⟨n, hN⟩ p j) rfl

include hr hs in
theorem acc_sums (r : Fin 4224) (j : Fin 64) : KI.accAt (VV m) d 200 (ix2 r j) = total (kargs m d).id (fun n => (kargs m d).wide n j) r.val :=
  (acc_apply m d hr hs r j 200 le_rfl).trans ((kargs m d).all_blocks r.val j)

include hr hs in
/-- The means the call takes its layers of. -/
theorem means_apply (r : Fin 4096) : means (mat (KI.win 4096 0 (KI.accAt (VV m) d 200)) r) = fun k => mean ((kargs m d).sums r k) ((kargs m d).count r) := by
  funext k
  have hw : ∀ j : Fin 64, KI.win 4096 0 (KI.accAt (VV m) d 200) (ix2 r j) = total (kargs m d).id (fun n => (kargs m d).wide n j) r.val := fun j => by
    exact (win_apply (n := 4096) (o := 0) _ r ⟨r.val, by omega⟩ j (Nat.zero_add _)).trans (acc_sums m d hr hs _ j)
  simp only [means, mat, hw, Args.wide_feat, Args.wide_one]
  rfl

include hr hs in
/-- Row `r` of the table is the value of id `r`. -/
theorem table_apply (r : Fin 4096) : KI.tableAt (KI.W1 m) d (ix2 r 0) = (kargs m d).value r := by
  have h8 : mat (KI.iblk (VV m) d 8 ⟨199, KI.lastPt⟩ : S32x32.Idx → EReal) = _ := (congrArg mat (blk8 (VV m) d _)).trans (in_v17 m d)
  have h9 : mat (KI.iblk (VV m) d 9 ⟨199, KI.lastPt⟩ : S1x32.Idx → EReal) 0 = _ := (congrArg (fun z => mat z 0) (blk9 (VV m) d _)).trans (in_v18 m d)
  have h10 : mat (KI.iblk (VV m) d 10 ⟨199, KI.lastPt⟩ : S32x32.Idx → EReal) = _ := (congrArg mat (blk10 (VV m) d _)).trans (in_v19 m d)
  have h11 : mat (KI.iblk (VV m) d 11 ⟨199, KI.lastPt⟩ : S1x32.Idx → EReal) 0 = _ := (congrArg (fun z => mat z 0) (blk11 (VV m) d _)).trans (in_v20 m d)
  have h12 : mat (KI.iblk (VV m) d 12 ⟨199, KI.lastPt⟩ : S32x32.Idx → EReal) = _ := (congrArg mat (blk12 (VV m) d _)).trans (in_v21 m d)
  have h13 : mat (KI.iblk (VV m) d 13 ⟨199, KI.lastPt⟩ : S1x32.Idx → EReal) 0 = _ := (congrArg (fun z => mat z 0) (blk13 (VV m) d _)).trans (in_v22 m d)
  have h14 : mat (KI.iblk (VV m) d 14 ⟨199, KI.lastPt⟩ : S32x2.Idx → EReal) = _ := (congrArg mat (blk14 (VV m) d _)).trans (in_v23 m d)
  have h15 : mat (KI.iblk (VV m) d 15 ⟨199, KI.lastPt⟩ : S1x2.Idx → EReal) 0 = _ := (congrArg (fun z => mat z 0) (blk15 (VV m) d _)).trans (in_v24 m d)
  have h16 : mat (KI.iblk (VV m) d 16 ⟨199, KI.lastPt⟩ : S4096x2.Idx → EReal) = _ := (congrArg mat (blk16 (VV m) d _)).trans (in_arg14 m d)
  unfold KI.tableAt KI.tabAt KI.tableOf
  rw [pay1_apply]
  refine congrArg choice (funext fun j => ?_)
  rw [show KI.iblk (VV m) d 16 ⟨199, KI.lastPt⟩ (ix2 r j) = _ from congrFun (congrFun h16 r) j]
  refine congrArg (· + _) ?_
  rw [show KI.iblk (VV m) d 15 ⟨199, KI.lastPt⟩ (ix2 0 j) = _ from congrFun h15 j,
    pay3_apply, means_apply m d hr hs r, h8, h9, h10, h11, h12, h13, h14]
  rfl

end Cert.Proof.V

end
-- ==== Proof.V.RefOps.lean ====
/-
  The reference's scatters, its gather and its arg-max, read at an index.
-/
module

public import proofs.«01_k».proof.Proof.R.Frame
public import proofs.«01_k».proof.Proof.V.Model
public import Idealize.ShloMosaic.Lib.Routing.OpsPair
public import Idealize.ShloMosaic.Lib.Routing.OpsSet

@[expose] public section

noncomputable section

namespace Cert.Proof.V

open Cert.ReferenceIdeal Cert.ReferenceIdeal.Gen
open Idealize.ShloMosaic

/-- An id's word read signed is the id. -/
theorem toInt_id (w : BitVec 32) (h : w.toNat < 4096) (r : ℕ) : w.toInt = (r : Int) ↔ w.toNat = r := by
  rw [BitVec.toInt_eq_toNat_of_lt (by omega)]
  omega

/-- Where a point's features land: in the row of its id, in their column. -/
theorem lands32 (idx : IVec S1600000x1 32) (n : Fin 1600000) (j' : Fin 32) (r : Fin 4096) (j : Fin 32) :
    scatter_S4096x32_S1600000x1_S1600000x32_1_0_0_1.resultIdx? (ix2 n j' : S1600000x32.Idx) idx = some (ix2 r j) ↔ (idx (ix2 n 0)).toInt = (r.val : Int) ∧ j' = j := by
  refine (Routing.resultIdx?_ix2 (R := 4096) (C := 32) scatter_S4096x32_S1600000x1_S1600000x32_1_0_0_1 (ix2 n j') idx r j).trans ?_
  have e : scatter_S4096x32_S1600000x1_S1600000x32_1_0_0_1.start (ix2 n j' : S1600000x32.Idx) idx 0 = (idx (ix2 n 0)).toInt := by
    show (idx _).toInt = _
    refine congrArg (fun k => (idx k).toInt) (funext fun a => ?_)
    match a with
    | ⟨0, _⟩ => rfl
    | ⟨1, _⟩ => rfl
  rw [e, show scatter_S4096x32_S1600000x1_S1600000x32_1_0_0_1.start (ix2 n j' : S1600000x32.Idx) idx 1 = 0 from rfl,
    show scatter_S4096x32_S1600000x1_S1600000x32_1_0_0_1.window (ix2 n j' : S1600000x32.Idx) 0 = 0 from rfl,
    show scatter_S4096x32_S1600000x1_S1600000x32_1_0_0_1.window (ix2 n j' : S1600000x32.Idx) 1 = j'.val from rfl, Fin.ext_iff]
  omega

/-- Where a point's one lands: in the row of its id. -/
theorem lands1 (idx : IVec S1600000x1 32) (n : Fin 1600000) (j' : Fin 1) (r : Fin 4096) (j : Fin 1) :
    scatter_S4096x1_S1600000x1_S1600000x1_1_0_0_1.resultIdx? (ix2 n j' : S1600000x1.Idx) idx = some (ix2 r j) ↔ (idx (ix2 n 0)).toInt = (r.val : Int) ∧ j' = j := by
  refine (Routing.resultIdx?_ix2 (R := 4096) (C := 1) scatter_S4096x1_S1600000x1_S1600000x1_1_0_0_1 (ix2 n j') idx r j).trans ?_
  have e : scatter_S4096x1_S1600000x1_S1600000x1_1_0_0_1.start (ix2 n j' : S1600000x1.Idx) idx 0 = (idx (ix2 n 0)).toInt := by
    show (idx _).toInt = _
    refine congrArg (fun k => (idx k).toInt) (funext fun a => ?_)
    match a with
    | ⟨0, _⟩ => rfl
    | ⟨1, _⟩ => rfl
  rw [e, show scatter_S4096x1_S1600000x1_S1600000x1_1_0_0_1.start (ix2 n j' : S1600000x1.Idx) idx 1 = 0 from rfl,
    show scatter_S4096x1_S1600000x1_S1600000x1_1_0_0_1.window (ix2 n j' : S1600000x1.Idx) 0 = 0 from rfl,
    show scatter_S4096x1_S1600000x1_S1600000x1_1_0_0_1.window (ix2 n j' : S1600000x1.Idx) 1 = j'.val from rfl, Fin.ext_iff]
  omega

/-- A sum over the updates that land in an entry is the sum over the points of its row's id. -/
theorem sum_landing {C : ℕ} (idx : IVec S1600000x1 32) (hid : ∀ n : Fin 1600000, (idx (ix2 n 0)).toNat < 4096) (land : (⟨2, ![1600000, C]⟩ : Shape).Idx → Prop) [DecidablePred land] (r : ℕ) (j : Fin C)
    (hl : ∀ (n : Fin 1600000) (j' : Fin C), land (ix2 n j') ↔ (idx (ix2 n 0)).toInt = (r : Int) ∧ j' = j) (u : (⟨2, ![1600000, C]⟩ : Shape).Idx → EReal) :
    ∑ k ∈ Finset.univ.filter land, u k = total (fun n : Fin 1600000 => (idx (ix2 n 0)).toNat) (fun n => u (ix2 n j)) r := by
  rw [Finset.sum_filter, sum_idx2]
  refine Finset.sum_congr rfl fun n _ => ?_
  by_cases h : (idx (ix2 n 0)).toNat = r
  · rw [if_pos h, Finset.sum_eq_single j]
    · exact if_pos ((hl n j).2 ⟨(toInt_id _ (hid n) r).2 h, rfl⟩)
    · exact fun j' _ hj => if_neg fun q => hj ((hl n j').1 q).2
    · exact fun q => absurd (Finset.mem_univ j) q
  · rw [if_neg h]
    exact Finset.sum_eq_zero fun j' _ => if_neg fun q => h ((toInt_id _ (hid n) r).1 ((hl n j').1 q).1)

/-- The features added up by id. -/
theorem scatter32 (x : FVec Ideal S4096x32 .f32) (idx : IVec S1600000x1 32) (hid : ∀ n : Fin 1600000, (idx (ix2 n 0)).toNat < 4096) (u : FVec Ideal S1600000x32 .f32) (r : Fin 4096) (j : Fin 32) :
    Host.scatterAdd scatter_S4096x32_S1600000x1_S1600000x32_1_0_0_1 x idx u (ix2 r j) = x (ix2 r j) + total (fun n : Fin 1600000 => (idx (ix2 n 0)).toNat) (fun n => u (ix2 n j)) r.val := by
  refine (show Host.scatterAdd _ x idx u (ix2 r j) = x (ix2 r j) + _ from rfl).trans (congrArg (x (ix2 r j) + ·) ?_)
  exact sum_landing idx hid _ r.val j (fun n j' => lands32 idx n j' r j) u

/-- The ones added up by id. -/
theorem scatter1 (x : FVec Ideal S4096x1 .f32) (idx : IVec S1600000x1 32) (hid : ∀ n : Fin 1600000, (idx (ix2 n 0)).toNat < 4096) (u : FVec Ideal S1600000x1 .f32) (r : Fin 4096) (j : Fin 1) :
    Host.scatterAdd scatter_S4096x1_S1600000x1_S1600000x1_1_0_0_1 x idx u (ix2 r j) = x (ix2 r j) + total (fun n : Fin 1600000 => (idx (ix2 n 0)).toNat) (fun n => u (ix2 n j)) r.val := by
  refine (show Host.scatterAdd _ x idx u (ix2 r j) = x (ix2 r j) + _ from rfl).trans (congrArg (x (ix2 r j) + ·) ?_)
  exact sum_landing idx hid _ r.val j (fun n j' => lands1 idx n j' r j) u

/-- A point's value: the entry of its id. -/
theorem take (x : FVec Ideal S4096 .f32) (idx : IVec S1600000x1 32) (n : Fin 1600000) (h : (idx (ix2 n 0)).toNat < 4096) :
    Host.gather gather_S4096_S1600000x1_S1600000_n_0_n_n_0_1_1 x idx (ix1 n) = x (ix1 ⟨(idx (ix2 n 0)).toNat, h⟩) :=
  Routing.gather_take1 (N := 4096) gather_S4096_S1600000x1_S1600000_n_0_n_n_0_1_1 rfl rfl rfl rfl x idx n ⟨_, h⟩ (by rw [BitVec.ofNat_toNat, BitVec.setWidth_eq]; rfl) (by norm_num)

end Cert.Proof.V

end
-- ==== Proof.V.RefStages.lean ====
/-
  The reference's stretches read at an index, from any contents of the buffers they start with.
-/
module

public import proofs.«01_k».proof.Proof.V.RefOps
public import Idealize.ShloMosaic.Lib.StableHlo.ReadAt

@[expose] public section

noncomputable section

namespace Cert.Proof.V

open Cert.ReferenceIdeal Cert.ReferenceIdeal.Gen
open Idealize.ShloMosaic Idealize.ShloMosaic.TcCoe Idealize.ShloMosaic.StableHlo

/-- A matrix held in a buffer as a function of its row and column, a vector as one of its place. -/
abbrev rmat {m n : ℕ} (A : (⟨2, ![m, n]⟩ : Shape).Idx → EReal) (i : Fin m) (j : Fin n) : EReal := A (ix2 i j)
abbrev rvec {n : ℕ} (A : (⟨1, ![n]⟩ : Shape).Idx → EReal) (i : Fin n) : EReal := A (ix1 i)

variable (V : Valuation τ sig (Elt Ideal))

set_option maxRecDepth 16384

/-- The features. -/
theorem mlp_apply (n : Fin 1600000) (j : Fin 32) :
    (after R.opsMlp V (Proc.devRef .tc main_v11) : S1600000x32.Idx → EReal) (ix2 n j)
      = layer (layer (rmat (V (Proc.devRef .tc main_arg0)) n) (fun l k => rmat (V (Proc.devRef .tc main_arg2)) k l) (rvec (V (Proc.devRef .tc main_arg3))))
          (fun l k => rmat (V (Proc.devRef .tc main_arg4)) k l) (rvec (V (Proc.devRef .tc main_arg5))) j := by
  simp only [R.opsMlp, TRef.binary, TRef.nullary, TRef.unary, TRef.quaternary, TRef.toBuf, TRef.ofBuf, cast_eq]
  after_reads_at
  rfl

/-- A layer over the ids, as the reference writes it. -/
def dense (x : FVec Ideal S4096x32 .f32) (w : FVec Ideal S32x32 .f32) (b : FVec Ideal S32 .f32) : FVec Ideal S4096x32 .f32 :=
  maximumf (addf (Host.dotGeneral dot_S4096x32_S32x32_S4096x32_1_0_0_1_n_n none x (transpose S32x32 [1, 0] w transposes_S32x32_S32x32_1_0))
    (broadcastInDim S4096x32 ![0, 1] bcast_S1x32_S4096x32_0_1 (broadcastInDim S1x32 ![1] bcast_S32_S1x32_1 b))) (broadcastInDim S4096x32 ![] bcast_S_S4096x32 (constant S_ .f32 0x00000000#32))

theorem dense_apply (x : FVec Ideal S4096x32 .f32) (w : FVec Ideal S32x32 .f32) (b : FVec Ideal S32 .f32) (r : Fin 4096) :
    rmat (dense x w b) r = layer (rmat x r) (fun l k => rmat w k l) (rvec b) := by
  funext j
  rw [rmat]
  pointwise [dense]
  rfl

theorem logits_term : after R.opsLogits V (Proc.devRef .tc main_v46) = (addf (Host.dotGeneral (φ₂ := .f32) dot_S4096x32_S32x2_S4096x2_1_0_0_1_n_n none
    (dense (dense (dense (V (Proc.devRef .tc main_v23) : FVec Ideal S4096x32 .f32) (V (Proc.devRef .tc main_arg6) : FVec Ideal S32x32 .f32) (V (Proc.devRef .tc main_arg7) : FVec Ideal S32 .f32))
      (V (Proc.devRef .tc main_arg8) : FVec Ideal S32x32 .f32) (V (Proc.devRef .tc main_arg9) : FVec Ideal S32 .f32))
      (V (Proc.devRef .tc main_arg10) : FVec Ideal S32x32 .f32) (V (Proc.devRef .tc main_arg11) : FVec Ideal S32 .f32))
    (transpose S32x2 [1, 0] (V (Proc.devRef .tc main_arg12) : S2x32.Idx → Ideal .f32) transposes_S2x32_S32x2_1_0))
    (broadcastInDim S4096x2 ![0, 1] bcast_S1x2_S4096x2_0_1 (broadcastInDim S1x2 ![1] bcast_S2_S1x2_1 (V (Proc.devRef .tc main_arg13) : FVec Ideal S2 .f32))) : FVec Ideal S4096x2 .f32) := by
  simp only [R.opsLogits, TRef.binary, TRef.nullary, TRef.unary, TRef.quaternary, TRef.toBuf, TRef.ofBuf, cast_eq]
  after_results_simp <;> rfl

/-- The logits. -/
theorem logits_apply (r : Fin 4096) (j : Fin 2) :
    (after R.opsLogits V (Proc.devRef .tc main_v46) : S4096x2.Idx → EReal) (ix2 r j)
      = lin (layer (layer (layer (rmat (V (Proc.devRef .tc main_v23)) r) (fun l k => rmat (V (Proc.devRef .tc main_arg6)) k l) (rvec (V (Proc.devRef .tc main_arg7))))
          (fun l k => rmat (V (Proc.devRef .tc main_arg8)) k l) (rvec (V (Proc.devRef .tc main_arg9))))
          (fun l k => rmat (V (Proc.devRef .tc main_arg10)) k l) (rvec (V (Proc.devRef .tc main_arg11))))
          (fun l k => rmat (V (Proc.devRef .tc main_arg12)) k l) (rvec (V (Proc.devRef .tc main_arg13))) j := by
  rw [logits_term, ← dense_apply, ← dense_apply, ← dense_apply]
  generalize dense _ _ _ = A
  pointwise
  rfl

end Cert.Proof.V

end
-- ==== Proof.V.RefMean.lean ====
/-
  The reference's means read at an index.
-/
module

public import proofs.«01_k».proof.Proof.V.RefStages
public import Idealize.ShloMosaic.Lib.StableHlo.ReadAt

@[expose] public section

noncomputable section

namespace Cert.Proof.V

open Cert.ReferenceIdeal Cert.ReferenceIdeal.Gen
open Idealize.ShloMosaic Idealize.ShloMosaic.TcCoe Idealize.ShloMosaic.StableHlo

variable (V : Valuation τ sig (Elt Ideal))

set_option maxRecDepth 16384

/-- The word of a point's id. -/
abbrev rids (n : Fin 1600000) : BitVec 32 := (V (Proc.devRef .tc main_arg1) : S1600000x1.Idx → BitVec 32) (ix2 n 0)

/-- The ids as the column the scatters read. -/
def column (w : IVec S1600000x1 32) : IVec S1600000x1 32 :=
  broadcastInDim S1600000x1 ![0] bcast_S1600000_S1600000x1_0 (shapeCast S1600000 w shapeCasts_S1600000x1_S1600000)

/-- The features added up by id, and the ones. -/
def added (w : IVec S1600000x1 32) (f : FVec Ideal S1600000x32 .f32) : FVec Ideal S4096x32 .f32 :=
  Host.scatterAdd scatter_S4096x32_S1600000x1_S1600000x32_1_0_0_1 (broadcastInDim S4096x32 ![] bcast_S_S4096x32 (constant S_ .f32 0x00000000#32)) w f
def counted (w : IVec S1600000x1 32) : FVec Ideal S4096x1 .f32 :=
  Host.scatterAdd scatter_S4096x1_S1600000x1_S1600000x1_1_0_0_1 (broadcastInDim S4096x1 ![] bcast_S_S4096x1 (constant S_ .f32 0x00000000#32)) w
    (broadcastInDim S1600000x1 ![] bcast_S_S1600000x1 (constant S_ .f32 0x3F800000#32))

theorem column_apply (w : IVec S1600000x1 32) (n : Fin 1600000) : column w (ix2 n 0) = w (ix2 n 0) := by
  pointwise [column]

theorem added_apply (w : IVec S1600000x1 32) (hid : ∀ n : Fin 1600000, (w (ix2 n 0)).toNat < 4096) (f : FVec Ideal S1600000x32 .f32) (r : Fin 4096) (j : Fin 32) :
    added w f (ix2 r j) = total (fun n : Fin 1600000 => (w (ix2 n 0)).toNat) (fun n => f (ix2 n j)) r.val := by
  refine (scatter32 _ w hid f r j).trans ?_
  generalize total _ _ _ = s
  pointwise

theorem counted_apply (w : IVec S1600000x1 32) (hid : ∀ n : Fin 1600000, (w (ix2 n 0)).toNat < 4096) (r : Fin 4096) :
    counted w (ix2 r 0) = total (fun n : Fin 1600000 => (w (ix2 n 0)).toNat) (fun _ => 1) r.val := by
  refine (scatter1 _ w hid _ r 0).trans ?_
  have h : (fun n : Fin 1600000 => (broadcastInDim S1600000x1 ![] bcast_S_S1600000x1 (constant S_ .f32 0x3F800000#32) : FVec Ideal S1600000x1 .f32) (ix2 n 0)) = fun _ => (1 : EReal) := by
    funext n
    pointwise
  rw [h]
  generalize total _ _ _ = s
  pointwise

theorem mean_term : after R.opsMean V (Proc.devRef .tc main_v23) = (Host.divf (added (column (V (Proc.devRef .tc main_arg1) : S1600000x1.Idx → BitVec 32)) (V (Proc.devRef .tc main_v11) : FVec Ideal S1600000x32 .f32))
    (broadcastInDim S4096x32 ![0, 1] bcast_S4096x1_S4096x32_0_1 (maximumf (counted (column (V (Proc.devRef .tc main_arg1) : S1600000x1.Idx → BitVec 32)))
      (broadcastInDim S4096x1 ![] bcast_S_S4096x1 (constant S_ .f32 0x3F800000#32)))) : FVec Ideal S4096x32 .f32) := by
  simp only [R.opsMean]
  after_results_simp <;> rfl

/-- The means. -/
theorem mean_apply (hid : ∀ n, (rids V n).toNat < 4096) (r : Fin 4096) (j : Fin 32) :
    (after R.opsMean V (Proc.devRef .tc main_v23) : S4096x32.Idx → EReal) (ix2 r j)
      = mean (total (fun n => (rids V n).toNat) (fun n => rmat (V (Proc.devRef .tc main_v11)) n j) r.val) (total (fun n => (rids V n).toNat) (fun _ => 1) r.val) := by
  have hx : ∀ n, (column (V (Proc.devRef .tc main_arg1) : S1600000x1.Idx → BitVec 32) (ix2 n 0)).toNat < 4096 := fun n => by rw [column_apply]; exact hid n
  have h32 := added_apply _ hx (V (Proc.devRef .tc main_v11) : FVec Ideal S1600000x32 .f32) r j
  have h1 := counted_apply _ hx r
  simp only [column_apply] at h32 h1
  rw [mean_term]
  generalize added _ _ = A at h32 ⊢
  generalize counted _ = B at h1 ⊢
  pointwise
  rw [h32, h1]
  rfl

end Cert.Proof.V

end
-- ==== Proof.V.ArgMax.lean ====
/-
  The reference's arg-max over a row of two, at the ideal floats: the second column exactly when it is greater.
-/
module

public import proofs.«01_k».proof.Proof.Gen.ReferenceIdeal
public import Idealize.ShloMosaic.Lib.Pointwise
public import Idealize.ShloMosaic.PureOps.Reduce

@[expose] public section

noncomputable section

namespace Cert.Proof.V

open Cert.ReferenceIdeal Cert.ReferenceIdeal.Gen
open Idealize.ShloMosaic

/-- The members of a list of places, in order, that are one of two. -/
theorem filter_two {N : ℕ} (p : Fin N → Prop) [DecidablePred p] (a b : Fin N) (hab : a < b) (h : ∀ n, p n ↔ n = a ∨ n = b) : (List.finRange N).filter (fun n => p n) = [a, b] := by
  refine List.Perm.eq_of_pairwise (le := (· < ·)) (fun x y _ _ h1 h2 => absurd h1 (lt_asymm h2)) ((List.pairwise_lt_finRange N).filter _) (by simpa using hab) ?_
  refine (List.perm_ext_iff_of_nodup ((List.nodup_finRange N).filter _) (by simpa using hab.ne)).2 fun n => ?_
  simp [h]

/-- The pairs a row's fold runs over: its first, then its second. -/
theorem fiber_two {α β : Type} (x : S4096x2.Idx → α) (y : S4096x2.Idx → β) (r : Fin 4096) :
    Host.argReduceFiber x y reducesTo_S4096x2_S4096_d1 (ix1 r) = [(x (ix2 r 0), y (ix2 r 0)), (x (ix2 r 1), y (ix2 r 1))] := by
  have hp : ∀ n : Fin S4096x2.numel, reducesTo_S4096x2_S4096_d1.drop (S4096x2.rowMajor.symm n) = ix1 r ↔ n = S4096x2.rowMajor (ix2 r 0) ∨ n = S4096x2.rowMajor (ix2 r 1) := by
    intro n
    obtain ⟨i, rfl⟩ := S4096x2.rowMajor.surjective n
    rw [Equiv.symm_apply_apply, S4096x2.rowMajor.injective.eq_iff, S4096x2.rowMajor.injective.eq_iff]
    idx_vars i
    have hd : reducesTo_S4096x2_S4096_d1.drop (ix2 i0 i1 : S4096x2.Idx) = ix1 i0 := by
      funext b
      match b with
      | ⟨0, _⟩ => rfl
    rw [hd]
    constructor
    · intro h
      obtain rfl : i0 = r := congrFun h 0
      match i1 with
      | 0 => exact .inl rfl
      | 1 => exact .inr rfl
    · rintro (h | h)
      · obtain rfl : i0 = r := congrFun h 0
        rfl
      · obtain rfl : i0 = r := congrFun h 0
        rfl
  have hlt : S4096x2.rowMajor (ix2 r 0) < S4096x2.rowMajor (ix2 r 1) := by
    rw [Fin.lt_def, Shape.rowMajor_val_two, Shape.rowMajor_val_two]
    show r.val * 2 + 0 < r.val * 2 + 1
    omega
  unfold Host.argReduceFiber
  rw [filter_two _ _ _ hlt hp]
  simp only [List.map_cons, List.map_nil, Equiv.symm_apply_apply]

theorem bot_bits : Ideal.ofBits FTy.f32 0xFF800000#32 = ⊥ := by
  simp [Ideal.ofBits, Ideal.ieee]

/-- The index of the greater. -/
theorem argmax_two (x : FVec Ideal S4096x2 .f32) (r : Fin 4096) :
    (Host.argReduce reducer_argmax_f32_i32 x (iotaInDim S4096x2 32 1) (constant S_ .f32 0xFF800000#32) (constantI S_ 32 0#32) reducesTo_S4096x2_S4096_d1 h_S_ (ix1 r)).2
      = if (x (ix2 r 0) : EReal) < x (ix2 r 1) then 1#32 else 0#32 := by
  rw [Ideal.argReduce_eq_reduce2, Host.reduce2_eq_foldl_fiber, fiber_two]
  have e0 : iotaInDim S4096x2 32 1 (ix2 r 0) = 0#32 := rfl
  have e1 : iotaInDim S4096x2 32 1 (ix2 r 1) = 1#32 := rfl
  have eb : (constant S_ .f32 0xFF800000#32 : FVec Ideal S_ .f32) (Shape.Idx.first h_S_) = (⊥ : EReal) := bot_bits
  have ec : constantI S_ 32 0#32 (Shape.Idx.first h_S_) = 0#32 := rfl
  rw [e0, e1, eb, ec]
  generalize x (ix2 r 0) = u
  generalize x (ix2 r 1) = v
  have s1 : reducer_argmax_f32_i32 (F := Ideal) ((⊥ : EReal), 0#32) (u, 0#32) = (u, 0#32) := by
    simp [reducer_argmax_f32_i32, Ideal.cmpf_def, Ideal.cmp, IntOp.ori, IntOp.andi, IntOp.cmpi, Scalar.select]
  simp only [List.foldl_cons, List.foldl_nil]
  rw [s1]
  rcases lt_trichotomy (u : EReal) v with h | h | h
  · rw [if_pos h]
    simp [reducer_argmax_f32_i32, Ideal.cmpf_def, Ideal.cmp, IntOp.ori, IntOp.andi, IntOp.cmpi, Scalar.select, h.not_gt, h.ne]
  · rw [if_neg (by rw [h]; exact lt_irrefl _)]
    simp [reducer_argmax_f32_i32, Ideal.cmpf_def, Ideal.cmp, IntOp.ori, IntOp.andi, IntOp.cmpi, Scalar.select, h]
  · rw [if_neg h.not_gt]
    simp [reducer_argmax_f32_i32, Ideal.cmpf_def, Ideal.cmp, IntOp.ori, IntOp.andi, IntOp.cmpi, Scalar.select, h, h.ne']

end Cert.Proof.V

end
-- ==== Proof.V.RefChoice.lean ====
/-
  The reference's later stretches read at an index: the softmax, the choice, and every point's value.
-/
module

public import proofs.«01_k».proof.Proof.V.RefStages
public import proofs.«01_k».proof.Proof.V.ArgMax
public import Idealize.ShloMosaic.Lib.StableHlo.ReadAt

@[expose] public section

noncomputable section

namespace Cert.Proof.V

open Cert.ReferenceIdeal Cert.ReferenceIdeal.Gen
open Idealize.ShloMosaic Idealize.ShloMosaic.TcCoe Idealize.ShloMosaic.StableHlo

variable (V : Valuation τ sig (Elt Ideal))

set_option maxRecDepth 16384

/-- The noise of the draws, as the reference writes it. -/
def noises (u : FVec Ideal S4096x2 .f32) : FVec Ideal S4096x2 .f32 :=
  Host.negf (Host.log (Host.negf (Host.log (minimumf (broadcastInDim S4096x2 ![] bcast_S_S4096x2 (constant S_ .f32 0x3F800000#32))
    (maximumf (broadcastInDim S4096x2 ![] bcast_S_S4096x2 (constant S_ .f32 0x2EDBE6FF#32)) u)))))

/-- The scores less their greatest, exponentiated. -/
def exps (z : FVec Ideal S4096x2 .f32) : FVec Ideal S4096x2 .f32 :=
  Host.exp (subf z (broadcastInDim S4096x2 ![0, 1] bcast_S4096x1_S4096x2_0_1 (broadcastInDim S4096x1 ![0] bcast_S4096_S4096x1_0
    (maximumf (broadcastInDim S4096 ![] bcast_S_S4096 (constant S_ .f32 0xFF800000#32)) (Host.reduce FloatOps.maximumf z (constant S_ .f32 0xFF800000#32 : FVec Ideal S_ .f32) reducesTo_S4096x2_S4096_d1 h_S_)))))

/-- Each over their sum. -/
def shares (e : FVec Ideal S4096x2 .f32) : FVec Ideal S4096x2 .f32 :=
  Host.divf e (broadcastInDim S4096x2 ![0, 1] bcast_S4096x1_S4096x2_0_1 (broadcastInDim S4096x1 ![0] bcast_S4096_S4096x1_0
    (Host.reduceAdd e (constant S_ .f32 0x00000000#32 : FVec Ideal S_ .f32) reducesTo_S4096x2_S4096_d1 h_S_)))

theorem soft_term : after R.opsSoft V (Proc.devRef .tc main_v63) = shares (exps (addf (V (Proc.devRef .tc main_v46) : FVec Ideal S4096x2 .f32) (noises (V (Proc.devRef .tc main_arg14) : FVec Ideal S4096x2 .f32)))) := by
  simp only [R.opsSoft, TRef.binary, TRef.nullary, TRef.unary, TRef.quaternary, TRef.toBuf, TRef.ofBuf, cast_eq]
  after_results_simp <;> rfl

theorem noises_apply (u : FVec Ideal S4096x2 .f32) (r : Fin 4096) (j : Fin 2) : noises u (ix2 r j) = noise (u (ix2 r j)) := by
  pointwise [noises]
  rfl

theorem exps_apply (z : FVec Ideal S4096x2 .f32) (r : Fin 4096) (j : Fin 2) : exps z (ix2 r j) = Ideal.exp ((z (ix2 r j) : EReal) - top (fun j => z (ix2 r j))) := by
  pointwise [exps]
  exact congrArg (fun y => Ideal.exp ((z (ix2 r j) : EReal) - y)) (max_eq_right ((Finset.le_fold_max _).2 (.inl le_rfl)))

theorem shares_apply (e : FVec Ideal S4096x2 .f32) (r : Fin 4096) (j : Fin 2) : shares e (ix2 r j) = Ideal.div (e (ix2 r j)) (∑ k : Fin 2, (e (ix2 r k) : EReal)) := by
  pointwise [shares]

/-- The softmax of the noisy logits. -/
theorem soft_apply (r : Fin 4096) (j : Fin 2) :
    (after R.opsSoft V (Proc.devRef .tc main_v63) : S4096x2.Idx → EReal) (ix2 r j)
      = soft (fun j => rmat (V (Proc.devRef .tc main_v46)) r j + noise (rmat (V (Proc.devRef .tc main_arg14)) r j)) j := by
  have hz : ∀ j : Fin 2, addf (V (Proc.devRef .tc main_v46) : FVec Ideal S4096x2 .f32) (noises (V (Proc.devRef .tc main_arg14) : FVec Ideal S4096x2 .f32)) (ix2 r j)
      = rmat (V (Proc.devRef .tc main_v46)) r j + noise (rmat (V (Proc.devRef .tc main_arg14)) r j) :=
    fun j => congrArg (rmat (V (Proc.devRef .tc main_v46)) r j + ·) (noises_apply _ r j)
  rw [soft_term, shares_apply]
  simp only [exps_apply, hz]
  rfl

/-- Which of the two scores of a row is greater, as one in its column. -/
def picks (p : FVec Ideal S4096x2 .f32) : FVec Ideal S4096x2 .f32 :=
  uitofp .f32 (cmpi .eq (broadcastInDim S4096x2 ![0, 1] bcast_S4096x1_S4096x2_0_1 (broadcastInDim S4096x1 ![0] bcast_S4096_S4096x1_0
    (fun j : S4096.Idx => (Host.argReduce (F := Ideal) reducer_argmax_f32_i32 p (iotaInDim S4096x2 32 1) (constant S_ .f32 0xFF800000#32) (constantI S_ 32 0#32) reducesTo_S4096x2_S4096_d1 h_S_ j).2)))
    (broadcastInDim S4096x2 ![0, 1] bcast_S1x2_S4096x2_0_1 (iotaInDim S1x2 32 1)))

theorem hard_term : after R.opsHard V (Proc.devRef .tc main_v69) = (shapeCast S4096 (extractStridedSlice S4096x1 ![0, 1]
    (addf (subf (picks (V (Proc.devRef .tc main_v63) : FVec Ideal S4096x2 .f32)) (V (Proc.devRef .tc main_v63) : FVec Ideal S4096x2 .f32)) (V (Proc.devRef .tc main_v63) : FVec Ideal S4096x2 .f32))
    slices_S4096x2_S4096x1_0_1) shapeCasts_S4096x1_S4096 : FVec Ideal S4096 .f32) := by
  simp only [R.opsHard, TRef.binary, TRef.nullary, TRef.unary, TRef.quaternary, TRef.toBuf, TRef.ofBuf, cast_eq]
  after_results_simp <;> rfl

theorem picks_apply (p : FVec Ideal S4096x2 .f32) (r : Fin 4096) : picks p (ix2 r 1) = if (p (ix2 r 0) : EReal) < p (ix2 r 1) then (1 : EReal) else 0 := by
  unfold picks
  have h := argmax_two p r
  generalize hA : (fun j : S4096.Idx => (Host.argReduce (F := Ideal) reducer_argmax_f32_i32 p (iotaInDim S4096x2 32 1) (constant S_ .f32 0xFF800000#32) (constantI S_ 32 0#32) reducesTo_S4096x2_S4096_d1 h_S_ j).2) = A
  have hA' : A (ix1 r) = if (p (ix2 r 0) : EReal) < p (ix2 r 1) then 1#32 else 0#32 := by rw [← hA]; exact h
  pointwise
  rw [hA']
  split
  · show (((IntOp.cmpi .eq 1#32 1#32 : BitVec 1).toNat : ℝ) : EReal) = 1
    simp [IntOp.cmpi]
  · show (((IntOp.cmpi .eq 0#32 1#32 : BitVec 1).toNat : ℝ) : EReal) = 0
    simp [IntOp.cmpi]

/-- The choice. -/
theorem hard_apply (r : Fin 4096) :
    (after R.opsHard V (Proc.devRef .tc main_v69) : S4096.Idx → EReal) (ix1 r)
      = (if rmat (V (Proc.devRef .tc main_v63)) r 0 < rmat (V (Proc.devRef .tc main_v63)) r 1 then 1 else 0) - rmat (V (Proc.devRef .tc main_v63)) r 1 + rmat (V (Proc.devRef .tc main_v63)) r 1 := by
  have h := picks_apply (V (Proc.devRef .tc main_v63) : FVec Ideal S4096x2 .f32) r
  rw [hard_term]
  generalize picks (V (Proc.devRef .tc main_v63) : FVec Ideal S4096x2 .f32) = A at *
  pointwise
  exact congrArg (fun y : EReal => y - rmat (V (Proc.devRef .tc main_v63)) r 1 + rmat (V (Proc.devRef .tc main_v63)) r 1) h

/-- The ids as the reference looks them up: those below zero moved up by the number of ids. -/
def wraps (w : IVec S1600000 32) : IVec S1600000x1 32 :=
  broadcastInDim S1600000x1 ![0] bcast_S1600000_S1600000x1_0 (select (cmpi .slt w (broadcastInDim S1600000 ![] bcast_S_S1600000 (constantI S_ 32 0#32)))
    (addi w (broadcastInDim S1600000 ![] bcast_S_S1600000 (constantI S_ 32 4096#32))) w)

theorem wraps_apply (w : IVec S1600000 32) (n : Fin 1600000) (h : (w (ix1 n)).toNat < 4096) : wraps w (ix2 n 0) = w (ix1 n) := by
  pointwise [wraps]
  exact Routing.wrap_of_lt _ _ (by omega)

theorem out_term : after R.opsOut V (Proc.devRef .tc main_v77) = (broadcastInDim S1600000x1 ![0] bcast_S1600000_S1600000x1_0 (Host.gather gather_S4096_S1600000x1_S1600000_n_0_n_n_0_1_1 (V (Proc.devRef .tc main_v69) : FVec Ideal S4096 .f32)
    (wraps (V (Proc.devRef .tc main_v12) : S1600000.Idx → BitVec 32))) : FVec Ideal S1600000x1 .f32) := by
  simp only [R.opsOut]
  after_results_simp <;> rfl

/-- Every point the value of its id. -/
theorem out_apply (n : Fin 1600000) (h : ((V (Proc.devRef .tc main_v12) : S1600000.Idx → BitVec 32) (ix1 n)).toNat < 4096) :
    (after R.opsOut V (Proc.devRef .tc main_v77) : S1600000x1.Idx → EReal) (ix2 n 0) = (V (Proc.devRef .tc main_v69) : S4096.Idx → EReal) (ix1 ⟨((V (Proc.devRef .tc main_v12) : S1600000.Idx → BitVec 32) (ix1 n)).toNat, h⟩) := by
  have hw := wraps_apply (V (Proc.devRef .tc main_v12) : S1600000.Idx → BitVec 32) n h
  rw [out_term]
  generalize wraps (V (Proc.devRef .tc main_v12) : S1600000.Idx → BitVec 32) = I at hw ⊢
  have ht := take (V (Proc.devRef .tc main_v69) : FVec Ideal S4096 .f32) I n (by rw [hw]; exact h)
  generalize Host.gather gather_S4096_S1600000x1_S1600000_n_0_n_n_0_1_1 (V (Proc.devRef .tc main_v69) : FVec Ideal S4096 .f32) I = G at ht ⊢
  pointwise
  rw [ht]
  exact congrArg (V (Proc.devRef .tc main_v69) : S4096.Idx → EReal) (congrArg ix1 (Fin.ext (congrArg BitVec.toNat hw)))

end Cert.Proof.V

end
-- ==== Proof.V.RefValue.lean ====
/-
  The reference's result: at every point the value of its id.
-/
module

public import proofs.«01_k».proof.Proof.V.RefMean
public import proofs.«01_k».proof.Proof.V.RefChoice

@[expose] public section

noncomputable section

namespace Cert.Proof.V

open Cert.ReferenceIdeal Cert.ReferenceIdeal.Gen
open Idealize.ShloMosaic Idealize.ShloMosaic.TcCoe Idealize.ShloMosaic.StableHlo

theorem after_append {τ : Topo} {sig : RefSig} {E : EltTy → Type} (a b : List (HloOp τ sig E)) (V : Valuation τ sig E) : after (a ++ b) V = after b (after a V) := by
  induction a generalizing V with
  | nil => rfl
  | cons op a ih => exact ih _

/-- A stretch of the reference writes no argument. -/
theorem keep_in (l : List (HloOp τ sig (Elt Ideal))) (hl : ∀ op ∈ l, op ∈ (R.ops : List (HloOp τ sig (Elt Ideal)))) (V : Valuation τ sig (Elt Ideal)) (b : Ref sig .tc) (hb : b ∈ R.argRefs) :
    after l V (Proc.devRef .tc b) = V (Proc.devRef .tc b) := by
  refine after_of_forall_not_mem (b := Proc.devRef .tc b) _ _ fun op ho => ?_
  obtain ⟨w, hw, e⟩ := R.writes_mem op (hl op ho)
  rw [e, Finset.mem_singleton]
  exact devRef_ne_of_ne (R.argRefs_ne b hb w hw)

variable (m : (ℓ : Loc nD τ sig) → Buf (Elt Ideal) ℓ) (d : Dev nD)

/-- The reference's arguments. -/
def rargs : Args where
  x := rmat (m (d, Proc.devRef .tc main_arg0))
  ids n := (m (d, Proc.devRef .tc main_arg1) : S1600000x1.Idx → BitVec 32) (ix2 n 0)
  w1 := rmat (m (d, Proc.devRef .tc main_arg2))
  b1 := rvec (m (d, Proc.devRef .tc main_arg3))
  w2 := rmat (m (d, Proc.devRef .tc main_arg4))
  b2 := rvec (m (d, Proc.devRef .tc main_arg5))
  w3 := rmat (m (d, Proc.devRef .tc main_arg6))
  b3 := rvec (m (d, Proc.devRef .tc main_arg7))
  w4 := rmat (m (d, Proc.devRef .tc main_arg8))
  b4 := rvec (m (d, Proc.devRef .tc main_arg9))
  w5 := rmat (m (d, Proc.devRef .tc main_arg10))
  b5 := rvec (m (d, Proc.devRef .tc main_arg11))
  w6 := rmat (m (d, Proc.devRef .tc main_arg12))
  b6 := rvec (m (d, Proc.devRef .tc main_arg13))
  u := rmat (m (d, Proc.devRef .tc main_arg14))

/-- The buffers before the run, and after each stretch. -/
abbrev V0 : Valuation τ sig (Elt Ideal) := launchContents m d
abbrev V1 : Valuation τ sig (Elt Ideal) := after R.opsMlp (V0 m d)
abbrev V2 : Valuation τ sig (Elt Ideal) := after R.opsMean (V1 m d)
abbrev V3 : Valuation τ sig (Elt Ideal) := after R.opsLogits (V2 m d)
abbrev V4 : Valuation τ sig (Elt Ideal) := after R.opsSoft (V3 m d)
abbrev V5 : Valuation τ sig (Elt Ideal) := after R.opsHard (V4 m d)

theorem ops_split : after R.ops (V0 m d) = after R.opsOut (V5 m d) := by
  rw [show (R.ops : List (HloOp τ sig (Elt Ideal))) = R.opsMlp ++ (R.opsMean ++ (R.opsLogits ++ (R.opsSoft ++ (R.opsHard ++ R.opsOut)))) from rfl,
    after_append, after_append, after_append, after_append, after_append]

theorem V1_arg (b : Ref sig .tc) (hb : b ∈ R.argRefs) : V1 m d (Proc.devRef .tc b) = m (d, Proc.devRef .tc b) :=
  keep_in R.opsMlp (fun op h => List.mem_append_left _ h) _ b hb
theorem V2_arg (b : Ref sig .tc) (hb : b ∈ R.argRefs) : V2 m d (Proc.devRef .tc b) = m (d, Proc.devRef .tc b) :=
  (keep_in R.opsMean (fun op h => List.mem_append_right _ (List.mem_append_left _ h)) _ b hb).trans (V1_arg m d b hb)
theorem V3_arg (b : Ref sig .tc) (hb : b ∈ R.argRefs) : V3 m d (Proc.devRef .tc b) = m (d, Proc.devRef .tc b) :=
  (keep_in R.opsLogits (fun op h => List.mem_append_right _ (List.mem_append_right _ (List.mem_append_left _ h))) _ b hb).trans (V2_arg m d b hb)

/-- The column of ids the reference keeps is the argument. -/
theorem V5_ids (n : Fin 1600000) : (V5 m d (Proc.devRef .tc main_v12) : S1600000.Idx → BitVec 32) (ix1 n) = (rargs m d).ids n := by
  have h5 : V5 m d (Proc.devRef .tc main_v12) = V4 m d (Proc.devRef .tc main_v12) := by
    unfold V5
    generalize V4 m d = V
    simp only [R.opsHard, TRef.binary, TRef.nullary, TRef.unary, TRef.quaternary, TRef.toBuf, TRef.ofBuf, cast_eq]
    after_results_simp
  have h4 : V4 m d (Proc.devRef .tc main_v12) = V3 m d (Proc.devRef .tc main_v12) := by
    unfold V4
    generalize V3 m d = V
    simp only [R.opsSoft, TRef.binary, TRef.nullary, TRef.unary, TRef.quaternary, TRef.toBuf, TRef.ofBuf, cast_eq]
    after_results_simp
  have h3 : V3 m d (Proc.devRef .tc main_v12) = V2 m d (Proc.devRef .tc main_v12) := by
    unfold V3
    generalize V2 m d = V
    simp only [R.opsLogits, TRef.binary, TRef.nullary, TRef.unary, TRef.quaternary, TRef.toBuf, TRef.ofBuf, cast_eq]
    after_results_simp
  have h2 : V2 m d (Proc.devRef .tc main_v12) = shapeCast S1600000 (V1 m d (Proc.devRef .tc main_arg1) : S1600000x1.Idx → BitVec 32) shapeCasts_S1600000x1_S1600000 := by
    unfold V2
    generalize V1 m d = V
    simp only [R.opsMean]
    after_results_simp <;> rfl
  rw [h5, h4, h3, h2, V1_arg m d main_arg1 (by decide)]
  pointwise [rargs]

theorem V1_feat (n : Fin 1600000) (j : Fin 32) : rmat (V1 m d (Proc.devRef .tc main_v11)) n j = (rargs m d).feat n j := mlp_apply (V0 m d) n j

variable (hid : ∀ n, (rargs m d).id n < 4096)

theorem V1_ids (n : Fin 1600000) : rids (V1 m d) n = (rargs m d).ids n :=
  congrFun (V1_arg m d main_arg1 (by decide)) (ix2 n 0)

include hid in
theorem V2_mean (r : Fin 4096) (j : Fin 32) : rmat (V2 m d (Proc.devRef .tc main_v23)) r j = mean ((rargs m d).sums r j) ((rargs m d).count r) := by
  have e : (fun n => (rids (V1 m d) n).toNat) = (rargs m d).id := funext fun n => congrArg BitVec.toNat (V1_ids m d n)
  have f : (fun n => rmat (V1 m d (Proc.devRef .tc main_v11)) n j) = fun n => (rargs m d).feat n j := funext fun n => V1_feat m d n j
  exact (mean_apply (V1 m d) (fun n => lt_of_eq_of_lt (congrFun e n) (hid n)) r j).trans
    (congrArg₂ mean (congrArg₂ (fun i x => total i x r.val) e f) (congrArg (fun i => total i (fun _ => 1) r.val) e))

include hid in
theorem V3_logits (r : Fin 4096) (j : Fin 2) : rmat (V3 m d (Proc.devRef .tc main_v46)) r j = (rargs m d).logits r j := by
  refine (logits_apply (V2 m d) r j).trans ?_
  rw [V2_arg m d main_arg6 (by decide), V2_arg m d main_arg7 (by decide), V2_arg m d main_arg8 (by decide), V2_arg m d main_arg9 (by decide), V2_arg m d main_arg10 (by decide), V2_arg m d main_arg11 (by decide),
    V2_arg m d main_arg12 (by decide), V2_arg m d main_arg13 (by decide), show rmat (V2 m d (Proc.devRef .tc main_v23)) r = fun j => mean ((rargs m d).sums r j) ((rargs m d).count r) from funext fun j => V2_mean m d hid r j]
  rfl

include hid in
theorem V4_soft (r : Fin 4096) (j : Fin 2) : rmat (V4 m d (Proc.devRef .tc main_v63)) r j = soft (fun j => (rargs m d).logits r j + noise ((rargs m d).u r j)) j := by
  refine (soft_apply (V3 m d) r j).trans (congrArg (fun z => soft z j) (funext fun k => ?_))
  exact congrArg₂ (· + ·) (V3_logits m d hid r k) (congrArg noise (congrFun (V3_arg m d main_arg14 (by decide)) (ix2 r k)))

include hid in
theorem V5_value (r : Fin 4096) : (V5 m d (Proc.devRef .tc main_v69) : S4096.Idx → EReal) (ix1 r) = (rargs m d).value r := by
  refine (hard_apply (V4 m d) r).trans ?_
  rw [V4_soft m d hid, V4_soft m d hid]
  rfl

include hid in
/-- The reference's result at a point. -/
theorem reference_apply (n : Fin 1600000) : (after R.ops (launchContents m d) (Proc.devRef .tc main_v77) : S1600000x1.Idx → EReal) (ix2 n 0) = (rargs m d).value ⟨(rargs m d).id n, hid n⟩ := by
  have hb : ((V5 m d (Proc.devRef .tc main_v12) : S1600000.Idx → BitVec 32) (ix1 n)).toNat < 4096 := by rw [V5_ids]; exact hid n
  rw [ops_split, out_apply (V5 m d) n hb, V5_value m d hid]
  exact congrArg (rargs m d).value (Fin.ext (congrArg BitVec.toNat (V5_ids m d n)))

end Cert.Proof.V

end
-- ==== Proof.V.Value.lean ====
/-
  The kernel's result is the reference's: at every point both are the value of its id.
-/
module

public import proofs.«01_k».proof.Proof.V.Table
public import proofs.«01_k».proof.Proof.V.RefValue

@[expose] public section

noncomputable section

namespace Cert.Proof.V

open Idealize.ShloMosaic Idealize.ShloMosaic.TcCoe Idealize.ShloMosaic.StableHlo

set_option maxRecDepth 16384

section kernel

open Cert.KernelIdeal Cert.KernelIdeal.Gen

variable (m : (ℓ : Loc nD τ sig) → Buf (Elt Ideal) ℓ) (d : Dev nD)

/-- The column of the gathered entries, at a point: the table's row that the point's id names. -/
theorem gathered_apply (t : S4096x1.Idx → EReal) (w : S1600000x1.Idx → BitVec 32) (n : Fin 1600000) (h : (w (ix2 n 0)).toNat < 4096) :
    shapeCast S1600000x1 (KI.gathered (F := Ideal) (shapeCast S4096 t shapeCasts_S4096x1_S4096) (shapeCast S1600000 w shapeCasts_S1600000x1_S1600000))
      shapeCasts_S1600000_S1600000x1 (ix2 n 0) = t (ix2 ⟨(w (ix2 n 0)).toNat, h⟩ 0) := by
  have e : KI.entry (w (ix2 n 0)) = ix1 ⟨(w (ix2 n 0)).toNat, h⟩ := by
    funext a
    obtain rfl : a = 0 := Subsingleton.elim (α := Fin 1) _ _
    exact Fin.ext (Nat.mod_eq_of_lt h)
  have hw : shapeCast S1600000 w shapeCasts_S1600000x1_S1600000 (ix1 n) = w (ix2 n 0) := by pointwise []
  have ht (r : Fin 4096) : shapeCast S4096 t shapeCasts_S4096x1_S4096 (ix1 r) = t (ix2 r 0) := by pointwise []
  have ho (g : S1600000.Idx → EReal) : shapeCast S1600000x1 g shapeCasts_S1600000_S1600000x1 (ix2 n 0) = g (ix1 n) := by pointwise []
  rw [ho]
  unfold KI.gathered
  rw [hw, e, ht]

/-- The kernel's result at a point. -/
theorem kernel_apply (hr : ∀ n, (kargs m d).id n < 4096) (hs : ∀ n n' : Fin 1600000, n ≤ n' → (kargs m d).id n ≤ (kargs m d).id n') (n : Fin 1600000) :
    (KI.W4 m d (Proc.devRef .tc main_v28) : S1600000x1.Idx → EReal) (ix2 n 0) = (kargs m d).value ⟨(kargs m d).id n, hr n⟩ := by
  rw [KI.W4_out]
  exact (gathered_apply _ _ n (hr n)).trans (table_apply m d hr hs _)

end kernel

/-- The reference's result is the kernel's, from the same arguments. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (d : Dev Cert.KernelIdeal.nD) (ha : rargs m' d = kargs m d)
    (hr : ∀ n, (kargs m d).id n < 4096) (hs : ∀ n n' : Fin 1600000, n ≤ n' → (kargs m d).id n ≤ (kargs m d).id n') :
    (after R.ops (launchContents m' d) (Proc.devRef .tc Cert.ReferenceIdeal.main_v77) : Cert.ReferenceIdeal.S1600000x1.Idx → EReal)
      = (KI.W4 m d (Proc.devRef .tc Cert.KernelIdeal.main_v28) : Cert.KernelIdeal.S1600000x1.Idx → EReal) := by
  funext j
  idx_vars j
  obtain rfl : j1 = 0 := Subsingleton.elim (α := Fin 1) _ _
  have h' : ∀ n, (rargs m' d).id n < 4096 := fun n => by rw [ha]; exact hr n
  refine (reference_apply m' d h' j0).trans (Eq.trans ?_ (kernel_apply m d hr hs j0).symm)
  simp only [ha]

end Cert.Proof.V

end
-- ==== Proof.Algebraic.lean ====
/-
  The value claim: over the extended reals the kernel and the reference, run from the same arguments, end with the same result.
-/
module

public import proofs.«01_k».proof.Proof.Sorted
public import proofs.«01_k».proof.Proof.V.Value

@[expose] public section

noncomputable section

namespace Cert.Proof

open Idealize.ShloMosaic Idealize.ShloMosaic.TcCoe Idealize.ShloMosaic.StableHlo Idealize.SL.Sem

/-- Under the precondition the id of a point is at most the id of a later one. -/
theorem ki_sorted (m : (ℓ : Loc Cert.KernelIdeal.nD Cert.KernelIdeal.τ Cert.KernelIdeal.sig) → Buf (Elt Ideal) ℓ) (h : Cert.Pre_KernelIdeal_ids_sorted_in_range m)
    (d : Dev Cert.KernelIdeal.nD) (n n' : Fin 1600000) (hn : n ≤ n') : (V.kargs m d).id n ≤ (V.kargs m d).id n' := by
  obtain ⟨n, hn1⟩ := n
  obtain ⟨n', hn2⟩ := n'
  obtain ⟨k, rfl⟩ := Nat.exists_eq_add_of_le (show n ≤ n' from hn)
  have e (i : ℕ) (hi : i < 1600000) : Pre.pt i hi = ix2 ⟨i, hi⟩ 0 := by
    funext a
    match a with
    | 0 => rfl
    | 1 => rfl
  have := Pre.sorted_of_pre _ _ _ _ _ _ _ _ _ _ _ _ _ _ _ (h d).1 (h d).2 n k hn2
  rw [e, e] at this
  exact this

/-- Equal arguments, read as one record. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h2 : m' (c, Proc.devRef .tc Cert.ReferenceIdeal.main_arg2) = m (c, Proc.devRef .tc Cert.KernelIdeal.main_arg2))
    (h3 : m' (c, Proc.devRef .tc Cert.ReferenceIdeal.main_arg3) = m (c, Proc.devRef .tc Cert.KernelIdeal.main_arg3))
    (h4 : m' (c, Proc.devRef .tc Cert.ReferenceIdeal.main_arg4) = m (c, Proc.devRef .tc Cert.KernelIdeal.main_arg4))
    (h5 : m' (c, Proc.devRef .tc Cert.ReferenceIdeal.main_arg5) = m (c, Proc.devRef .tc Cert.KernelIdeal.main_arg5))
    (h6 : m' (c, Proc.devRef .tc Cert.ReferenceIdeal.main_arg6) = m (c, Proc.devRef .tc Cert.KernelIdeal.main_arg6))
    (h7 : m' (c, Proc.devRef .tc Cert.ReferenceIdeal.main_arg7) = m (c, Proc.devRef .tc Cert.KernelIdeal.main_arg7))
    (h8 : m' (c, Proc.devRef .tc Cert.ReferenceIdeal.main_arg8) = m (c, Proc.devRef .tc Cert.KernelIdeal.main_arg8))
    (h9 : m' (c, Proc.devRef .tc Cert.ReferenceIdeal.main_arg9) = m (c, Proc.devRef .tc Cert.KernelIdeal.main_arg9))
    (h10 : m' (c, Proc.devRef .tc Cert.ReferenceIdeal.main_arg10) = m (c, Proc.devRef .tc Cert.KernelIdeal.main_arg10))
    (h11 : m' (c, Proc.devRef .tc Cert.ReferenceIdeal.main_arg11) = m (c, Proc.devRef .tc Cert.KernelIdeal.main_arg11))
    (h12 : m' (c, Proc.devRef .tc Cert.ReferenceIdeal.main_arg12) = m (c, Proc.devRef .tc Cert.KernelIdeal.main_arg12))
    (h13 : m' (c, Proc.devRef .tc Cert.ReferenceIdeal.main_arg13) = m (c, Proc.devRef .tc Cert.KernelIdeal.main_arg13))
    (h14 : m' (c, Proc.devRef .tc Cert.ReferenceIdeal.main_arg14) = m (c, Proc.devRef .tc Cert.KernelIdeal.main_arg14)) :
    V.rargs m' c = V.kargs m c := by
  unfold V.rargs V.kargs
  rw [h0, h1, h2, h3, h4, h5, h6, h7, h8, h9, h10, h11, h12, h13, h14]
  rfl

theorem algebraic : Cert.algebraic_KernelIdeal_ReferenceIdeal_pre_ids_sorted_in_range := fun m g m' g' hp ha => by
  refine ⟨fun c => KI.W4 m c (Proc.devRef .tc Cert.KernelIdeal.main_v28), (θ_run _ _ _).mono (fun r h c => ⟨h.2.1 c, h.1 c Cert.KernelIdeal.main_arg0 (by decide), h.1 c Cert.KernelIdeal.main_arg1 (by decide), h.1 c Cert.KernelIdeal.main_arg2 (by decide), h.1 c Cert.KernelIdeal.main_arg3 (by decide), h.1 c Cert.KernelIdeal.main_arg4 (by decide), h.1 c Cert.KernelIdeal.main_arg5 (by decide), h.1 c Cert.KernelIdeal.main_arg6 (by decide), h.1 c Cert.KernelIdeal.main_arg7 (by decide), h.1 c Cert.KernelIdeal.main_arg8 (by decide), h.1 c Cert.KernelIdeal.main_arg9 (by decide), h.1 c Cert.KernelIdeal.main_arg10 (by decide), h.1 c Cert.KernelIdeal.main_arg11 (by decide), h.1 c Cert.KernelIdeal.main_arg12 (by decide), h.1 c Cert.KernelIdeal.main_arg13 (by decide), h.1 c Cert.KernelIdeal.main_arg14 (by decide)⟩) (KI.run_ends m g (ki_ids' m hp)),
    (θ_run _ _ _).mono (fun r h c => ⟨(h.2 c).trans ?_, h.1 c Cert.ReferenceIdeal.main_arg0 (by decide), h.1 c Cert.ReferenceIdeal.main_arg1 (by decide), h.1 c Cert.ReferenceIdeal.main_arg2 (by decide), h.1 c Cert.ReferenceIdeal.main_arg3 (by decide), h.1 c Cert.ReferenceIdeal.main_arg4 (by decide), h.1 c Cert.ReferenceIdeal.main_arg5 (by decide), h.1 c Cert.ReferenceIdeal.main_arg6 (by decide), h.1 c Cert.ReferenceIdeal.main_arg7 (by decide), h.1 c Cert.ReferenceIdeal.main_arg8 (by decide), h.1 c Cert.ReferenceIdeal.main_arg9 (by decide), h.1 c Cert.ReferenceIdeal.main_arg10 (by decide), h.1 c Cert.ReferenceIdeal.main_arg11 (by decide), h.1 c Cert.ReferenceIdeal.main_arg12 (by decide), h.1 c Cert.ReferenceIdeal.main_arg13 (by decide), h.1 c Cert.ReferenceIdeal.main_arg14 (by decide)⟩) (R.run_ends m' g')⟩
  obtain ⟨h0, h1, h2, h3, h4, h5, h6, h7, h8, h9, h10, h11, h12, h13, h14⟩ := ha c
  exact V.value_eq m m' c (args_eq m m' c h0 h1 h2 h3 h4 h5 h6 h7 h8 h9 h10 h11 h12 h13 h14) (fun n => ki_ids' m hp c _) (ki_sorted m hp c)

end Cert.Proof

end
-- ==== Proof.lean ====
module

public import proofs.«01_k».proof.Defs
public import proofs.«01_k».proof.Proof.Frames
public import proofs.«01_k».proof.Proof.Sorted
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_ids_in_range.Gen.facts, Cert.Pre_ids_sorted_in_range.Gen.facts, frame_k, frame_ki, frame_ki_sorted, frame_r, frame_r_sorted, trivial, algebraic⟩

end Cert.Proof

end
